-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_heads [hPre_finite_heads : Cert.Pre_finite_heads.Facts] (m : (ℓ : Loc Cert.KernelIdeal.nD Cert.KernelIdeal.τ Cert.KernelIdeal.sig) → Buf (Elt Ideal) ℓ) : Prop :=
  ∀ c : Dev Cert.KernelIdeal.nD,
    (Cert.Pre_finite_heads.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_heads [hPre_finite_heads : Cert.Pre_finite_heads.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_heads.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_window [hPre_finite_window : Cert.Pre_finite_window.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_window.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_window [hPre_finite_window : Cert.Pre_finite_window.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_window.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_heads [hKernelIdeal : Cert.KernelIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_heads m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_heads [hReferenceIdeal : Cert.ReferenceIdeal.Facts] [hPre_finite_heads : Cert.Pre_finite_heads.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_heads m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite_window [hKernel3Ideal : Cert.Kernel3Ideal.Facts] [hPre_finite_window : Cert.Pre_finite_window.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_window m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite_window [hReference3Ideal : Cert.Reference3Ideal.Facts] [hPre_finite_window : Cert.Pre_finite_window.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_window m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_heads [hKernelIdeal : Cert.KernelIdeal.Facts] [hReferenceIdeal : Cert.ReferenceIdeal.Facts] [hPre_finite_heads : Cert.Pre_finite_heads.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_heads m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "rope_step" .f32 0xBF135D8E#32 ((-((Real.log 10000) * 16⁻¹) : ℝ) : EReal)
  ∧ IdealRules.named_const.Statement Cert.Kernel2Ideal.κ "q_scale" .f32 0x3E16C740#32 ((((Real.sqrt 96) * (Real.log 2))⁻¹ : ℝ) : EReal)
  ∧ IdealRules.named_const.Statement Cert.Kernel2Ideal.κ "swa_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)) (v2 : (c : Dev Cert.Kernel2Ideal.nD) → Buf (Elt Ideal) ((c.tc : Thread Cert.Kernel2Ideal.nD Cert.Kernel2Ideal.τ).loc Cert.Kernel2Ideal.main_v36_2)) (v3 : (c : Dev Cert.Kernel2Ideal.nD) → Buf (Elt Ideal) ((c.tc : Thread Cert.Kernel2Ideal.nD Cert.Kernel2Ideal.τ).loc Cert.Kernel2Ideal.main_v36_3)) (v4 : (c : Dev Cert.Kernel2Ideal.nD) → Buf (Elt Ideal) ((c.tc : Thread Cert.Kernel2Ideal.nD Cert.Kernel2Ideal.τ).loc Cert.Kernel2Ideal.main_v36_4)) (v5 : (c : Dev Cert.Kernel2Ideal.nD) → Buf (Elt Ideal) ((c.tc : Thread Cert.Kernel2Ideal.nD Cert.Kernel2Ideal.τ).loc Cert.Kernel2Ideal.main_v36_5)) (v6 : (c : Dev Cert.Kernel2Ideal.nD) → Buf (Elt Ideal) ((c.tc : Thread Cert.Kernel2Ideal.nD Cert.Kernel2Ideal.τ).loc Cert.Kernel2Ideal.main_v36_6)) (v7 : (c : Dev Cert.Kernel2Ideal.nD) → Buf (Elt Ideal) ((c.tc : Thread Cert.Kernel2Ideal.nD Cert.Kernel2Ideal.τ).loc Cert.Kernel2Ideal.main_v36_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_v36_2) = v2 c
          ∧ r.2.mem ((c.tc : Thread Cert.Kernel2Ideal.nD Cert.Kernel2Ideal.τ).loc Cert.Kernel2Ideal.main_v36_3) = v3 c
          ∧ r.2.mem ((c.tc : Thread Cert.Kernel2Ideal.nD Cert.Kernel2Ideal.τ).loc Cert.Kernel2Ideal.main_v36_4) = v4 c
          ∧ r.2.mem ((c.tc : Thread Cert.Kernel2Ideal.nD Cert.Kernel2Ideal.τ).loc Cert.Kernel2Ideal.main_v36_5) = v5 c
          ∧ r.2.mem ((c.tc : Thread Cert.Kernel2Ideal.nD Cert.Kernel2Ideal.τ).loc Cert.Kernel2Ideal.main_v36_6) = v6 c
          ∧ r.2.mem ((c.tc : Thread Cert.Kernel2Ideal.nD Cert.Kernel2Ideal.τ).loc Cert.Kernel2Ideal.main_v36_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v130) = v0 c
          ∧ r.2.mem ((c.tc : Thread Cert.Reference2Ideal.nD Cert.Reference2Ideal.τ).loc Cert.Reference2Ideal.main_v132) = v1 c
          ∧ r.2.mem ((c.tc : Thread Cert.Reference2Ideal.nD Cert.Reference2Ideal.τ).loc Cert.Reference2Ideal.main_v134) = v2 c
          ∧ r.2.mem ((c.tc : Thread Cert.Reference2Ideal.nD Cert.Reference2Ideal.τ).loc Cert.Reference2Ideal.main_v136) = v3 c
          ∧ r.2.mem ((c.tc : Thread Cert.Reference2Ideal.nD Cert.Reference2Ideal.τ).loc Cert.Reference2Ideal.main_v141) = v4 c
          ∧ r.2.mem ((c.tc : Thread Cert.Reference2Ideal.nD Cert.Reference2Ideal.τ).loc Cert.Reference2Ideal.main_v143) = v5 c
          ∧ r.2.mem ((c.tc : Thread Cert.Reference2Ideal.nD Cert.Reference2Ideal.τ).loc Cert.Reference2Ideal.main_v144) = v6 c
          ∧ r.2.mem ((c.tc : Thread Cert.Reference2Ideal.nD Cert.Reference2Ideal.τ).loc Cert.Reference2Ideal.main_v146) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  IdealRules.named_const.Statement Cert.Kernel3Ideal.κ "slope1" .f32 0x3F38AA3B#32 (((2 * (Real.log 2))⁻¹ : ℝ) : EReal)
  ∧ IdealRules.named_const.Statement Cert.Kernel3Ideal.κ "slope2" .f32 0x3EB8AA3B#32 (((4 * (Real.log 2))⁻¹ : ℝ) : EReal)
  ∧ IdealRules.named_const.Statement Cert.Kernel3Ideal.κ "slope3" .f32 0x3E38AA3B#32 (((8 * (Real.log 2))⁻¹ : ℝ) : EReal)
  ∧ IdealRules.named_const.Statement Cert.Kernel3Ideal.κ "slope4" .f32 0x3DB8AA3B#32 (((16 * (Real.log 2))⁻¹ : ℝ) : EReal)
  ∧ IdealRules.named_const.Statement Cert.Kernel3Ideal.κ "log2e" .f32 0x3FB8AA3B#32 (((Real.log 2)⁻¹ : ℝ) : EReal)
  ∧ IdealRules.named_const.Statement Cert.Kernel3Ideal.κ "slope5" .f32 0x3D38AA3B#32 (((32 * (Real.log 2))⁻¹ : ℝ) : EReal)
  ∧ IdealRules.named_const.Statement Cert.Kernel3Ideal.κ "slope6" .f32 0x3CB8AA3B#32 (((64 * (Real.log 2))⁻¹ : ℝ) : EReal)
  ∧ IdealRules.named_const.Statement Cert.Kernel3Ideal.κ "slope7" .f32 0x3C38AA3B#32 (((128 * (Real.log 2))⁻¹ : ℝ) : EReal)
  ∧ IdealRules.named_const.Statement Cert.Kernel3Ideal.κ "slope8" .f32 0x3BB8AA3B#32 (((256 * (Real.log 2))⁻¹ : ℝ) : EReal)
  ∧ IdealRules.named_const.Statement Cert.Kernel3Ideal.κ "mask3" .f32 0xF149F2CA#32 ⊥

def algebraic_Kernel3Ideal_Reference3Ideal_pre_finite_window [hKernel3Ideal : Cert.Kernel3Ideal.Facts] [hReference3Ideal : Cert.Reference3Ideal.Facts] [hPre_finite_window : Cert.Pre_finite_window.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_window m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v24)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_heads : Cert.Pre_finite_heads.Facts) (hPre_finite_window : Cert.Pre_finite_window.Facts),
    quiescent_Kernel (hKernel := hKernel)
    ∧ quiescent_KernelIdeal (hKernelIdeal := hKernelIdeal)
    ∧ quiescent_KernelIdeal_pre_finite_heads (hKernelIdeal := hKernelIdeal) (hPre_finite_heads := hPre_finite_heads)
    ∧ quiescent_ReferenceIdeal (hReferenceIdeal := hReferenceIdeal)
    ∧ quiescent_ReferenceIdeal_pre_finite_heads (hReferenceIdeal := hReferenceIdeal) (hPre_finite_heads := hPre_finite_heads)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_window (hKernel3Ideal := hKernel3Ideal) (hPre_finite_window := hPre_finite_window)
    ∧ quiescent_Reference3Ideal (hReference3Ideal := hReference3Ideal)
    ∧ quiescent_Reference3Ideal_pre_finite_window (hReference3Ideal := hReference3Ideal) (hPre_finite_window := hPre_finite_window)
    ∧ preserves_Kernel_KernelIdeal
    ∧ algebraic_KernelIdeal_ReferenceIdeal_pre_finite_heads (hKernelIdeal := hKernelIdeal) (hReferenceIdeal := hReferenceIdeal) (hPre_finite_heads := hPre_finite_heads)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_window (hKernel3Ideal := hKernel3Ideal) (hReference3Ideal := hReference3Ideal) (hPre_finite_window := hPre_finite_window)
-- ==== Pre_finite_heads.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S32x2048x512 : Shape := ⟨3, ![32, 2048, 512]⟩
abbrev S_ : Shape := ⟨0, ![]⟩

class Facts : Prop where
  bcast_S_S32x2048x8x64 : S_.BroadcastsInDim S32x2048x8x64 (![] : Fin 0 → Fin S32x2048x8x64.rank)
  reducesTo_S32x2048x8x64_S_d0_1_2_3 : S32x2048x8x64.ReducesTo [0, 1, 2, 3] S_
  h_S_ : 0 < S_.numel
  bcast_S_S32x2048x8x32 : S_.BroadcastsInDim S32x2048x8x32 (![] : Fin 0 → Fin S32x2048x8x32.rank)
  reducesTo_S32x2048x8x32_S_d0_1_2_3 : S32x2048x8x32.ReducesTo [0, 1, 2, 3] S_
  bcast_S_S32x2048x32 : S_.BroadcastsInDim S32x2048x32 (![] : Fin 0 → Fin S32x2048x32.rank)
  reducesTo_S32x2048x32_S_d0_1_2 : S32x2048x32.ReducesTo [0, 1, 2] S_

variable [Facts]

def fn_part1 {F : FTy → Type} [FloatOps F] (main_v13 : IVec S_ 1) (main_v16 : IVec S32x2048x32 1) : IVec S_ 1 :=
  let main_c_5 : IVec S_ 1 := constantI S_ 1 1#1
  let main_v17 : IVec S_ 1 := (fun x v => Host.reduce IntOp.andi x v reducesTo_S32x2048x32_S_d0_1_2 h_S_) main_v16 main_c_5
  let main_v18 : IVec S_ 1 := andi main_v13 main_v17
  main_v18

def fn {F : FTy → Type} [FloatOps F] (main_arg0 : FVec F S32x2048x8x64 .f32) (main_arg1 : FVec F S32x2048x8x32 .f32) (main_arg2 : FVec F S32x2048x8x64 .f32) (main_arg3 : FVec F S32x2048x32 .f32) (main_arg4 : FVec F S32x2048x8x64 .f32) (main_arg5 : FVec F S32x2048x512 .f32) : IVec S_ 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_c : IVec S_ 1 := constantI S_ 1 1#1
  let main_v3 : IVec S_ 1 := (fun x v => Host.reduce IntOp.andi x v reducesTo_S32x2048x8x64_S_d0_1_2_3 h_S_) main_v2 main_c
  let main_v4 : FVec F S32x2048x8x32 .f32 := Host.absf main_arg1
  let main_cst_0 : FVec F S_ .f32 := constant S_ .f32 0x7F800000#32
  let main_v5 : FVec F S32x2048x8x32 .f32 := broadcastInDim S32x2048x8x32 ![] bcast_S_S32x2048x8x32 main_cst_0
  let main_v6 : IVec S32x2048x8x32 1 := cmpf .olt main_v4 main_v5
  let main_c_1 : IVec S_ 1 := constantI S_ 1 1#1
  let main_v7 : IVec S_ 1 := (fun x v => Host.reduce IntOp.andi x v reducesTo_S32x2048x8x32_S_d0_1_2_3 h_S_) main_v6 main_c_1
  let main_v8 : IVec S_ 1 := andi main_v3 main_v7
  let main_v9 : FVec F S32x2048x8x64 .f32 := Host.absf main_arg2
  let main_cst_2 : FVec F S_ .f32 := constant S_ .f32 0x7F800000#32
  let main_v10 : FVec F S32x2048x8x64 .f32 := broadcastInDim S32x2048x8x64 ![] bcast_S_S32x2048x8x64 main_cst_2
  let main_v11 : IVec S32x2048x8x64 1 := cmpf .olt main_v9 main_v10
  let main_c_3 : IVec S_ 1 := constantI S_ 1 1#1
  let main_v12 : IVec S_ 1 := (fun x v => Host.reduce IntOp.andi x v reducesTo_S32x2048x8x64_S_d0_1_2_3 h_S_) main_v11 main_c_3
  let main_v13 : IVec S_ 1 := andi main_v8 main_v12
  let main_v14 : FVec F S32x2048x32 .f32 := Host.absf main_arg3
  let main_cst_4 : FVec F S_ .f32 := constant S_ .f32 0x7F800000#32
  let main_v15 : FVec F S32x2048x32 .f32 := broadcastInDim S32x2048x32 ![] bcast_S_S32x2048x32 main_cst_4
  let main_v16 : IVec S32x2048x32 1 := cmpf .olt main_v14 main_v15
  fn_part1 (F := F) main_v13 main_v16
-- ==== Pre_finite_window.lean ====
abbrev S1x8 : Shape := ⟨2, ![1, 8]⟩
abbrev S32x2048x512 : Shape := ⟨3, ![32, 2048, 512]⟩
abbrev S32x2048x128 : Shape := ⟨3, ![32, 2048, 128]⟩
abbrev S32x2048 : Shape := ⟨2, ![32, 2048]⟩
abbrev S32x2048x1024 : Shape := ⟨3, ![32, 2048, 1024]⟩
abbrev S32x3072 : Shape := ⟨2, ![32, 3072]⟩
abbrev S1x1024x1024 : Shape := ⟨3, ![1, 1024, 1024]⟩
abbrev S1024 : Shape := ⟨1, ![1024]⟩
abbrev S_ : Shape := ⟨0, ![]⟩

class Facts : Prop where
  bcast_S_S1x8 : S_.BroadcastsInDim S1x8 (![] : Fin 0 → Fin S1x8.rank)
  reducesTo_S1x8_S_d0_1 : S1x8.ReducesTo [0, 1] S_
  h_S_ : 0 < S_.numel
  bcast_S_S32x2048x512 : S_.BroadcastsInDim S32x2048x512 (![] : Fin 0 → Fin S32x2048x512.rank)
  reducesTo_S32x2048x512_S_d0_1_2 : S32x2048x512.ReducesTo [0, 1, 2] S_
  bcast_S_S32x2048x128 : S_.BroadcastsInDim S32x2048x128 (![] : Fin 0 → Fin S32x2048x128.rank)
  reducesTo_S32x2048x128_S_d0_1_2 : S32x2048x128.ReducesTo [0, 1, 2] S_
  bcast_S_S32x2048 : S_.BroadcastsInDim S32x2048 (![] : Fin 0 → Fin S32x2048.rank)
  reducesTo_S32x2048_S_d0_1 : S32x2048.ReducesTo [0, 1] S_

variable [Facts]

def fn_part1 {F : FTy → Type} [FloatOps F] (main_v13 : IVec S_ 1) (main_v15 : IVec S32x2048 1) (main_c_5 : IVec S_ 1) : IVec S_ 1 :=
  let main_v16 : IVec S_ 1 := (fun x v => Host.reduce IntOp.andi x v reducesTo_S32x2048_S_d0_1 h_S_) main_v15 main_c_5
  let main_v17 : IVec S_ 1 := andi main_v13 main_v16
  main_v17

def fn {F : FTy → Type} [FloatOps F] (main_arg0 : FVec F S1x8 .f32) (main_arg1 : FVec F S32x2048x512 .f32) (main_arg2 : FVec F S32x2048x128 .f32) (main_arg3 : FVec F S32x2048x128 .f32) (main_arg4 : FVec F S32x2048x512 .f32) (main_arg5 : IVec S32x2048 32) (main_arg6 : FVec F S32x2048x512 .f32) (main_arg7 : FVec F S32x2048x1024 .f32) (main_arg8 : FVec F S32x3072 .f32) (main_arg9 : FVec F S1x1024x1024 .f32) (main_arg10 : FVec F S1024 .f32) : IVec S_ 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_c : IVec S_ 1 := constantI S_ 1 1#1
  let main_v3 : IVec S_ 1 := (fun x v => Host.reduce IntOp.andi x v reducesTo_S1x8_S_d0_1 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S32x2048x128 .f32 := Host.absf main_arg2
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  let main_c_4 : IVec S_ 32 := constantI S_ 32 0#32
  let main_v14 : IVec S32x2048 32 := broadcastInDim S32x2048 ![] bcast_S_S32x2048 main_c_4
  let main_v15 : IVec S32x2048 1 := cmpi .sge main_arg5 main_v14
  let main_c_5 : IVec S_ 1 := constantI S_ 1 1#1
  fn_part1 (F := F) main_v13 main_v15 main_c_5
-- ==== Kernel.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S32x2048x512 : Shape := ⟨3, ![32, 2048, 512]⟩
abbrev S_ : Shape := ⟨0, ![]⟩
abbrev S32x2048x8x128 : Shape := ⟨4, ![32, 2048, 8, 128]⟩
abbrev S32x2048x1x32 : Shape := ⟨4, ![32, 2048, 1, 32]⟩
abbrev S32x2048x1024 : Shape := ⟨3, ![32, 2048, 1024]⟩
abbrev S1x2048x512 : Shape := ⟨3, ![1, 2048, 512]⟩
abbrev S1x2048x256 : Shape := ⟨3, ![1, 2048, 256]⟩
abbrev S4x128x2048 : Shape := ⟨3, ![4, 128, 2048]⟩
abbrev S256x256 : Shape := ⟨2, ![256, 256]⟩
abbrev S128x1 : Shape := ⟨2, ![128, 1]⟩
abbrev S1x2048x128 : Shape := ⟨3, ![1, 2048, 128]⟩
abbrev S2048x128 : Shape := ⟨2, ![2048, 128]⟩
abbrev S128x2048 : Shape := ⟨2, ![128, 2048]⟩
abbrev S1x128x2048 : Shape := ⟨3, ![1, 128, 2048]⟩
abbrev S1x256x256 : Shape := ⟨3, ![1, 256, 256]⟩
abbrev S256x128 : Shape := ⟨2, ![256, 128]⟩
abbrev S256 : Shape := ⟨1, ![256]⟩
abbrev S1x256 : Shape := ⟨2, ![1, 256]⟩
abbrev S1x128x256 : Shape := ⟨3, ![1, 128, 256]⟩
abbrev S128x256 : Shape := ⟨2, ![128, 256]⟩
abbrev S64x256 : Shape := ⟨2, ![64, 256]⟩
abbrev S1x256x128 : Shape := ⟨3, ![1, 256, 128]⟩

abbrev nBuf : Space → Nat
  | .hbm => 29
  | .vmem => 11
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S32x2048x512, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S32x2048x8x32, .f32⟩
  | .hbm, ⟨13, _⟩ => ⟨S32x2048x8x128, .f32⟩
  | .hbm, ⟨14, _⟩ => ⟨S32x2048x8x128, .f32⟩
  | .hbm, ⟨15, _⟩ => ⟨S32x2048x8x128, .f32⟩
  | .hbm, ⟨16, _⟩ => ⟨S32x2048x1x32, .f32⟩
  | .hbm, ⟨17, _⟩ => ⟨S32x2048x8x32, .f32⟩
  | .hbm, ⟨18, _⟩ => ⟨S_, .f32⟩
  | .hbm, ⟨19, _⟩ => ⟨S32x2048x8x32, .f32⟩
  | .hbm, ⟨20, _⟩ => ⟨S32x2048x8x128, .f32⟩
  | .hbm, ⟨21, _⟩ => ⟨S32x2048x1024, .f32⟩
  | .hbm, ⟨22, _⟩ => ⟨S32x2048x1024, .bf16⟩
  | .hbm, ⟨23, _⟩ => ⟨S32x2048x1024, .f32⟩
  | .hbm, ⟨24, _⟩ => ⟨S32x2048x1024, .bf16⟩
  | .hbm, ⟨25, _⟩ => ⟨S32x2048x512, .f32⟩
  | .hbm, ⟨26, _⟩ => ⟨S32x2048x512, .bf16⟩
  | .hbm, ⟨27, _⟩ => ⟨S32x2048x512, .bf16⟩
  | .hbm, ⟨28, _⟩ => ⟨S32x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S4x128x2048, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S32x2048x512 : Shape := ⟨3, ![32, 2048, 512]⟩
abbrev S_ : Shape := ⟨0, ![]⟩
abbrev S32x8x2048x2048 : Shape := ⟨4, ![32, 8, 2048, 2048]⟩
abbrev S32x2048x2048x8 : Shape := ⟨4, ![32, 2048, 2048, 8]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x32, .f32⟩
  | .hbm, ⟨2, _⟩ => ⟨S32x2048x8x64, .f32⟩
  | .hbm, ⟨3, _⟩ => ⟨S32x2048x32, .f32⟩
  | .hbm, ⟨4, _⟩ => ⟨S32x2048x8x64, .f32⟩
  | .hbm, ⟨5, _⟩ => ⟨S32x2048x512, .f32⟩
  | .hbm, ⟨6, _⟩ => ⟨S_, .f32⟩
  | .hbm, ⟨7, _⟩ => ⟨S_, .f32⟩
  | .hbm, ⟨8, _⟩ => ⟨S32x8x2048x2048, .f32⟩
  | .hbm, ⟨9, _⟩ => ⟨S32x2048x2048x8, .f32⟩
  | .hbm, ⟨10, _⟩ => ⟨S32x8x2048x2048, .f32⟩
  | .hbm, ⟨11, _⟩ => ⟨S32x8x2048x2048, .f32⟩
  | .hbm, ⟨12, _⟩ => ⟨S32x8x2048x2048, .f32⟩
  | .hbm, ⟨13, _⟩ => ⟨S32x8x2048x2048, .f32⟩
  | .hbm, ⟨14, _⟩ => ⟨S2048, .i32⟩
  | .hbm, ⟨15, _⟩ => ⟨S1x2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S32x8x2048x2048, .i1⟩
  | .hbm, ⟨23, _⟩ => ⟨S32x8x2048x2048, .f32⟩
  | .hbm, ⟨24, _⟩ => ⟨S32x8x2048x2048, .f32⟩
  | .hbm, ⟨25, _⟩ => ⟨S_, .f32⟩
  | .hbm, ⟨26, _⟩ => ⟨S32x8x2048, .f32⟩
  | .hbm, ⟨27, _⟩ => ⟨S_, .f32⟩
  | .hbm, ⟨28, _⟩ => ⟨S32x8x2048, .f32⟩
  | .hbm, ⟨29, _⟩ => ⟨S32x8x2048, .f32⟩
  | .hbm, ⟨30, _⟩ => ⟨S32x8x2048x1, .f32⟩
  | .hbm, ⟨31, _⟩ => ⟨S32x8x2048x2048, .f32⟩
  | .hbm, ⟨32, _⟩ => ⟨S32x8x2048x2048, .f32⟩
  | .hbm, ⟨33, _⟩ => ⟨S32x8x2048x2048, .f32⟩
  | .hbm, ⟨34, _⟩ => ⟨S_, .f32⟩
  | .hbm, ⟨35, _⟩ => ⟨S32x8x2048, .f32⟩
  | .hbm, ⟨36, _⟩ => ⟨S32x8x2048x1, .f32⟩
  | .hbm, ⟨37, _⟩ => ⟨S32x8x2048x2048, .f32⟩
  | .hbm, ⟨38, _⟩ => ⟨S32x8x2048x2048, .f32⟩
  | .hbm, ⟨39, _⟩ => ⟨S32x8x64x2048, .f32⟩
  | .hbm, ⟨40, _⟩ => ⟨S32x2048x8x64, .f32⟩
  | .hbm, ⟨41, _⟩ => ⟨S32x2048x512, .f32⟩
  | .hbm, ⟨42, _⟩ => ⟨S32x2048x512, .f32⟩
  | .hbm, ⟨43, _⟩ => ⟨S32x2048x512, .bf16⟩
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x3072 : Shape := ⟨2, ![32, 3072]⟩
abbrev S32x2048 : Shape := ⟨2, ![32, 2048]⟩
abbrev S1x1024 : Shape := ⟨2, ![1, 1024]⟩
abbrev S1x1024x2464 : Shape := ⟨3, ![1, 1024, 2464]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S1024x2464 : Shape := ⟨2, ![1024, 2464]⟩
abbrev S384x768 : Shape := ⟨2, ![384, 768]⟩
abbrev S256x1024 : Shape := ⟨2, ![256, 1024]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x128 : Shape := ⟨2, ![1024, 128]⟩
abbrev S_ : Shape := ⟨0, ![]⟩
abbrev S1024x64 : Shape := ⟨2, ![1024, 64]⟩
abbrev S1024x16 : Shape := ⟨2, ![1024, 16]⟩
abbrev S1024x2560 : Shape := ⟨2, ![1024, 2560]⟩
abbrev S384x8x96 : Shape := ⟨3, ![384, 8, 96]⟩
abbrev S384x8x32 : Shape := ⟨3, ![384, 8, 32]⟩
abbrev S384x8x16 : Shape := ⟨3, ![384, 8, 16]⟩
abbrev S384x8x128 : Shape := ⟨3, ![384, 8, 128]⟩
abbrev S384x1024 : Shape := ⟨2, ![384, 1024]⟩
abbrev S32x3x1024 : Shape := ⟨3, ![32, 3, 1024]⟩
abbrev S32x1x2048 : Shape := ⟨3, ![32, 1, 2048]⟩
abbrev S1024 : Shape := ⟨1, ![1024]⟩
abbrev S384 : Shape := ⟨1, ![384]⟩
abbrev S256 : Shape := ⟨1, ![256]⟩
abbrev S32x2048x512 : Shape := ⟨3, ![32, 2048, 512]⟩
abbrev S32x2048x256 : Shape := ⟨3, ![32, 2048, 256]⟩
abbrev S32x16x128x128 : Shape := ⟨4, ![32, 16, 128, 128]⟩
abbrev S1x1024x1024 : Shape := ⟨3, ![1, 1024, 1024]⟩
abbrev S1x3x1024 : Shape := ⟨3, ![1, 3, 1024]⟩
abbrev S1x1x1024 : Shape := ⟨3, ![1, 1, 1024]⟩
abbrev S1x1024x512 : Shape := ⟨3, ![1, 1024, 512]⟩
abbrev S1x1024x256 : Shape := ⟨3, ![1, 1024, 256]⟩
abbrev S1x8x128x128 : Shape := ⟨4, ![1, 8, 128, 128]⟩
abbrev S1024x1024 : Shape := ⟨2, ![1024, 1024]⟩
abbrev S3x1024 : Shape := ⟨2, ![3, 1024]⟩
abbrev S1024x1 : Shape := ⟨2, ![1024, 1]⟩
abbrev S16x1 : Shape := ⟨2, ![16, 1]⟩
abbrev S16x1024 : Shape := ⟨2, ![16, 1024]⟩
abbrev S32x1024 : Shape := ⟨2, ![32, 1024]⟩
abbrev S64x1024 : Shape := ⟨2, ![64, 1024]⟩
abbrev S128x1024 : Shape := ⟨2, ![128, 1024]⟩
abbrev S1x1024x128 : Shape := ⟨3, ![1, 1024, 128]⟩
abbrev S1x128 : Shape := ⟨2, ![1, 128]⟩
abbrev S256x256 : Shape := ⟨2, ![256, 256]⟩
abbrev S128x128 : Shape := ⟨2, ![128, 128]⟩
abbrev S1x1x128x128 : Shape := ⟨4, ![1, 1, 128, 128]⟩

abbrev nBuf : Space → Nat
  | .hbm => 54
  | .vmem => 28
  | .smem => 0
  | _ => 0

abbrev bufTy : (tb : Table) → Fin (tcTables nBuf tb) → BufTy
  | .hbm, ⟨0, _⟩ => ⟨S32x2048x1024, .f32⟩
  | .hbm, ⟨1, _⟩ => ⟨S32x3072, .f32⟩
  | .hbm, ⟨2, _⟩ => ⟨S32x2048, .i32⟩
  | .hbm, ⟨3, _⟩ => ⟨S1x1024, .f32⟩
  | .hbm, ⟨4, _⟩ => ⟨S1x1024x2464, .f32⟩
  | .hbm, ⟨5, _⟩ => ⟨S1x384, .f32⟩
  | .hbm, ⟨6, _⟩ => ⟨S1x256, .f32⟩
  | .hbm, ⟨7, _⟩ => ⟨S1x384x768, .f32⟩
  | .hbm, ⟨8, _⟩ => ⟨S1x256x1024, .f32⟩
  | .hbm, ⟨9, _⟩ => ⟨S32x2048, .f32⟩
  | .hbm, ⟨10, _⟩ => ⟨S1024x2464, .f32⟩
  | .hbm, ⟨11, _⟩ => ⟨S384x768, .f32⟩
  | .hbm, ⟨12, _⟩ => ⟨S256x1024, .f32⟩
  | .hbm, ⟨13, _⟩ => ⟨S1024x384, .f32⟩
  | .hbm, ⟨14, _⟩ => ⟨S1024x256, .f32⟩
  | .hbm, ⟨15, _⟩ => ⟨S1024x32, .f32⟩
  | .hbm, ⟨16, _⟩ => ⟨S1024x512, .f32⟩
  | .hbm, ⟨17, _⟩ => ⟨S1024x512, .f32⟩
  | .hbm, ⟨18, _⟩ => ⟨S1024x128, .f32⟩
  | .hbm, ⟨19, _⟩ => ⟨S1024x128, .f32⟩
  | .hbm, ⟨20, _⟩ => ⟨S1024x512, .f32⟩
  | .hbm, ⟨21, _⟩ => ⟨S_, .f32⟩
  | .hbm, ⟨22, _⟩ => ⟨S1024x64, .f32⟩
  | .hbm, ⟨23, _⟩ => ⟨S1024x16, .f32⟩
  | .hbm, ⟨24, _⟩ => ⟨S1024x16, .f32⟩
  | .hbm, ⟨25, _⟩ => ⟨S1024x32, .f32⟩
  | .hbm, ⟨26, _⟩ => ⟨S1024x128, .f32⟩
  | .hbm, ⟨27, _⟩ => ⟨S1024x2560, .f32⟩
  | .hbm, ⟨28, _⟩ => ⟨S1024x2560, .bf16⟩
  | .hbm, ⟨29, _⟩ => ⟨S384x8x96, .f32⟩
  | .hbm, ⟨30, _⟩ => ⟨S384x8x32, .f32⟩
  | .hbm, ⟨31, _⟩ => ⟨S384x8x16, .f32⟩
  | .hbm, ⟨32, _⟩ => ⟨S384x8x16, .f32⟩
  | .hbm, ⟨33, _⟩ => ⟨S384x8x32, .f32⟩
  | .hbm, ⟨34, _⟩ => ⟨S384x8x128, .f32⟩
  | .hbm, ⟨35, _⟩ => ⟨S384x1024, .f32⟩
  | .hbm, ⟨36, _⟩ => ⟨S384x1024, .bf16⟩
  | .hbm, ⟨37, _⟩ => ⟨S256x1024, .bf16⟩
  | .hbm, ⟨38, _⟩ => ⟨S32x3x1024, .f32⟩
  | .hbm, ⟨39, _⟩ => ⟨S32x1x2048, .f32⟩
  | .hbm, ⟨40, _⟩ => ⟨S1024, .f32⟩
  | .hbm, ⟨41, _⟩ => ⟨S1x1024, .f32⟩
  | .hbm, ⟨42, _⟩ => ⟨S384, .f32⟩
  | .hbm, ⟨43, _⟩ => ⟨S1x384, .f32⟩
  | .hbm, ⟨44, _⟩ => ⟨S256, .f32⟩
  | .hbm, ⟨45, _⟩ => ⟨S1x256, .f32⟩
  | .hbm, ⟨46, _⟩ => ⟨S32x2048x1024, .bf16⟩
  | .hbm, ⟨47, _⟩ => ⟨S32x2048x1024, .bf16⟩
  | .hbm, ⟨48, _⟩ => ⟨S32x2048x512, .bf16⟩
  | .hbm, ⟨49, _⟩ => ⟨S32x2048x512, .bf16⟩
  | .hbm, ⟨50, _⟩ => ⟨S32x2048x512, .bf16⟩
  | .hbm, ⟨51, _⟩ => ⟨S32x2048x256, .bf16⟩
  | .hbm, ⟨52, _⟩ => ⟨S32x16x128x128, .bf16⟩
  | .hbm, ⟨53, _⟩ => ⟨S32x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x384, .f32⟩
  | .local _ .vmem, ⟨8, _⟩ => ⟨S1x256, .f32⟩
  | .local _ .vmem, ⟨9, _⟩ => ⟨S1024x2560, .bf16⟩
  | .local _ .vmem, ⟨10, _⟩ => ⟨S384x1024, .bf16⟩
  | .local _ .vmem, ⟨11, _⟩ => ⟨S256x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x256, .bf16⟩
  | .local _ .vmem, ⟨23, _⟩ => ⟨S1x1024x256, .bf16⟩
  | .local _ .vmem, ⟨24, _⟩ => ⟨S1x8x128x128, .bf16⟩
  | .local _ .vmem, ⟨25, _⟩ => ⟨S1x8x128x128, .bf16⟩
  | .local _ .vmem, ⟨26, _⟩ => ⟨S1x1024x512, .bf16⟩
  | .local _ .vmem, ⟨27, _⟩ => ⟨S1x1024x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev main_v36_3 : Ref sig .tc := ⟨.hbm, 49, rfl⟩
abbrev main_v36_4 : Ref sig .tc := ⟨.hbm, 50, rfl⟩
abbrev main_v36_5 : Ref sig .tc := ⟨.hbm, 51, rfl⟩
abbrev main_v36_6 : Ref sig .tc := ⟨.hbm, 52, rfl⟩
abbrev main_v36_7 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x128x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel2Ideal.lean ====
variable {F : FTy → Type} [FloatOps F] [Named F]
def κ : String → Option EReal := fun
  | "q_scale" => some ((((Real.sqrt 96) * (Real.log 2))⁻¹ : ℝ) : EReal)
  | "rope_step" => some ((-((Real.log 10000) * 16⁻¹) : ℝ) : EReal)
  | "swa_scale" => some (((8 * (Real.log 2))⁻¹ : ℝ) : EReal)
  | _ => none
-- ==== Reference2Ideal.lean ====
abbrev S32x2048x1024 : Shape := ⟨3, ![32, 2048, 1024]⟩
abbrev S32x3072 : Shape := ⟨2, ![32, 3072]⟩
abbrev S32x2048 : Shape := ⟨2, ![32, 2048]⟩
abbrev S1x1024 : Shape := ⟨2, ![1, 1024]⟩
abbrev S1x1024x2464 : Shape := ⟨3, ![1, 1024, 2464]⟩
abbrev S1x384 : Shape := ⟨2, ![1, 384]⟩
abbrev S1x256 : Shape := ⟨2, ![1, 256]⟩
abbrev S1x384x768 : Shape := ⟨3, ![1, 384, 768]⟩
abbrev S1x256x1024 : Shape := ⟨3, ![1, 256, 1024]⟩
abbrev S16 : Shape := ⟨1, ![16]⟩
abbrev S_ : Shape := ⟨0, ![]⟩
abbrev S32x2048x1 : Shape := ⟨3, ![32, 2048, 1]⟩
abbrev S1x1x16 : Shape := ⟨3, ![1, 1, 16]⟩
abbrev S32x2048x16 : Shape := ⟨3, ![32, 2048, 16]⟩
abbrev S32x1024 : Shape := ⟨2, ![32, 1024]⟩
abbrev S1024 : Shape := ⟨1, ![1024]⟩
abbrev S1x1x1024 : Shape := ⟨3, ![1, 1, 1024]⟩
abbrev S32x1x1024 : Shape := ⟨3, ![32, 1, 1024]⟩
abbrev S1024x2464 : Shape := ⟨2, ![1024, 2464]⟩
abbrev S32x2048x2464 : Shape := ⟨3, ![32, 2048, 2464]⟩
abbrev S32x2048x384 : Shape := ⟨3, ![32, 2048, 384]⟩
abbrev S32x2048x256 : Shape := ⟨3, ![32, 2048, 256]⟩
abbrev S32x2048x32 : Shape := ⟨3, ![32, 2048, 32]⟩
abbrev S32x2048x512 : Shape := ⟨3, ![32, 2048, 512]⟩
abbrev S32x2048x128 : Shape := ⟨3, ![32, 2048, 128]⟩
abbrev S384 : Shape := ⟨1, ![384]⟩
abbrev S1x1x384 : Shape := ⟨3, ![1, 1, 384]⟩
abbrev S384x768 : Shape := ⟨2, ![384, 768]⟩
abbrev S32x2048x768 : Shape := ⟨3, ![32, 2048, 768]⟩
abbrev S32x2048x8x96 : Shape := ⟨4, ![32, 2048, 8, 96]⟩
abbrev S32x2048x8x64 : Shape := ⟨4, ![32, 2048, 8, 64]⟩
abbrev S32x2048x8x32 : Shape := ⟨4, ![32, 2048, 8, 32]⟩
abbrev S32x2048x1x16 : Shape := ⟨4, ![32, 2048, 1, 16]⟩
abbrev S32x2048x8x16 : Shape := ⟨4, ![32, 2048, 8, 16]⟩
abbrev S256 : Shape := ⟨1, ![256]⟩
abbrev S1x1x256 : Shape := ⟨3, ![1, 1, 256]⟩
abbrev S256x1024 : Shape := ⟨2, ![256, 1024]⟩
abbrev S32x2048x8x128 : Shape := ⟨4, ![32, 2048, 8, 128]⟩
abbrev S32x2048x1x32 : Shape := ⟨4, ![32, 2048, 1, 32]⟩
abbrev S32x2048x2x1x64 : Shape := ⟨5, ![32, 2048, 2, 1, 64]⟩
abbrev S32x2048x2x2x64 : Shape := ⟨5, ![32, 2048, 2, 2, 64]⟩
abbrev S32x16x128x128 : Shape := ⟨4, ![32, 16, 128, 128]⟩

abbrev nBuf : Space → Nat
  | .hbm => 190
  | .vmem => 0
  | .smem => 0
  | _ => 0

abbrev hbmTy0_0 (i : Nat) : BufTy := match i % 128 with
  | 0 => ⟨S32x2048x1024, .f32⟩
  | 1 => ⟨S32x3072, .f32⟩
  | 2 => ⟨S32x2048, .i32⟩
  | 3 => ⟨S1x1024, .f32⟩
  | 4 => ⟨S1x1024x2464, .f32⟩
  | 5 => ⟨S1x384, .f32⟩
  | 6 => ⟨S1x256, .f32⟩
  | 7 => ⟨S1x384x768, .f32⟩
  | 8 => ⟨S1x256x1024, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S32x2048, .f32⟩
  | 24 => ⟨S32x2048x1, .f32⟩
  | 25 => ⟨S1x1x16, .f32⟩
  | 26 => ⟨S32x2048x16, .f32⟩
  | 27 => ⟨S32x2048x16, .f32⟩
  | 28 => ⟨S32x2048x16, .f32⟩
  | 29 => ⟨S32x2048x16, .f32⟩
  | 30 => ⟨S32x2048x16, .f32⟩
  | 31 => ⟨S32x1024, .f32⟩
  | 32 => ⟨S32x1024, .f32⟩
  | 33 => ⟨S32x1024, .f32⟩
  | 34 => ⟨S1024, .f32⟩
  | 35 => ⟨S32x2048x1024, .f32⟩
  | 36 => ⟨S_, .f32⟩
  | 37 => ⟨S32x2048, .f32⟩
  | 38 => ⟨S32x2048x1, .f32⟩
  | 39 => ⟨S_, .f32⟩
  | 40 => ⟨S32x2048x1, .f32⟩
  | 41 => ⟨S32x2048x1, .f32⟩
  | 42 => ⟨S_, .f32⟩
  | 43 => ⟨S32x2048x1, .f32⟩
  | 44 => ⟨S32x2048x1, .f32⟩
  | 45 => ⟨S32x2048x1, .f32⟩
  | 46 => ⟨S32x2048x1024, .f32⟩
  | 47 => ⟨S32x2048x1024, .f32⟩
  | 48 => ⟨S1x1x1024, .f32⟩
  | 49 => ⟨S32x2048x1024, .f32⟩
  | 50 => ⟨S32x2048x1024, .f32⟩
  | 51 => ⟨S32x1x1024, .f32⟩
  | 52 => ⟨S_, .f32⟩
  | 53 => ⟨S32x1x1024, .f32⟩
  | 54 => ⟨S32x1x1024, .f32⟩
  | 55 => ⟨S32x2048x1024, .f32⟩
  | 56 => ⟨S32x2048x1024, .f32⟩
  | 57 => ⟨S32x1x1024, .f32⟩
  | 58 => ⟨S32x2048x1024, .f32⟩
  | 59 => ⟨S32x2048x1024, .f32⟩
  | 60 => ⟨S1024x2464, .f32⟩
  | 61 => ⟨S32x2048x2464, .f32⟩
  | 62 => ⟨S32x2048x384, .f32⟩
  | 63 => ⟨S32x2048x256, .f32⟩
  | 64 => ⟨S32x2048x32, .f32⟩
  | 65 => ⟨S32x2048x512, .f32⟩
  | 66 => ⟨S32x2048x512, .f32⟩
  | 67 => ⟨S32x2048x128, .f32⟩
  | 68 => ⟨S32x2048x128, .f32⟩
  | 69 => ⟨S32x2048x512, .f32⟩
  | 70 => ⟨S384, .f32⟩
  | 71 => ⟨S32x2048x384, .f32⟩
  | 72 => ⟨S_, .f32⟩
  | 73 => ⟨S32x2048, .f32⟩
  | 74 => ⟨S32x2048x1, .f32⟩
  | 75 => ⟨S_, .f32⟩
  | 76 => ⟨S32x2048x1, .f32⟩
  | 77 => ⟨S32x2048x1, .f32⟩
  | 78 => ⟨S_, .f32⟩
  | 79 => ⟨S32x2048x1, .f32⟩
  | 80 => ⟨S32x2048x1, .f32⟩
  | 81 => ⟨S32x2048x1, .f32⟩
  | 82 => ⟨S32x2048x384, .f32⟩
  | 83 => ⟨S32x2048x384, .f32⟩
  | 84 => ⟨S1x1x384, .f32⟩
  | 85 => ⟨S32x2048x384, .f32⟩
  | 86 => ⟨S32x2048x384, .f32⟩
  | 87 => ⟨S384x768, .f32⟩
  | 88 => ⟨S32x2048x768, .f32⟩
  | 89 => ⟨S32x2048x8x96, .f32⟩
  | 90 => ⟨S32x2048x8x64, .f32⟩
  | 91 => ⟨S32x2048x8x32, .f32⟩
  | 92 => ⟨S32x2048x1x16, .f32⟩
  | 93 => ⟨S32x2048x1x16, .f32⟩
  | 94 => ⟨S32x2048x8x16, .f32⟩
  | 95 => ⟨S32x2048x8x16, .f32⟩
  | 96 => ⟨S32x2048x8x16, .f32⟩
  | 97 => ⟨S32x2048x8x16, .f32⟩
  | 98 => ⟨S32x2048x8x16, .f32⟩
  | 99 => ⟨S32x2048x8x16, .f32⟩
  | 100 => ⟨S32x2048x8x16, .f32⟩
  | 101 => ⟨S32x2048x8x16, .f32⟩
  | 102 => ⟨S32x2048x8x16, .f32⟩
  | 103 => ⟨S32x2048x8x16, .f32⟩
  | 104 => ⟨S32x2048x8x16, .f32⟩
  | 105 => ⟨S32x2048x8x16, .f32⟩
  | 106 => ⟨S32x2048x8x32, .f32⟩
  | 107 => ⟨S256, .f32⟩
  | 108 => ⟨S32x2048x256, .f32⟩
  | 109 => ⟨S_, .f32⟩
  | 110 => ⟨S32x2048, .f32⟩
  | 111 => ⟨S32x2048x1, .f32⟩
  | 112 => ⟨S_, .f32⟩
  | 113 => ⟨S32x2048x1, .f32⟩
  | 114 => ⟨S32x2048x1, .f32⟩
  | 115 => ⟨S_, .f32⟩
  | 116 => ⟨S32x2048x1, .f32⟩
  | 117 => ⟨S32x2048x1, .f32⟩
  | 118 => ⟨S32x2048x1, .f32⟩
  | 119 => ⟨S32x2048x256, .f32⟩
  | 120 => ⟨S32x2048x256, .f32⟩
  | 121 => ⟨S1x1x256, .f32⟩
  | 122 => ⟨S32x2048x256, .f32⟩
  | 123 => ⟨S32x2048x256, .f32⟩
  | 124 => ⟨S256x1024, .f32⟩
  | 125 => ⟨S32x2048x1024, .f32⟩
  | 126 => ⟨S32x2048x8x128, .f32⟩
  | 127 => ⟨S32x2048x8x64, .f32⟩
  | _ => ⟨S32x2048x1024, .f32⟩

abbrev hbmTy0_1 (i : Nat) : BufTy := match i % 128 with
  | 0 => ⟨S32x2048x8x64, .f32⟩
  | 1 => ⟨S32x2048x16, .f32⟩
  | 2 => ⟨S32x2048x16, .f32⟩
  | 3 => ⟨S32x2048x16, .f32⟩
  | 4 => ⟨S32x2048x16, .f32⟩
  | 5 => ⟨S32x2048x16, .f32⟩
  | 6 => ⟨S32x2048x16, .f32⟩
  | 7 => ⟨S32x2048x16, .f32⟩
  | 8 => ⟨S32x2048x16, .f32⟩
  | 9 => ⟨S32x2048x32, .f32⟩
  | 10 => ⟨S_, .f32⟩
  | 11 => ⟨S_, .f32⟩
  | 12 => ⟨S_, .f32⟩
  | 13 => ⟨S32x2048x8x32, .f32⟩
  | 14 => ⟨S32x2048x1x32, .f32⟩
  | 15 => ⟨S32x2048x8x32, .f32⟩
  | 16 => ⟨S32x2048x8x128, .f32⟩
  | 17 => ⟨S_, .f32⟩
  | 18 => ⟨S_, .f32⟩
  | 19 => ⟨S_, .f32⟩
  | 20 => ⟨S32x2048x8x128, .f32⟩
  | 21 => ⟨S32x2048x8x128, .f32⟩
  | 22 => ⟨S32x2048x8x128, .f32⟩
  | 23 => ⟨S32x2048x2x1x64, .f32⟩
  | 24 => ⟨S32x2048x2x2x64, .f32⟩
  | 25 => ⟨S32x16x128x128, .f32⟩
  | 26 => ⟨S32x16x128x128, .f32⟩
  | 27 => ⟨S32x2048x1024, .f32⟩
  | 28 => ⟨S32x2048x1024, .bf16⟩
  | 29 => ⟨S32x2048x1024, .f32⟩
  | 30 => ⟨S32x2048x1024, .bf16⟩
  | 31 => ⟨S32x2048x512, .f32⟩
  | 32 => ⟨S32x2048x512, .bf16⟩
  | 33 => ⟨S32x2048x512, .f32⟩
  | 34 => ⟨S32x2048x512, .f32⟩
  | 35 => ⟨S_, .f32⟩
  | 36 => ⟨S32x2048x512, .f32⟩
  | 37 => ⟨S32x2048x512, .f32⟩
  | 38 => ⟨S_, .f32⟩
  | 39 => ⟨S32x2048x512, .f32⟩
  | 40 => ⟨S32x2048x512, .f32⟩
  | 41 => ⟨S32x2048x512, .f32⟩
  | 42 => ⟨S32x2048x512, .bf16⟩
  | 43 => ⟨S_, .f32⟩
  | 44 => ⟨S_, .f32⟩
  | 45 => ⟨S_, .f32⟩
  | 46 => ⟨S32x2048x512, .f32⟩
  | 47 => ⟨S32x2048x512, .f32⟩
  | 48 => ⟨S32x2048x512, .bf16⟩
  | 49 => ⟨S32x2048x256, .f32⟩
  | 50 => ⟨S32x2048x256, .bf16⟩
  | 51 => ⟨S32x16x128x128, .bf16⟩
  | 52 => ⟨S32x2048x512, .f32⟩
  | 53 => ⟨S32x2048x512, .f32⟩
  | 54 => ⟨S_, .f32⟩
  | 55 => ⟨S32x2048x512, .f32⟩
  | 56 => ⟨S32x2048x512, .f32⟩
  | 57 => ⟨S_, .f32⟩
  | 58 => ⟨S32x2048x512, .f32⟩
  | 59 => ⟨S32x2048x512, .f32⟩
  | 60 => ⟨S32x2048x512, .f32⟩
  | 61 => ⟨S32x2048x512, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_10 : Ref sig .tc := ⟨.hbm, 109, rfl⟩
abbrev main_v89 : Ref sig .tc := ⟨.hbm, 110, rfl⟩
abbrev main_v90 : Ref sig .tc := ⟨.hbm, 111, rfl⟩
abbrev main_cst_11 : Ref sig .tc := ⟨.hbm, 112, rfl⟩
abbrev main_v91 : Ref sig .tc := ⟨.hbm, 113, rfl⟩
abbrev main_v92 : Ref sig .tc := ⟨.hbm, 114, rfl⟩
abbrev main_cst_12 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_13 : Ref sig .tc := ⟨.hbm, 138, rfl⟩
abbrev main_v115 : Ref sig .tc := ⟨.hbm, 139, rfl⟩
abbrev main_cst_14 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_cst_15 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call0_v0 : Ref sig .tc := ⟨.hbm, 161, rfl⟩
abbrev main_call0_v1 : Ref sig .tc := ⟨.hbm, 162, rfl⟩
abbrev main_call0_cst : Ref sig .tc := ⟨.hbm, 163, rfl⟩
abbrev main_call0_v2 : Ref sig .tc := ⟨.hbm, 164, rfl⟩
abbrev main_call0_v3 : Ref sig .tc := ⟨.hbm, 165, rfl⟩
abbrev main_call0_cst_0 : Ref sig .tc := ⟨.hbm, 166, rfl⟩
abbrev main_call0_v4 : Ref sig .tc := ⟨.hbm, 167, rfl⟩
abbrev main_call0_v5 : Ref sig .tc := ⟨.hbm, 168, rfl⟩
abbrev main_v135 : Ref sig .tc := ⟨.hbm, 169, rfl⟩
abbrev main_v136 : Ref sig .tc := ⟨.hbm, 170, rfl⟩
abbrev main_cst_16 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_call1_v0 : Ref sig .tc := ⟨.hbm, 180, rfl⟩
abbrev main_call1_v1 : Ref sig .tc := ⟨.hbm, 181, rfl⟩
abbrev main_call1_cst : Ref sig .tc := ⟨.hbm, 182, rfl⟩
abbrev main_call1_v2 : Ref sig .tc := ⟨.hbm, 183, rfl⟩
abbrev main_call1_v3 : Ref sig .tc := ⟨.hbm, 184, rfl⟩
abbrev main_call1_cst_0 : Ref sig .tc := ⟨.hbm, 185, rfl⟩
abbrev main_call1_v4 : Ref sig .tc := ⟨.hbm, 186, rfl⟩
abbrev main_call1_v5 : Ref sig .tc := ⟨.hbm, 187, rfl⟩
abbrev main_v145 : Ref sig .tc := ⟨.hbm, 188, rfl⟩
abbrev main_v146 : Ref sig .tc := ⟨.hbm, 189, rfl⟩

abbrev nD : Nat := 1
abbrev τ : Topo := Topo.v7x

variable {F : FTy → Type} [FloatOps F]
-- ==== Kernel3.lean ====
abbrev S1x8 : Shape := ⟨2, ![1, 8]⟩
abbrev S32x2048x512 : Shape := ⟨3, ![32, 2048, 512]⟩
abbrev S32x2048x128 : Shape := ⟨3, ![32, 2048, 128]⟩
abbrev S32x2048 : Shape := ⟨2, ![32, 2048]⟩
abbrev S32x2048x1024 : Shape := ⟨3, ![32, 2048, 1024]⟩
abbrev S32x3072 : Shape := ⟨2, ![32, 3072]⟩
abbrev S1x1024x1024 : Shape := ⟨3, ![1, 1024, 1024]⟩
abbrev S1024 : Shape := ⟨1, ![1024]⟩
abbrev S_ : Shape := ⟨0, ![]⟩
abbrev S32x2048x2x1x64 : Shape := ⟨5, ![32, 2048, 2, 1, 64]⟩
abbrev S32x2048x2x2x64 : Shape := ⟨5, ![32, 2048, 2, 2, 64]⟩
abbrev S32x16x128x128 : Shape := ⟨4, ![32, 16, 128, 128]⟩
abbrev S1024x1024 : Shape := ⟨2, ![1024, 1024]⟩
abbrev S8 : Shape := ⟨1, ![8]⟩
abbrev S32x2048x256 : Shape := ⟨3, ![32, 2048, 256]⟩
abbrev S32x16x1x128 : Shape := ⟨4, ![32, 16, 1, 128]⟩
abbrev S32x3x1024 : Shape := ⟨3, ![32, 3, 1024]⟩
abbrev S512x1024 : Shape := ⟨2, ![512, 1024]⟩
abbrev S1x1024 : Shape := ⟨2, ![1, 1024]⟩
abbrev S1x2048x512 : Shape := ⟨3, ![1, 2048, 512]⟩
abbrev S1x2048x256 : Shape := ⟨3, ![1, 2048, 256]⟩
abbrev S1x16x128x128 : Shape := ⟨4, ![1, 16, 128, 128]⟩
abbrev S1x16x1x128 : Shape := ⟨4, ![1, 16, 1, 128]⟩
abbrev S1x2048x1024 : Shape := ⟨3, ![1, 2048, 1024]⟩
abbrev S1x3x1024 : Shape := ⟨3, ![1, 3, 1024]⟩
abbrev S2048x512 : Shape := ⟨2, ![2048, 512]⟩
abbrev S1x128 : Shape := ⟨2, ![1, 128]⟩
abbrev S128x128 : Shape := ⟨2, ![128, 128]⟩
abbrev S128x512 : Shape := ⟨2, ![128, 512]⟩
abbrev S1x1x1x128 : Shape := ⟨4, ![1, 1, 1, 128]⟩
abbrev S1x1 : Shape := ⟨2, ![1, 1]⟩
abbrev S1 : Shape := ⟨1, ![1]⟩
abbrev S1x512 : Shape := ⟨2, ![1, 512]⟩
abbrev S1x128x128 : Shape := ⟨3, ![1, 128, 128]⟩
abbrev S512x128 : Shape := ⟨2, ![512, 128]⟩
abbrev S256x128 : Shape := ⟨2, ![256, 128]⟩
abbrev S256x512 : Shape := ⟨2, ![256, 512]⟩
abbrev S512 : Shape := ⟨1, ![512]⟩
abbrev S1x1x64x128 : Shape := ⟨4, ![1, 1, 64, 128]⟩
abbrev S64x128 : Shape := ⟨2, ![64, 128]⟩
abbrev S64x256 : Shape := ⟨2, ![64, 256]⟩
abbrev S64x512 : Shape := ⟨2, ![64, 512]⟩
abbrev S3x1024 : Shape := ⟨2, ![3, 1024]⟩
abbrev S1x256x512 : Shape := ⟨3, ![1, 256, 512]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 38
  | .vmem => 22
  | .smem => 1
  | _ => 0

abbrev bufTy : (tb : Table) → Fin (tcTables nBuf tb) → BufTy
  | .hbm, ⟨0, _⟩ => ⟨S1x8, .f32⟩
  | .hbm, ⟨1, _⟩ => ⟨S32x2048x512, .f32⟩
  | .hbm, ⟨2, _⟩ => ⟨S32x2048x128, .f32⟩
  | .hbm, ⟨3, _⟩ => ⟨S32x2048x128, .f32⟩
  | .hbm, ⟨4, _⟩ => ⟨S32x2048x512, .f32⟩
  | .hbm, ⟨5, _⟩ => ⟨S32x2048, .i32⟩
  | .hbm, ⟨6, _⟩ => ⟨S32x2048x512, .f32⟩
  | .hbm, ⟨7, _⟩ => ⟨S32x2048x1024, .f32⟩
  | .hbm, ⟨8, _⟩ => ⟨S32x3072, .f32⟩
  | .hbm, ⟨9, _⟩ => ⟨S1x1024x1024, .f32⟩
  | .hbm, ⟨10, _⟩ => ⟨S1024, .f32⟩
  | .hbm, ⟨11, _⟩ => ⟨S32x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S32x2048x2x1x64, .f32⟩
  | .hbm, ⟨18, _⟩ => ⟨S32x2048x2x2x64, .f32⟩
  | .hbm, ⟨19, _⟩ => ⟨S32x16x128x128, .f32⟩
  | .hbm, ⟨20, _⟩ => ⟨S32x16x128x128, .f32⟩
  | .hbm, ⟨21, _⟩ => ⟨S1024x1024, .f32⟩
  | .hbm, ⟨22, _⟩ => ⟨S1024x1024, .bf16⟩
  | .hbm, ⟨23, _⟩ => ⟨S8, .f32⟩
  | .hbm, ⟨24, _⟩ => ⟨S32x2048x512, .f32⟩
  | .hbm, ⟨25, _⟩ => ⟨S32x2048x512, .f32⟩
  | .hbm, ⟨26, _⟩ => ⟨S32x2048x512, .bf16⟩
  | .hbm, ⟨27, _⟩ => ⟨S32x2048x256, .f32⟩
  | .hbm, ⟨28, _⟩ => ⟨S32x2048x256, .bf16⟩
  | .hbm, ⟨29, _⟩ => ⟨S32x16x128x128, .bf16⟩
  | .hbm, ⟨30, _⟩ => ⟨S32x2048x512, .bf16⟩
  | .hbm, ⟨31, _⟩ => ⟨S32x16x1x128, .f32⟩
  | .hbm, ⟨32, _⟩ => ⟨S32x2048x512, .bf16⟩
  | .hbm, ⟨33, _⟩ => ⟨S32x3x1024, .f32⟩
  | .hbm, ⟨34, _⟩ => ⟨S512x1024, .bf16⟩
  | .hbm, ⟨35, _⟩ => ⟨S512x1024, .bf16⟩
  | .hbm, ⟨36, _⟩ => ⟨S1x1024, .f32⟩
  | .hbm, ⟨37, _⟩ => ⟨S32x2048x1024, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x16x128x128, .bf16⟩
  | .local _ .vmem, ⟨5, _⟩ => ⟨S1x16x128x128, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x16x1x128, .f32⟩
  | .local _ .vmem, ⟨9, _⟩ => ⟨S1x16x1x128, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x1024, .f32⟩
  | .local _ .vmem, ⟨13, _⟩ => ⟨S1x2048x1024, .f32⟩
  | .local _ .vmem, ⟨14, _⟩ => ⟨S1x3x1024, .f32⟩
  | .local _ .vmem, ⟨15, _⟩ => ⟨S1x3x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x2048x1024, .f32⟩
  | .local _ .vmem, ⟨20, _⟩ => ⟨S1x2048x1024, .f32⟩
  | .local _ .vmem, ⟨21, _⟩ => ⟨S2048x512, .bf16⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![32, 1], ![false, false]⟩

def k0_off1 (i : grid0.Coords) (c0_i32 : BitVec 32) : Fin 4 → Nat :=
  let c0 : Index := 0#32
  let arg1 : BitVec 32 := BitVec.ofNat 32 (i 1).val
  let c16_i32 : BitVec 32 := 16#32
  let v7 : BitVec 32 := Scalar.muli arg1 c16_i32
  let v8 : BitVec 32 := Scalar.addi v7 c0_i32
  let v11 : Index := Scalar.indexCast v8
  let c0_1 : Index := 0#32
  let c0_2 : Index := 0#32
  ![0, v11.toNat, 0, 0]
def k0_off2 (i : grid0.Coords) : Fin 4 → Nat :=
  let c0_3 : Index := 0#32
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let v14 : Index := Scalar.indexCast v10
  let c0_4 : Index := 0#32
  let c0_5 : Index := 0#32
  ![0, v14.toNat, 0, 0]
def k0_mult1 (i : grid0.Coords) : BitVec 32 :=
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let c128_i32 : BitVec 32 := 128#32
  let v84 : BitVec 32 := Scalar.muli v10 c128_i32
  v84
def k0_off3 (i : grid0.Coords) : Fin 3 → Nat :=
  let c0_27 : Index := 0#32
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let c128_i32 : BitVec 32 := 128#32
  let v84 : BitVec 32 := Scalar.muli v10 c128_i32
  let v85 : BitVec 32 := v84
  let v86 : Index := Scalar.indexCast v85
  let c0_28 : Index := 0#32
  ![0, v86.toNat, 0]
def k0_mult2 (i : grid0.Coords) : BitVec 32 :=
  let arg1 : BitVec 32 := BitVec.ofNat 32 (i 1).val
  let c16_i32_6 : BitVec 32 := 16#32
  let v29 : BitVec 32 := Scalar.muli arg1 c16_i32_6
  let c0_i32_7 : BitVec 32 := 0#32
  let v30 : BitVec 32 := Scalar.addi v29 c0_i32_7
  let c128_i32_29 : BitVec 32 := 128#32
  let v89 : BitVec 32 := Scalar.muli v30 c128_i32_29
  v89
def k0_off4 (i : grid0.Coords) (c0_i32_7 : BitVec 32) : Fin 3 → Nat :=
  let c0_30 : Index := 0#32
  let arg1 : BitVec 32 := BitVec.ofNat 32 (i 1).val
  let c16_i32_6 : BitVec 32 := 16#32
  let v29 : BitVec 32 := Scalar.muli arg1 c16_i32_6
  let v30 : BitVec 32 := Scalar.addi v29 c0_i32_7
  let c128_i32_29 : BitVec 32 := 128#32
  let v89 : BitVec 32 := Scalar.muli v30 c128_i32_29
  let v90 : BitVec 32 := v89
  let v91 : Index := Scalar.indexCast v90
  let c0_31 : Index := 0#32
  ![0, v91.toNat, 0]
def k0_mult3 (i : grid0.Coords) : BitVec 32 :=
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let c128_i32_53 : BitVec 32 := 128#32
  let v151 : BitVec 32 := Scalar.muli v10 c128_i32_53
  v151
def k0_off5 (i : grid0.Coords) : Fin 3 → Nat :=
  let c0_54 : Index := 0#32
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let c128_i32_53 : BitVec 32 := 128#32
  let v151 : BitVec 32 := Scalar.muli v10 c128_i32_53
  let v152 : BitVec 32 := v151
  let v153 : Index := Scalar.indexCast v152
  let c128_55 : Index := 128#32
  ![0, v153.toNat, 128]
def k0_mult4 (i : grid0.Coords) : BitVec 32 :=
  let arg1 : BitVec 32 := BitVec.ofNat 32 (i 1).val
  let c16_i32_33 : BitVec 32 := 16#32
  let v96 : BitVec 32 := Scalar.muli arg1 c16_i32_33
  let c0_i32_34 : BitVec 32 := 0#32
  let v97 : BitVec 32 := Scalar.addi v96 c0_i32_34
  let c128_i32_56 : BitVec 32 := 128#32
  let v156 : BitVec 32 := Scalar.muli v97 c128_i32_56
  v156
def k0_off6 (i : grid0.Coords) (c0_i32_34 : BitVec 32) : Fin 3 → Nat :=
  let c0_57 : Index := 0#32
  let arg1 : BitVec 32 := BitVec.ofNat 32 (i 1).val
  let c16_i32_33 : BitVec 32 := 16#32
  let v96 : BitVec 32 := Scalar.muli arg1 c16_i32_33
  let v97 : BitVec 32 := Scalar.addi v96 c0_i32_34
  let c128_i32_56 : BitVec 32 := 128#32
  let v156 : BitVec 32 := Scalar.muli v97 c128_i32_56
  let v157 : BitVec 32 := v156
  let v158 : Index := Scalar.indexCast v157
  let c128_58 : Index := 128#32
  ![0, v158.toNat, 128]
def k0_off7 (i : grid0.Coords) (c1_i32_61 : BitVec 32) : Fin 4 → Nat :=
  let c0_66 : Index := 0#32
  let arg1 : BitVec 32 := BitVec.ofNat 32 (i 1).val
  let c16_i32_60 : BitVec 32 := 16#32
  let v163 : BitVec 32 := Scalar.muli arg1 c16_i32_60
  let v164 : BitVec 32 := Scalar.addi v163 c1_i32_61
  let c1_i32_62 : BitVec 32 := 1#32
  let v165 : BitVec 32 := Scalar.subi v164 c1_i32_62
  let v169 : Index := Scalar.indexCast v165
  let c0_67 : Index := 0#32
  let c0_68 : Index := 0#32
  ![0, v169.toNat, 0, 0]
def k0_mult5 (i : grid0.Coords) : BitVec 32 :=
  let arg1 : BitVec 32 := BitVec.ofNat 32 (i 1).val
  let c16_i32_60 : BitVec 32 := 16#32
  let v163 : BitVec 32 := Scalar.muli arg1 c16_i32_60
  let c1_i32_61 : BitVec 32 := 1#32
  let v164 : BitVec 32 := Scalar.addi v163 c1_i32_61
  let c1_i32_62 : BitVec 32 := 1#32
  let v165 : BitVec 32 := Scalar.subi v164 c1_i32_62
  let c128_i32_95 : BitVec 32 := 128#32
  let v239 : BitVec 32 := Scalar.muli v165 c128_i32_95
  v239
def k0_off8 (i : grid0.Coords) (c1_i32_61 : BitVec 32) : Fin 3 → Nat :=
  let c0_96 : Index := 0#32
  let arg1 : BitVec 32 := BitVec.ofNat 32 (i 1).val
  let c16_i32_60 : BitVec 32 := 16#32
  let v163 : BitVec 32 := Scalar.muli arg1 c16_i32_60
  let v164 : BitVec 32 := Scalar.addi v163 c1_i32_61
  let c1_i32_62 : BitVec 32 := 1#32
  let v165 : BitVec 32 := Scalar.subi v164 c1_i32_62
  let c128_i32_95 : BitVec 32 := 128#32
  let v239 : BitVec 32 := Scalar.muli v165 c128_i32_95
  let v240 : BitVec 32 := v239
  let v241 : Index := Scalar.indexCast v240
  let c0_97 : Index := 0#32
  ![0, v241.toNat, 0]
def k0_mult6 (i : grid0.Coords) : BitVec 32 :=
  let arg1 : BitVec 32 := BitVec.ofNat 32 (i 1).val
  let c16_i32_69 : BitVec 32 := 16#32
  let v184 : BitVec 32 := Scalar.muli arg1 c16_i32_69
  let c1_i32_70 : BitVec 32 := 1#32
  let v185 : BitVec 32 := Scalar.addi v184 c1_i32_70
  let c128_i32_98 : BitVec 32 := 128#32
  let v244 : BitVec 32 := Scalar.muli v185 c128_i32_98
  v244
def k0_mult7 (i : grid0.Coords) : BitVec 32 :=
  let arg1 : BitVec 32 := BitVec.ofNat 32 (i 1).val
  let c16_i32_60 : BitVec 32 := 16#32
  let v163 : BitVec 32 := Scalar.muli arg1 c16_i32_60
  let c1_i32_61 : BitVec 32 := 1#32
  let v164 : BitVec 32 := Scalar.addi v163 c1_i32_61
  let c1_i32_62 : BitVec 32 := 1#32
  let v165 : BitVec 32 := Scalar.subi v164 c1_i32_62
  let c128_i32_128 : BitVec 32 := 128#32
  let v306 : BitVec 32 := Scalar.muli v165 c128_i32_128
  v306
def k0_off9 (i : grid0.Coords) (c1_i32_61 : BitVec 32) : Fin 3 → Nat :=
  let c0_129 : Index := 0#32
  let arg1 : BitVec 32 := BitVec.ofNat 32 (i 1).val
  let c16_i32_60 : BitVec 32 := 16#32
  let v163 : BitVec 32 := Scalar.muli arg1 c16_i32_60
  let v164 : BitVec 32 := Scalar.addi v163 c1_i32_61
  let c1_i32_62 : BitVec 32 := 1#32
  let v165 : BitVec 32 := Scalar.subi v164 c1_i32_62
  let c128_i32_128 : BitVec 32 := 128#32
  let v306 : BitVec 32 := Scalar.muli v165 c128_i32_128
  let v307 : BitVec 32 := v306
  let v308 : Index := Scalar.indexCast v307
  let c128_130 : Index := 128#32
  ![0, v308.toNat, 128]
def k0_mult8 (i : grid0.Coords) : BitVec 32 :=
  let arg1 : BitVec 32 := BitVec.ofNat 32 (i 1).val
  let c16_i32_102 : BitVec 32 := 16#32
  let v251 : BitVec 32 := Scalar.muli arg1 c16_i32_102
  let c1_i32_103 : BitVec 32 := 1#32
  let v252 : BitVec 32 := Scalar.addi v251 c1_i32_103
  let c128_i32_131 : BitVec 32 := 128#32
  let v311 : BitVec 32 := Scalar.muli v252 c128_i32_131
  v311
def k0_off10 (i : grid0.Coords) : Fin 4 → Nat :=
  let c0_140 : Index := 0#32
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let v341 : Index := Scalar.indexCast v10
  let c0_141 : Index := 0#32
  let c0_142 : Index := 0#32
  ![0, v341.toNat, 0, 0]
def k0_off11 (i : grid0.Coords) (c0_i32_7 : BitVec 32) : Fin 4 → Nat :=
  let c0_143 : Index := 0#32
  let arg1 : BitVec 32 := BitVec.ofNat 32 (i 1).val
  let c16_i32_6 : BitVec 32 := 16#32
  let v29 : BitVec 32 := Scalar.muli arg1 c16_i32_6
  let v30 : BitVec 32 := Scalar.addi v29 c0_i32_7
  let v344 : Index := Scalar.indexCast v30
  let c0_144 : Index := 0#32
  let c0_145 : Index := 0#32
  ![0, v344.toNat, 0, 0]
def k0_mult9 (i : grid0.Coords) : BitVec 32 :=
  let arg1 : BitVec 32 := BitVec.ofNat 32 (i 1).val
  let c16_i32_158 : BitVec 32 := 16#32
  let v377 : BitVec 32 := Scalar.muli arg1 c16_i32_158
  let c2_i32 : BitVec 32 := 2#32
  let v378 : BitVec 32 := Scalar.addi v377 c2_i32
  let c1_i32_159 : BitVec 32 := 1#32
  let v379 : BitVec 32 := Scalar.subi v378 c1_i32_159
  let c128_i32_192 : BitVec 32 := 128#32
  let v453 : BitVec 32 := Scalar.muli v379 c128_i32_192
  v453
def k0_mult10 (i : grid0.Coords) : BitVec 32 :=
  let arg1 : BitVec 32 := BitVec.ofNat 32 (i 1).val
  let c16_i32_166 : BitVec 32 := 16#32
  let v398 : BitVec 32 := Scalar.muli arg1 c16_i32_166
  let c2_i32_167 : BitVec 32 := 2#32
  let v399 : BitVec 32 := Scalar.addi v398 c2_i32_167
  let c128_i32_195 : BitVec 32 := 128#32
  let v458 : BitVec 32 := Scalar.muli v399 c128_i32_195
  v458
def k0_off12 (i : grid0.Coords) : Fin 4 → Nat :=
  let c0_204 : Index := 0#32
  let arg1 : BitVec 32 := BitVec.ofNat 32 (i 1).val
  let c16_i32 : BitVec 32 := 16#32
  let v7 : BitVec 32 := Scalar.muli arg1 c16_i32
  let c0_i32 : BitVec 32 := 0#32
  let v8 : BitVec 32 := Scalar.addi v7 c0_i32
  let c1_i32 : BitVec 32 := 1#32
  let v9 : BitVec 32 := Scalar.subi v8 c1_i32
  let c0_i32_0 : BitVec 32 := 0#32
  let v10 : BitVec 32 := Scalar.maxsi v9 c0_i32_0
  let v488 : Index := Scalar.indexCast v10
  let c64 : Index := 64#32
  let c0_205 : Index := 0#32
  ![0, v488.toNat, 64, 0]
def k0_off13 (i : grid0.Coords) (c0_i32_34 : BitVec 32) : Fin 4 → Nat :=
  let c0_206 : Index := 0#32
  let arg1 : BitVec 32 := BitVec.ofNat 32 (i 1).val
  let c16_i32_33 : BitVec 32 := 16#32
  let v96 : BitVec 32 := Scalar.muli arg1 c16_i32_33
  let v97 : BitVec 32 := Scalar.addi v96 c0_i32_34
  let v491 : Index := Scalar.indexCast v97
  let c64_207 : Index := 64#32
  let c0_208 : Index := 0#32
  ![0, v491.toNat, 64, 0]
def k0_mult11 (i : grid0.Coords) : BitVec 32 :=
  let arg1 : BitVec 32 := BitVec.ofNat 32 (i 1).val
  let c16_i32_158 : BitVec 32 := 16#32
  let v377 : BitVec 32 := Scalar.muli arg1 c16_i32_158
  let c2_i32 : BitVec 32 := 2#32
  let v378 : BitVec 32 := Scalar.addi v377 c2_i32
  let c1_i32_159 : BitVec 32 := 1#32
  let v379 : BitVec 32 := Scalar.subi v378 c1_i32_159
  let c128_i32_247 : BitVec 32 := 128#32
  let v579 : BitVec 32 := Scalar.muli v379 c128_i32_247
  v579
def k0_mult12 (i : grid0.Coords) : BitVec 32 :=
  let arg1 : BitVec 32 := BitVec.ofNat 32 (i 1).val
  let c16_i32_221 : BitVec 32 := 16#32
  let v524 : BitVec 32 := Scalar.muli arg1 c16_i32_221
  let c2_i32_222 : BitVec 32 := 2#32
  let v525 : BitVec 32 := Scalar.addi v524 c2_i32_222
  let c128_i32_250 : BitVec 32 := 128#32
  let v584 : BitVec 32 := Scalar.muli v525 c128_i32_250
  v584
def k0_off14 (i : grid0.Coords) (c1_i32_61 : BitVec 32) : Fin 4 → Nat :=
  let c0_257 : Index := 0#32
  let arg1 : BitVec 32 := BitVec.ofNat 32 (i 1).val
  let c16_i32_60 : BitVec 32 := 16#32
  let v163 : BitVec 32 := Scalar.muli arg1 c16_i32_60
  let v164 : BitVec 32 := Scalar.addi v163 c1_i32_61
  let c1_i32_62 : BitVec 32 := 1#32
  let v165 : BitVec 32 := Scalar.subi v164 c1_i32_62
  let v611 : Index := Scalar.indexCast v165
  let c0_258 : Index := 0#32
  let c0_259 : Index := 0#32
  ![0, v611.toNat, 0, 0]
def k0_mult13 (i : grid0.Coords) : BitVec 32 :=
  let arg1 : BitVec 32 := BitVec.ofNat 32 (i 1).val
  let c16_i32_275 : BitVec 32 := 16#32
  let v647 : BitVec 32 := Scalar.muli arg1 c16_i32_275
  let c3_i32 : BitVec 32 := 3#32
  let v648 : BitVec 32 := Scalar.addi v647 c3_i32
  let c1_i32_276 : BitVec 32 := 1#32
  let v649 : BitVec 32 := Scalar.subi v648 c1_i32_276
  let c128_i32_309 : BitVec 32 := 128#32
  let v723 : BitVec 32 := Scalar.muli v649 c128_i32_309
  v723
def k0_mult14 (i : grid0.Coords) : BitVec 32 :=
  let arg1 : BitVec 32 := BitVec.ofNat 32 (i 1).val
  let c16_i32_283 : BitVec 32 := 16#32
  let v668 : BitVec 32 := Scalar.muli arg1 c16_i32_283
  let c3_i32_284 : BitVec 32 := 3#32
  let v669 : BitVec 32 := Scalar.addi v668 c3_i32_284
  let c128_i32_312 : BitVec 32 := 128#32
  let v728 : BitVec 32 := Scalar.muli v669 c128_i32_312
  v728
def k0_off15 (i : grid0.Coords) (c1_i32_61 : BitVec 32) : Fin 4 → Nat :=
  let c0_319 : Index := 0#32
  let arg1 : BitVec 32 := BitVec.ofNat 32 (i 1).val
  let c16_i32_60 : BitVec 32 := 16#32
  let v163 : BitVec 32 := Scalar.muli arg1 c16_i32_60
  let v164 : BitVec 32 := Scalar.addi v163 c1_i32_61
  let c1_i32_62 : BitVec 32 := 1#32
  let v165 : BitVec 32 := Scalar.subi v164 c1_i32_62
  let v755 : Index := Scalar.indexCast v165
  let c64_320 : Index := 64#32
  let c0_321 : Index := 0#32
  ![0, v755.toNat, 64, 0]
def k0_mult15 (i : grid0.Coords) : BitVec 32 :=
  let arg1 : BitVec 32 := BitVec.ofNat 32 (i 1).val
  let c16_i32_275 : BitVec 32 := 16#32
  let v647 : BitVec 32 := Scalar.muli arg1 c16_i32_275
  let c3_i32 : BitVec 32 := 3#32
  let v648 : BitVec 32 := Scalar.addi v647 c3_i32
  let c1_i32_276 : BitVec 32 := 1#32
  let v649 : BitVec 32 := Scalar.subi v648 c1_i32_276
  let c128_i32_363 : BitVec 32 := 128#32
  let v846 : BitVec 32 := Scalar.muli v649 c128_i32_363
  v846
def k0_mult16 (i : grid0.Coords) : BitVec 32 :=
  let arg1 : BitVec 32 := BitVec.ofNat 32 (i 1).val
  let c16_i32_337 : BitVec 32 := 16#32
  let v791 : BitVec 32 := Scalar.muli arg1 c16_i32_337
  let c3_i32_338 : BitVec 32 := 3#32
  let v792 : BitVec 32 := Scalar.addi v791 c3_i32_338
  let c128_i32_366 : BitVec 32 := 128#32
  let v851 : BitVec 32 := Scalar.muli v792 c128_i32_366
  v851
def k0_mult17 (i : grid0.Coords) : BitVec 32 :=
  let arg1 : BitVec 32 := BitVec.ofNat 32 (i 1).val
  let c16_i32_391 : BitVec 32 := 16#32
  let v914 : BitVec 32 := Scalar.muli arg1 c16_i32_391
  let c4_i32 : BitVec 32 := 4#32
  let v915 : BitVec 32 := Scalar.addi v914 c4_i32
  let c1_i32_392 : BitVec 32 := 1#32
  let v916 : BitVec 32 := Scalar.subi v915 c1_i32_392
  let c128_i32_424 : BitVec 32 := 128#32
  let v990 : BitVec 32 := Scalar.muli v916 c128_i32_424
  v990
def k0_mult18 (i : grid0.Coords) : BitVec 32 :=
  let arg1 : BitVec 32 := BitVec.ofNat 32 (i 1).val
  let c16_i32_399 : BitVec 32 := 16#32
  let v935 : BitVec 32 := Scalar.muli arg1 c16_i32_399
  let c4_i32_400 : BitVec 32 := 4#32
  let v936 : BitVec 32 := Scalar.addi v935 c4_i32_400
  let c128_i32_427 : BitVec 32 := 128#32
  let v995 : BitVec 32 := Scalar.muli v936 c128_i32_427
  v995
def k0_mult19 (i : grid0.Coords) : BitVec 32 :=
  let arg1 : BitVec 32 := BitVec.ofNat 32 (i 1).val
  let c16_i32_391 : BitVec 32 := 16#32
  let v914 : BitVec 32 := Scalar.muli arg1 c16_i32_391
  let c4_i32 : BitVec 32 := 4#32
  let v915 : BitVec 32 := Scalar.addi v914 c4_i32
  let c1_i32_392 : BitVec 32 := 1#32
  let v916 : BitVec 32 := Scalar.subi v915 c1_i32_392
  let c128_i32_478 : BitVec 32 := 128#32
  let v1113 : BitVec 32 := Scalar.muli v916 c128_i32_478
  v1113
def k0_mult20 (i : grid0.Coords) : BitVec 32 :=
  let arg1 : BitVec 32 := BitVec.ofNat 32 (i 1).val
  let c16_i32_452 : BitVec 32 := 16#32
  let v1058 : BitVec 32 := Scalar.muli arg1 c16_i32_452
  let c4_i32_453 : BitVec 32 := 4#32
  let v1059 : BitVec 32 := Scalar.addi v1058 c4_i32_453
  let c128_i32_481 : BitVec 32 := 128#32
  let v1118 : BitVec 32 := Scalar.muli v1059 c128_i32_481
  v1118
def k0_mult21 (i : grid0.Coords) : BitVec 32 :=
  let arg1 : BitVec 32 := BitVec.ofNat 32 (i 1).val
  let c16_i32_506 : BitVec 32 := 16#32
  let v1181 : BitVec 32 := Scalar.muli arg1 c16_i32_506
  let c5_i32 : BitVec 32 := 5#32
  let v1182 : BitVec 32 := Scalar.addi v1181 c5_i32
  let c1_i32_507 : BitVec 32 := 1#32
  let v1183 : BitVec 32 := Scalar.subi v1182 c1_i32_507
  let c128_i32_539 : BitVec 32 := 128#32
  let v1257 : BitVec 32 := Scalar.muli v1183 c128_i32_539
  v1257
def k0_mult22 (i : grid0.Coords) : BitVec 32 :=
  let arg1 : BitVec 32 := BitVec.ofNat 32 (i 1).val
  let c16_i32_514 : BitVec 32 := 16#32
  let v1202 : BitVec 32 := Scalar.muli arg1 c16_i32_514
  let c5_i32_515 : BitVec 32 := 5#32
  let v1203 : BitVec 32 := Scalar.addi v1202 c5_i32_515
  let c128_i32_542 : BitVec 32 := 128#32
  let v1262 : BitVec 32 := Scalar.muli v1203 c128_i32_542
  v1262
def k0_mult23 (i : grid0.Coords) : BitVec 32 :=
  let arg1 : BitVec 32 := BitVec.ofNat 32 (i 1).val
  let c16_i32_506 : BitVec 32 := 16#32
  let v1181 : BitVec 32 := Scalar.muli arg1 c16_i32_506
  let c5_i32 : BitVec 32 := 5#32
  let v1182 : BitVec 32 := Scalar.addi v1181 c5_i32
  let c1_i32_507 : BitVec 32 := 1#32
  let v1183 : BitVec 32 := Scalar.subi v1182 c1_i32_507
  let c128_i32_593 : BitVec 32 := 128#32
  let v1380 : BitVec 32 := Scalar.muli v1183 c128_i32_593
  v1380
def k0_mult24 (i : grid0.Coords) : BitVec 32 :=
  let arg1 : BitVec 32 := BitVec.ofNat 32 (i 1).val
  let c16_i32_567 : BitVec 32 := 16#32
  let v1325 : BitVec 32 := Scalar.muli arg1 c16_i32_567
  let c5_i32_568 : BitVec 32 := 5#32
  let v1326 : BitVec 32 := Scalar.addi v1325 c5_i32_568
  let c128_i32_596 : BitVec 32 := 128#32
  let v1385 : BitVec 32 := Scalar.muli v1326 c128_i32_596
  v1385
def k0_mult25 (i : grid0.Coords) : BitVec 32 :=
  let arg1 : BitVec 32 := BitVec.ofNat 32 (i 1).val
  let c16_i32_621 : BitVec 32 := 16#32
  let v1448 : BitVec 32 := Scalar.muli arg1 c16_i32_621
  let c6_i32 : BitVec 32 := 6#32
  let v1449 : BitVec 32 := Scalar.addi v1448 c6_i32
  let c1_i32_622 : BitVec 32 := 1#32
  let v1450 : BitVec 32 := Scalar.subi v1449 c1_i32_622
  let c128_i32_654 : BitVec 32 := 128#32
  let v1524 : BitVec 32 := Scalar.muli v1450 c128_i32_654
  v1524
def k0_mult26 (i : grid0.Coords) : BitVec 32 :=
  let arg1 : BitVec 32 := BitVec.ofNat 32 (i 1).val
  let c16_i32_629 : BitVec 32 := 16#32
  let v1469 : BitVec 32 := Scalar.muli arg1 c16_i32_629
  let c6_i32_630 : BitVec 32 := 6#32
  let v1470 : BitVec 32 := Scalar.addi v1469 c6_i32_630
  let c128_i32_657 : BitVec 32 := 128#32
  let v1529 : BitVec 32 := Scalar.muli v1470 c128_i32_657
  v1529
def k0_mult27 (i : grid0.Coords) : BitVec 32 :=
  let arg1 : BitVec 32 := BitVec.ofNat 32 (i 1).val
  let c16_i32_621 : BitVec 32 := 16#32
  let v1448 : BitVec 32 := Scalar.muli arg1 c16_i32_621
  let c6_i32 : BitVec 32 := 6#32
  let v1449 : BitVec 32 := Scalar.addi v1448 c6_i32
  let c1_i32_622 : BitVec 32 := 1#32
  let v1450 : BitVec 32 := Scalar.subi v1449 c1_i32_622
  let c128_i32_708 : BitVec 32 := 128#32
  let v1647 : BitVec 32 := Scalar.muli v1450 c128_i32_708
  v1647
def k0_mult28 (i : grid0.Coords) : BitVec 32 :=
  let arg1 : BitVec 32 := BitVec.ofNat 32 (i 1).val
  let c16_i32_682 : BitVec 32 := 16#32
  let v1592 : BitVec 32 := Scalar.muli arg1 c16_i32_682
  let c6_i32_683 : BitVec 32 := 6#32
  let v1593 : BitVec 32 := Scalar.addi v1592 c6_i32_683
  let c128_i32_711 : BitVec 32 := 128#32
  let v1652 : BitVec 32 := Scalar.muli v1593 c128_i32_711
  v1652
def k0_mult29 (i : grid0.Coords) : BitVec 32 :=
  let arg1 : BitVec 32 := BitVec.ofNat 32 (i 1).val
  let c16_i32_736 : BitVec 32 := 16#32
  let v1715 : BitVec 32 := Scalar.muli arg1 c16_i32_736
  let c7_i32 : BitVec 32 := 7#32
  let v1716 : BitVec 32 := Scalar.addi v1715 c7_i32
  let c1_i32_737 : BitVec 32 := 1#32
  let v1717 : BitVec 32 := Scalar.subi v1716 c1_i32_737
  let c128_i32_769 : BitVec 32 := 128#32
  let v1791 : BitVec 32 := Scalar.muli v1717 c128_i32_769
  v1791
def k0_mult30 (i : grid0.Coords) : BitVec 32 :=
  let arg1 : BitVec 32 := BitVec.ofNat 32 (i 1).val
  let c16_i32_744 : BitVec 32 := 16#32
  let v1736 : BitVec 32 := Scalar.muli arg1 c16_i32_744
  let c7_i32_745 : BitVec 32 := 7#32
  let v1737 : BitVec 32 := Scalar.addi v1736 c7_i32_745
  let c128_i32_772 : BitVec 32 := 128#32
  let v1796 : BitVec 32 := Scalar.muli v1737 c128_i32_772
  v1796
def k0_mult31 (i : grid0.Coords) : BitVec 32 :=
  let arg1 : BitVec 32 := BitVec.ofNat 32 (i 1).val
  let c16_i32_736 : BitVec 32 := 16#32
  let v1715 : BitVec 32 := Scalar.muli arg1 c16_i32_736
  let c7_i32 : BitVec 32 := 7#32
  let v1716 : BitVec 32 := Scalar.addi v1715 c7_i32
  let c1_i32_737 : BitVec 32 := 1#32
  let v1717 : BitVec 32 := Scalar.subi v1716 c1_i32_737
  let c128_i32_823 : BitVec 32 := 128#32
  let v1914 : BitVec 32 := Scalar.muli v1717 c128_i32_823
  v1914
def k0_mult32 (i : grid0.Coords) : BitVec 32 :=
  let arg1 : BitVec 32 := BitVec.ofNat 32 (i 1).val
  let c16_i32_797 : BitVec 32 := 16#32
  let v1859 : BitVec 32 := Scalar.muli arg1 c16_i32_797
  let c7_i32_798 : BitVec 32 := 7#32
  let v1860 : BitVec 32 := Scalar.addi v1859 c7_i32_798
  let c128_i32_826 : BitVec 32 := 128#32
  let v1919 : BitVec 32 := Scalar.muli v1860 c128_i32_826
  v1919
def k0_mult33 (i : grid0.Coords) : BitVec 32 :=
  let arg1 : BitVec 32 := BitVec.ofNat 32 (i 1).val
  let c16_i32_851 : BitVec 32 := 16#32
  let v1982 : BitVec 32 := Scalar.muli arg1 c16_i32_851
  let c8_i32 : BitVec 32 := 8#32
  let v1983 : BitVec 32 := Scalar.addi v1982 c8_i32
  let c1_i32_852 : BitVec 32 := 1#32
  let v1984 : BitVec 32 := Scalar.subi v1983 c1_i32_852
  let c128_i32_884 : BitVec 32 := 128#32
  let v2058 : BitVec 32 := Scalar.muli v1984 c128_i32_884
  v2058
def k0_mult34 (i : grid0.Coords) : BitVec 32 :=
  let arg1 : BitVec 32 := BitVec.ofNat 32 (i 1).val
  let c16_i32_859 : BitVec 32 := 16#32
  let v2003 : BitVec 32 := Scalar.muli arg1 c16_i32_859
  let c8_i32_860 : BitVec 32 := 8#32
  let v2004 : BitVec 32 := Scalar.addi v2003 c8_i32_860
  let c128_i32_887 : BitVec 32 := 128#32
  let v2063 : BitVec 32 := Scalar.muli v2004 c128_i32_887
  v2063
def k0_mult35 (i : grid0.Coords) : BitVec 32 :=
  let arg1 : BitVec 32 := BitVec.ofNat 32 (i 1).val
  let c16_i32_851 : BitVec 32 := 16#32
  let v1982 : BitVec 32 := Scalar.muli arg1 c16_i32_851
  let c8_i32 : BitVec 32 := 8#32
  let v1983 : BitVec 32 := Scalar.addi v1982 c8_i32
  let c1_i32_852 : BitVec 32 := 1#32
  let v1984 : BitVec 32 := Scalar.subi v1983 c1_i32_852
  let c128_i32_938 : BitVec 32 := 128#32
  let v2181 : BitVec 32 := Scalar.muli v1984 c128_i32_938
  v2181
def k0_mult36 (i : grid0.Coords) : BitVec 32 :=
  let arg1 : BitVec 32 := BitVec.ofNat 32 (i 1).val
  let c16_i32_912 : BitVec 32 := 16#32
  let v2126 : BitVec 32 := Scalar.muli arg1 c16_i32_912
  let c8_i32_913 : BitVec 32 := 8#32
  let v2127 : BitVec 32 := Scalar.addi v2126 c8_i32_913
  let c128_i32_941 : BitVec 32 := 128#32
  let v2186 : BitVec 32 := Scalar.muli v2127 c128_i32_941
  v2186
def k0_mult37 (i : grid0.Coords) : BitVec 32 :=
  let arg1 : BitVec 32 := BitVec.ofNat 32 (i 1).val
  let c16_i32_966 : BitVec 32 := 16#32
  let v2249 : BitVec 32 := Scalar.muli arg1 c16_i32_966
  let c9_i32 : BitVec 32 := 9#32
  let v2250 : BitVec 32 := Scalar.addi v2249 c9_i32
  let c1_i32_967 : BitVec 32 := 1#32
  let v2251 : BitVec 32 := Scalar.subi v2250 c1_i32_967
  let c128_i32_999 : BitVec 32 := 128#32
  let v2325 : BitVec 32 := Scalar.muli v2251 c128_i32_999
  v2325
def k0_mult38 (i : grid0.Coords) : BitVec 32 :=
  let arg1 : BitVec 32 := BitVec.ofNat 32 (i 1).val
  let c16_i32_974 : BitVec 32 := 16#32
  let v2270 : BitVec 32 := Scalar.muli arg1 c16_i32_974
  let c9_i32_975 : BitVec 32 := 9#32
  let v2271 : BitVec 32 := Scalar.addi v2270 c9_i32_975
  let c128_i32_1002 : BitVec 32 := 128#32
  let v2330 : BitVec 32 := Scalar.muli v2271 c128_i32_1002
  v2330
def k0_mult39 (i : grid0.Coords) : BitVec 32 :=
  let arg1 : BitVec 32 := BitVec.ofNat 32 (i 1).val
  let c16_i32_966 : BitVec 32 := 16#32
  let v2249 : BitVec 32 := Scalar.muli arg1 c16_i32_966
  let c9_i32 : BitVec 32 := 9#32
  let v2250 : BitVec 32 := Scalar.addi v2249 c9_i32
  let c1_i32_967 : BitVec 32 := 1#32
  let v2251 : BitVec 32 := Scalar.subi v2250 c1_i32_967
  let c128_i32_1053 : BitVec 32 := 128#32
  let v2448 : BitVec 32 := Scalar.muli v2251 c128_i32_1053
  v2448
def k0_mult40 (i : grid0.Coords) : BitVec 32 :=
  let arg1 : BitVec 32 := BitVec.ofNat 32 (i 1).val
  let c16_i32_1027 : BitVec 32 := 16#32
  let v2393 : BitVec 32 := Scalar.muli arg1 c16_i32_1027
  let c9_i32_1028 : BitVec 32 := 9#32
  let v2394 : BitVec 32 := Scalar.addi v2393 c9_i32_1028
  let c128_i32_1056 : BitVec 32 := 128#32
  let v2453 : BitVec 32 := Scalar.muli v2394 c128_i32_1056
  v2453
def k0_mult41 (i : grid0.Coords) : BitVec 32 :=
  let arg1 : BitVec 32 := BitVec.ofNat 32 (i 1).val
  let c16_i32_1081 : BitVec 32 := 16#32
  let v2516 : BitVec 32 := Scalar.muli arg1 c16_i32_1081
  let c10_i32 : BitVec 32 := 10#32
  let v2517 : BitVec 32 := Scalar.addi v2516 c10_i32
  let c1_i32_1082 : BitVec 32 := 1#32
  let v2518 : BitVec 32 := Scalar.subi v2517 c1_i32_1082
  let c128_i32_1114 : BitVec 32 := 128#32
  let v2592 : BitVec 32 := Scalar.muli v2518 c128_i32_1114
  v2592
def k0_mult42 (i : grid0.Coords) : BitVec 32 :=
  let arg1 : BitVec 32 := BitVec.ofNat 32 (i 1).val
  let c16_i32_1089 : BitVec 32 := 16#32
  let v2537 : BitVec 32 := Scalar.muli arg1 c16_i32_1089
  let c10_i32_1090 : BitVec 32 := 10#32
  let v2538 : BitVec 32 := Scalar.addi v2537 c10_i32_1090
  let c128_i32_1117 : BitVec 32 := 128#32
  let v2597 : BitVec 32 := Scalar.muli v2538 c128_i32_1117
  v2597
def k0_mult43 (i : grid0.Coords) : BitVec 32 :=
  let arg1 : BitVec 32 := BitVec.ofNat 32 (i 1).val
  let c16_i32_1081 : BitVec 32 := 16#32
  let v2516 : BitVec 32 := Scalar.muli arg1 c16_i32_1081
  let c10_i32 : BitVec 32 := 10#32
  let v2517 : BitVec 32 := Scalar.addi v2516 c10_i32
  let c1_i32_1082 : BitVec 32 := 1#32
  let v2518 : BitVec 32 := Scalar.subi v2517 c1_i32_1082
  let c128_i32_1168 : BitVec 32 := 128#32
  let v2715 : BitVec 32 := Scalar.muli v2518 c128_i32_1168
  v2715
def k0_mult44 (i : grid0.Coords) : BitVec 32 :=
  let arg1 : BitVec 32 := BitVec.ofNat 32 (i 1).val
  let c16_i32_1142 : BitVec 32 := 16#32
  let v2660 : BitVec 32 := Scalar.muli arg1 c16_i32_1142
  let c10_i32_1143 : BitVec 32 := 10#32
  let v2661 : BitVec 32 := Scalar.addi v2660 c10_i32_1143
  let c128_i32_1171 : BitVec 32 := 128#32
  let v2720 : BitVec 32 := Scalar.muli v2661 c128_i32_1171
  v2720
def k0_mult45 (i : grid0.Coords) : BitVec 32 :=
  let arg1 : BitVec 32 := BitVec.ofNat 32 (i 1).val
  let c16_i32_1196 : BitVec 32 := 16#32
  let v2783 : BitVec 32 := Scalar.muli arg1 c16_i32_1196
  let c11_i32 : BitVec 32 := 11#32
  let v2784 : BitVec 32 := Scalar.addi v2783 c11_i32
  let c1_i32_1197 : BitVec 32 := 1#32
  let v2785 : BitVec 32 := Scalar.subi v2784 c1_i32_1197
  let c128_i32_1229 : BitVec 32 := 128#32
  let v2859 : BitVec 32 := Scalar.muli v2785 c128_i32_1229
  v2859
def k0_mult46 (i : grid0.Coords) : BitVec 32 :=
  let arg1 : BitVec 32 := BitVec.ofNat 32 (i 1).val
  let c16_i32_1204 : BitVec 32 := 16#32
  let v2804 : BitVec 32 := Scalar.muli arg1 c16_i32_1204
  let c11_i32_1205 : BitVec 32 := 11#32
  let v2805 : BitVec 32 := Scalar.addi v2804 c11_i32_1205
  let c128_i32_1232 : BitVec 32 := 128#32
  let v2864 : BitVec 32 := Scalar.muli v2805 c128_i32_1232
  v2864
def k0_mult47 (i : grid0.Coords) : BitVec 32 :=
  let arg1 : BitVec 32 := BitVec.ofNat 32 (i 1).val
  let c16_i32_1196 : BitVec 32 := 16#32
  let v2783 : BitVec 32 := Scalar.muli arg1 c16_i32_1196
  let c11_i32 : BitVec 32 := 11#32
  let v2784 : BitVec 32 := Scalar.addi v2783 c11_i32
  let c1_i32_1197 : BitVec 32 := 1#32
  let v2785 : BitVec 32 := Scalar.subi v2784 c1_i32_1197
  let c128_i32_1283 : BitVec 32 := 128#32
  let v2982 : BitVec 32 := Scalar.muli v2785 c128_i32_1283
  v2982
def k0_mult48 (i : grid0.Coords) : BitVec 32 :=
  let arg1 : BitVec 32 := BitVec.ofNat 32 (i 1).val
  let c16_i32_1257 : BitVec 32 := 16#32
  let v2927 : BitVec 32 := Scalar.muli arg1 c16_i32_1257
  let c11_i32_1258 : BitVec 32 := 11#32
  let v2928 : BitVec 32 := Scalar.addi v2927 c11_i32_1258
  let c128_i32_1286 : BitVec 32 := 128#32
  let v2987 : BitVec 32 := Scalar.muli v2928 c128_i32_1286
  v2987
def k0_mult49 (i : grid0.Coords) : BitVec 32 :=
  let arg1 : BitVec 32 := BitVec.ofNat 32 (i 1).val
  let c16_i32_1311 : BitVec 32 := 16#32
  let v3050 : BitVec 32 := Scalar.muli arg1 c16_i32_1311
  let c12_i32 : BitVec 32 := 12#32
  let v3051 : BitVec 32 := Scalar.addi v3050 c12_i32
  let c1_i32_1312 : BitVec 32 := 1#32
  let v3052 : BitVec 32 := Scalar.subi v3051 c1_i32_1312
  let c128_i32_1344 : BitVec 32 := 128#32
  let v3126 : BitVec 32 := Scalar.muli v3052 c128_i32_1344
  v3126
def k0_mult50 (i : grid0.Coords) : BitVec 32 :=
  let arg1 : BitVec 32 := BitVec.ofNat 32 (i 1).val
  let c16_i32_1319 : BitVec 32 := 16#32
  let v3071 : BitVec 32 := Scalar.muli arg1 c16_i32_1319
  let c12_i32_1320 : BitVec 32 := 12#32
  let v3072 : BitVec 32 := Scalar.addi v3071 c12_i32_1320
  let c128_i32_1347 : BitVec 32 := 128#32
  let v3131 : BitVec 32 := Scalar.muli v3072 c128_i32_1347
  v3131
def k0_mult51 (i : grid0.Coords) : BitVec 32 :=
  let arg1 : BitVec 32 := BitVec.ofNat 32 (i 1).val
  let c16_i32_1311 : BitVec 32 := 16#32
  let v3050 : BitVec 32 := Scalar.muli arg1 c16_i32_1311
  let c12_i32 : BitVec 32 := 12#32
  let v3051 : BitVec 32 := Scalar.addi v3050 c12_i32
  let c1_i32_1312 : BitVec 32 := 1#32
  let v3052 : BitVec 32 := Scalar.subi v3051 c1_i32_1312
  let c128_i32_1398 : BitVec 32 := 128#32
  let v3249 : BitVec 32 := Scalar.muli v3052 c128_i32_1398
  v3249
def k0_mult52 (i : grid0.Coords) : BitVec 32 :=
  let arg1 : BitVec 32 := BitVec.ofNat 32 (i 1).val
  let c16_i32_1372 : BitVec 32 := 16#32
  let v3194 : BitVec 32 := Scalar.muli arg1 c16_i32_1372
  let c12_i32_1373 : BitVec 32 := 12#32
  let v3195 : BitVec 32 := Scalar.addi v3194 c12_i32_1373
  let c128_i32_1401 : BitVec 32 := 128#32
  let v3254 : BitVec 32 := Scalar.muli v3195 c128_i32_1401
  v3254
def k0_mult53 (i : grid0.Coords) : BitVec 32 :=
  let arg1 : BitVec 32 := BitVec.ofNat 32 (i 1).val
  let c16_i32_1426 : BitVec 32 := 16#32
  let v3317 : BitVec 32 := Scalar.muli arg1 c16_i32_1426
  let c13_i32 : BitVec 32 := 13#32
  let v3318 : BitVec 32 := Scalar.addi v3317 c13_i32
  let c1_i32_1427 : BitVec 32 := 1#32
  let v3319 : BitVec 32 := Scalar.subi v3318 c1_i32_1427
  let c128_i32_1459 : BitVec 32 := 128#32
  let v3393 : BitVec 32 := Scalar.muli v3319 c128_i32_1459
  v3393
def k0_mult54 (i : grid0.Coords) : BitVec 32 :=
  let arg1 : BitVec 32 := BitVec.ofNat 32 (i 1).val
  let c16_i32_1434 : BitVec 32 := 16#32
  let v3338 : BitVec 32 := Scalar.muli arg1 c16_i32_1434
  let c13_i32_1435 : BitVec 32 := 13#32
  let v3339 : BitVec 32 := Scalar.addi v3338 c13_i32_1435
  let c128_i32_1462 : BitVec 32 := 128#32
  let v3398 : BitVec 32 := Scalar.muli v3339 c128_i32_1462
  v3398
def k0_mult55 (i : grid0.Coords) : BitVec 32 :=
  let arg1 : BitVec 32 := BitVec.ofNat 32 (i 1).val
  let c16_i32_1426 : BitVec 32 := 16#32
  let v3317 : BitVec 32 := Scalar.muli arg1 c16_i32_1426
  let c13_i32 : BitVec 32 := 13#32
  let v3318 : BitVec 32 := Scalar.addi v3317 c13_i32
  let c1_i32_1427 : BitVec 32 := 1#32
  let v3319 : BitVec 32 := Scalar.subi v3318 c1_i32_1427
  let c128_i32_1513 : BitVec 32 := 128#32
  let v3516 : BitVec 32 := Scalar.muli v3319 c128_i32_1513
  v3516
def k0_mult56 (i : grid0.Coords) : BitVec 32 :=
  let arg1 : BitVec 32 := BitVec.ofNat 32 (i 1).val
  let c16_i32_1487 : BitVec 32 := 16#32
  let v3461 : BitVec 32 := Scalar.muli arg1 c16_i32_1487
  let c13_i32_1488 : BitVec 32 := 13#32
  let v3462 : BitVec 32 := Scalar.addi v3461 c13_i32_1488
  let c128_i32_1516 : BitVec 32 := 128#32
  let v3521 : BitVec 32 := Scalar.muli v3462 c128_i32_1516
  v3521
def k0_mult57 (i : grid0.Coords) : BitVec 32 :=
  let arg1 : BitVec 32 := BitVec.ofNat 32 (i 1).val
  let c16_i32_1541 : BitVec 32 := 16#32
  let v3584 : BitVec 32 := Scalar.muli arg1 c16_i32_1541
  let c14_i32 : BitVec 32 := 14#32
  let v3585 : BitVec 32 := Scalar.addi v3584 c14_i32
  let c1_i32_1542 : BitVec 32 := 1#32
  let v3586 : BitVec 32 := Scalar.subi v3585 c1_i32_1542
  let c128_i32_1574 : BitVec 32 := 128#32
  let v3660 : BitVec 32 := Scalar.muli v3586 c128_i32_1574
  v3660
def k0_mult58 (i : grid0.Coords) : BitVec 32 :=
  let arg1 : BitVec 32 := BitVec.ofNat 32 (i 1).val
  let c16_i32_1549 : BitVec 32 := 16#32
  let v3605 : BitVec 32 := Scalar.muli arg1 c16_i32_1549
  let c14_i32_1550 : BitVec 32 := 14#32
  let v3606 : BitVec 32 := Scalar.addi v3605 c14_i32_1550
  let c128_i32_1577 : BitVec 32 := 128#32
  let v3665 : BitVec 32 := Scalar.muli v3606 c128_i32_1577
  v3665
def k0_mult59 (i : grid0.Coords) : BitVec 32 :=
  let arg1 : BitVec 32 := BitVec.ofNat 32 (i 1).val
  let c16_i32_1541 : BitVec 32 := 16#32
  let v3584 : BitVec 32 := Scalar.muli arg1 c16_i32_1541
  let c14_i32 : BitVec 32 := 14#32
  let v3585 : BitVec 32 := Scalar.addi v3584 c14_i32
  let c1_i32_1542 : BitVec 32 := 1#32
  let v3586 : BitVec 32 := Scalar.subi v3585 c1_i32_1542
  let c128_i32_1628 : BitVec 32 := 128#32
  let v3783 : BitVec 32 := Scalar.muli v3586 c128_i32_1628
  v3783
def k0_mult60 (i : grid0.Coords) : BitVec 32 :=
  let arg1 : BitVec 32 := BitVec.ofNat 32 (i 1).val
  let c16_i32_1602 : BitVec 32 := 16#32
  let v3728 : BitVec 32 := Scalar.muli arg1 c16_i32_1602
  let c14_i32_1603 : BitVec 32 := 14#32
  let v3729 : BitVec 32 := Scalar.addi v3728 c14_i32_1603
  let c128_i32_1631 : BitVec 32 := 128#32
  let v3788 : BitVec 32 := Scalar.muli v3729 c128_i32_1631
  v3788
def k0_mult61 (i : grid0.Coords) : BitVec 32 :=
  let arg1 : BitVec 32 := BitVec.ofNat 32 (i 1).val
  let c16_i32_1656 : BitVec 32 := 16#32
  let v3851 : BitVec 32 := Scalar.muli arg1 c16_i32_1656
  let c15_i32 : BitVec 32 := 15#32
  let v3852 : BitVec 32 := Scalar.addi v3851 c15_i32
  let c1_i32_1657 : BitVec 32 := 1#32
  let v3853 : BitVec 32 := Scalar.subi v3852 c1_i32_1657
  let c128_i32_1689 : BitVec 32 := 128#32
  let v3927 : BitVec 32 := Scalar.muli v3853 c128_i32_1689
  v3927
def k0_mult62 (i : grid0.Coords) : BitVec 32 :=
  let arg1 : BitVec 32 := BitVec.ofNat 32 (i 1).val
  let c16_i32_1664 : BitVec 32 := 16#32
  let v3872 : BitVec 32 := Scalar.muli arg1 c16_i32_1664
  let c15_i32_1665 : BitVec 32 := 15#32
  let v3873 : BitVec 32 := Scalar.addi v3872 c15_i32_1665
  let c128_i32_1692 : BitVec 32 := 128#32
  let v3932 : BitVec 32 := Scalar.muli v3873 c128_i32_1692
  v3932
def k0_mult63 (i : grid0.Coords) : BitVec 32 :=
  let arg1 : BitVec 32 := BitVec.ofNat 32 (i 1).val
  let c16_i32_1656 : BitVec 32 := 16#32
  let v3851 : BitVec 32 := Scalar.muli arg1 c16_i32_1656
  let c15_i32 : BitVec 32 := 15#32
  let v3852 : BitVec 32 := Scalar.addi v3851 c15_i32
  let c1_i32_1657 : BitVec 32 := 1#32
  let v3853 : BitVec 32 := Scalar.subi v3852 c1_i32_1657
  let c128_i32_1743 : BitVec 32 := 128#32
  let v4050 : BitVec 32 := Scalar.muli v3853 c128_i32_1743
  v4050
def k0_mult64 (i : grid0.Coords) : BitVec 32 :=
  let arg1 : BitVec 32 := BitVec.ofNat 32 (i 1).val
  let c16_i32_1717 : BitVec 32 := 16#32
  let v3995 : BitVec 32 := Scalar.muli arg1 c16_i32_1717
  let c15_i32_1718 : BitVec 32 := 15#32
  let v3996 : BitVec 32 := Scalar.addi v3995 c15_i32_1718
  let c128_i32_1746 : BitVec 32 := 128#32
  let v4055 : BitVec 32 := Scalar.muli v3996 c128_i32_1746
  v4055
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel3Ideal.lean ====
variable {F : FTy → Type} [FloatOps F] [Named F]
def κ : String → Option EReal := fun
  | "log2e" => some (((Real.log 2)⁻¹ : ℝ) : EReal)
  | "mask3" => some ⊥
  | "slope1" => some (((2 * (Real.log 2))⁻¹ : ℝ) : EReal)
  | "slope2" => some (((4 * (Real.log 2))⁻¹ : ℝ) : EReal)
  | "slope3" => some (((8 * (Real.log 2))⁻¹ : ℝ) : EReal)
  | "slope4" => some (((16 * (Real.log 2))⁻¹ : ℝ) : EReal)
  | "slope5" => some (((32 * (Real.log 2))⁻¹ : ℝ) : EReal)
  | "slope6" => some (((64 * (Real.log 2))⁻¹ : ℝ) : EReal)
  | "slope7" => some (((128 * (Real.log 2))⁻¹ : ℝ) : EReal)
  | "slope8" => some (((256 * (Real.log 2))⁻¹ : ℝ) : EReal)
  | _ => none
-- ==== Reference3Ideal.lean ====
abbrev S1x8 : Shape := ⟨2, ![1, 8]⟩
abbrev S32x2048x512 : Shape := ⟨3, ![32, 2048, 512]⟩
abbrev S32x2048x128 : Shape := ⟨3, ![32, 2048, 128]⟩
abbrev S32x2048 : Shape := ⟨2, ![32, 2048]⟩
abbrev S32x2048x1024 : Shape := ⟨3, ![32, 2048, 1024]⟩
abbrev S32x3072 : Shape := ⟨2, ![32, 3072]⟩
abbrev S1x1024x1024 : Shape := ⟨3, ![1, 1024, 1024]⟩
abbrev S1024 : Shape := ⟨1, ![1024]⟩
abbrev S8 : Shape := ⟨1, ![8]⟩
abbrev S_ : Shape := ⟨0, ![]⟩
abbrev S32x16x128x2x4x64 : Shape := ⟨6, ![32, 16, 128, 2, 4, 64]⟩
abbrev S32x16x128x2x64 : Shape := ⟨5, ![32, 16, 128, 2, 64]⟩
abbrev S32x1x128x2x64 : Shape := ⟨5, ![32, 1, 128, 2, 64]⟩
abbrev S32x15x128x2x64 : Shape := ⟨5, ![32, 15, 128, 2, 64]⟩
abbrev S32x16x256x2x64 : Shape := ⟨5, ![32, 16, 256, 2, 64]⟩
abbrev S32x16x2x256x128x4 : Shape := ⟨6, ![32, 16, 2, 256, 128, 4]⟩
abbrev S32x16x2x4x128x256 : Shape := ⟨6, ![32, 16, 2, 4, 128, 256]⟩
abbrev S32x16x128 : Shape := ⟨3, ![32, 16, 128]⟩
abbrev S32x16x128x1 : Shape := ⟨4, ![32, 16, 128, 1]⟩
abbrev S32x1x128 : Shape := ⟨3, ![32, 1, 128]⟩
abbrev S32x15x128 : Shape := ⟨3, ![32, 15, 128]⟩
abbrev S32x16x256 : Shape := ⟨3, ![32, 16, 256]⟩
abbrev S32x16x1x256 : Shape := ⟨4, ![32, 16, 1, 256]⟩
abbrev S32x16x128x256 : Shape := ⟨4, ![32, 16, 128, 256]⟩
abbrev S2x4 : Shape := ⟨2, ![2, 4]⟩
abbrev S1x1x2x4x1x1 : Shape := ⟨6, ![1, 1, 2, 4, 1, 1]⟩
abbrev S32x16x1x1x128x256 : Shape := ⟨6, ![32, 16, 1, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S32x16x2x4x128x1 : Shape := ⟨6, ![32, 16, 2, 4, 128, 1]⟩
abbrev S32x16x2x4x128x257 : Shape := ⟨6, ![32, 16, 2, 4, 128, 257]⟩
abbrev S32x16x2x4x128 : Shape := ⟨5, ![32, 16, 2, 4, 128]⟩
abbrev S32x16x2x64x4x128 : Shape := ⟨6, ![32, 16, 2, 64, 4, 128]⟩
abbrev S1024x1024 : Shape := ⟨2, ![1024, 1024]⟩
abbrev S32x1024 : Shape := ⟨2, ![32, 1024]⟩
abbrev S32x1x1024 : Shape := ⟨3, ![32, 1, 1024]⟩
abbrev S32x2048x1 : Shape := ⟨3, ![32, 2048, 1]⟩
abbrev S1x1x1024 : Shape := ⟨3, ![1, 1, 1024]⟩

abbrev nBuf : Space → Nat
  | .hbm => 153
  | .vmem => 0
  | .smem => 0
  | _ => 0

abbrev hbmTy0_0 (i : Nat) : BufTy := match i % 128 with
  | 0 => ⟨S1x8, .f32⟩
  | 1 => ⟨S32x2048x512, .f32⟩
  | 2 => ⟨S32x2048x128, .f32⟩
  | 3 => ⟨S32x2048x128, .f32⟩
  | 4 => ⟨S32x2048x512, .f32⟩
  | 5 => ⟨S32x2048, .i32⟩
  | 6 => ⟨S32x2048x512, .f32⟩
  | 7 => ⟨S32x2048x1024, .f32⟩
  | 8 => ⟨S32x3072, .f32⟩
  | 9 => ⟨S1x1024x1024, .f32⟩
  | 10 => ⟨S1024, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S_, .f32⟩
  | 22 => ⟨S8, .f32⟩
  | 23 => ⟨S8, .f32⟩
  | 24 => ⟨S32x16x128x2x4x64, .f32⟩
  | 25 => ⟨S32x16x128x2x64, .f32⟩
  | 26 => ⟨S32x1x128x2x64, .f32⟩
  | 27 => ⟨S_, .f32⟩
  | 28 => ⟨S32x1x128x2x64, .f32⟩
  | 29 => ⟨S32x15x128x2x64, .f32⟩
  | 30 => ⟨S32x16x128x2x64, .f32⟩
  | 31 => ⟨S32x16x256x2x64, .f32⟩
  | 32 => ⟨S32x16x128x2x64, .f32⟩
  | 33 => ⟨S32x1x128x2x64, .f32⟩
  | 34 => ⟨S_, .f32⟩
  | 35 => ⟨S32x1x128x2x64, .f32⟩
  | 36 => ⟨S32x15x128x2x64, .f32⟩
  | 37 => ⟨S32x16x128x2x64, .f32⟩
  | 38 => ⟨S32x16x256x2x64, .f32⟩
  | 39 => ⟨S32x16x2x256x128x4, .f32⟩
  | 40 => ⟨S32x16x2x4x128x256, .f32⟩
  | 41 => ⟨S_, .f32⟩
  | 42 => ⟨S_, .f32⟩
  | 43 => ⟨S32x16x2x4x128x256, .f32⟩
  | 44 => ⟨S32x16x2x4x128x256, .f32⟩
  | 45 => ⟨S32x16x128, .i32⟩
  | 46 => ⟨S32x16x128x1, .i32⟩
  | 47 => ⟨S32x1x128, .i32⟩
  | 48 => ⟨S_, .i32⟩
  | 49 => ⟨S32x1x128, .i32⟩
  | 50 => ⟨S32x15x128, .i32⟩
  | 51 => ⟨S32x16x128, .i32⟩
  | 52 => ⟨S32x16x256, .i32⟩
  | 53 => ⟨S32x16x1x256, .i32⟩
  | 54 => ⟨S32x16x128x256, .i32⟩
  | 55 => ⟨S32x16x128x256, .i32⟩
  | 56 => ⟨S32x16x128x256, .i32⟩
  | 57 => ⟨S32x16x128x256, .f32⟩
  | 58 => ⟨S2x4, .f32⟩
  | 59 => ⟨S1x1x2x4x1x1, .f32⟩
  | 60 => ⟨S32x16x1x1x128x256, .f32⟩
  | 61 => ⟨S32x16x2x4x128x256, .f32⟩
  | 62 => ⟨S32x16x2x4x128x256, .f32⟩
  | 63 => ⟨S32x16x2x4x128x256, .f32⟩
  | 64 => ⟨S32x16x2x4x128x256, .f32⟩
  | 65 => ⟨S128, .i32⟩
  | 66 => ⟨S128x1, .i32⟩
  | 67 => ⟨S_, .i32⟩
  | 68 => ⟨S128x1, .i32⟩
  | 69 => ⟨S128x1, .i32⟩
  | 70 => ⟨S256, .i32⟩
  | 71 => ⟨S1x256, .i32⟩
  | 72 => ⟨S128x256, .i32⟩
  | 73 => ⟨S128x256, .i32⟩
  | 74 => ⟨S128x256, .i32⟩
  | 75 => ⟨S16, .i32⟩
  | 76 => ⟨S16x1x1, .i32⟩
  | 77 => ⟨S_, .i32⟩
  | 78 => ⟨S16x1x1, .i32⟩
  | 79 => ⟨S16x1x1, .i1⟩
  | 80 => ⟨S256, .i32⟩
  | 81 => ⟨S1x1x256, .i32⟩
  | 82 => ⟨S_, .i32⟩
  | 83 => ⟨S1x1x256, .i32⟩
  | 84 => ⟨S1x1x256, .i1⟩
  | 85 => ⟨S16x1x256, .i1⟩
  | 86 => ⟨S16x1x256, .i1⟩
  | 87 => ⟨S16x1x256, .i1⟩
  | 88 => ⟨S_, .i32⟩
  | 89 => ⟨S128x256, .i32⟩
  | 90 => ⟨S128x256, .i1⟩
  | 91 => ⟨S_, .i32⟩
  | 92 => ⟨S128x256, .i32⟩
  | 93 => ⟨S128x256, .i1⟩
  | 94 => ⟨S128x256, .i1⟩
  | 95 => ⟨S1x128x256, .i1⟩
  | 96 => ⟨S16x128x256, .i1⟩
  | 97 => ⟨S16x128x256, .i1⟩
  | 98 => ⟨S16x128x256, .i1⟩
  | 99 => ⟨S1x16x1x1x128x256, .i1⟩
  | 100 => ⟨S_, .f32⟩
  | 101 => ⟨S_, .f32⟩
  | 102 => ⟨S32x16x2x4x128x256, .i1⟩
  | 103 => ⟨S32x16x2x4x128x256, .f32⟩
  | 104 => ⟨S32x16x2x4x128x256, .f32⟩
  | 105 => ⟨S8, .f32⟩
  | 106 => ⟨S2x4, .f32⟩
  | 107 => ⟨S1x1x2x4x1x1, .f32⟩
  | 108 => ⟨S32x16x2x4x128x1, .f32⟩
  | 109 => ⟨S32x16x2x4x128x257, .f32⟩
  | 110 => ⟨S_, .f32⟩
  | 111 => ⟨S32x16x2x4x128, .f32⟩
  | 112 => ⟨S_, .f32⟩
  | 113 => ⟨S32x16x2x4x128, .f32⟩
  | 114 => ⟨S32x16x2x4x128, .f32⟩
  | 115 => ⟨S32x16x2x4x128x1, .f32⟩
  | 116 => ⟨S32x16x2x4x128x257, .f32⟩
  | 117 => ⟨S32x16x2x4x128x257, .f32⟩
  | 118 => ⟨S32x16x2x4x128x257, .f32⟩
  | 119 => ⟨S_, .f32⟩
  | 120 => ⟨S32x16x2x4x128, .f32⟩
  | 121 => ⟨S32x16x2x4x128x1, .f32⟩
  | 122 => ⟨S32x16x2x4x128x257, .f32⟩
  | 123 => ⟨S32x16x2x4x128x257, .f32⟩
  | 124 => ⟨S32x16x2x4x128x256, .f32⟩
  | 125 => ⟨S32x16x2x64x4x128, .f32⟩
  | 126 => ⟨S32x16x128x2x4x64, .f32⟩
  | 127 => ⟨S32x2048x512, .f32⟩
  | _ => ⟨S1x8, .f32⟩

abbrev hbmTy0_1 (i : Nat) : BufTy := match i % 128 with
  | 0 => ⟨S32x2048x512, .f32⟩
  | 1 => ⟨S32x2048x1024, .f32⟩
  | 2 => ⟨S1024x1024, .f32⟩
  | 3 => ⟨S32x2048x1024, .f32⟩
  | 4 => ⟨S32x1024, .f32⟩
  | 5 => ⟨S32x1x1024, .f32⟩
  | 6 => ⟨S32x2048x1024, .f32⟩
  | 7 => ⟨S32x2048x1024, .f32⟩
  | 8 => ⟨S32x2048x1024, .f32⟩
  | 9 => ⟨S32x2048x1024, .f32⟩
  | 10 => ⟨S_, .f32⟩
  | 11 => ⟨S32x2048, .f32⟩
  | 12 => ⟨S32x2048x1, .f32⟩
  | 13 => ⟨S_, .f32⟩
  | 14 => ⟨S32x2048x1, .f32⟩
  | 15 => ⟨S32x2048x1, .f32⟩
  | 16 => ⟨S_, .f32⟩
  | 17 => ⟨S32x2048x1, .f32⟩
  | 18 => ⟨S32x2048x1, .f32⟩
  | 19 => ⟨S32x2048x1, .f32⟩
  | 20 => ⟨S32x2048x1024, .f32⟩
  | 21 => ⟨S32x2048x1024, .f32⟩
  | 22 => ⟨S1x1x1024, .f32⟩
  | 23 => ⟨S32x2048x1024, .f32⟩
  | 24 => ⟨S32x2048x1024, .f32⟩
  | _ => ⟨S1x8, .f32⟩

abbrev hbmTy (i : Nat) : BufTy := match i / 128 with
  | 0 => hbmTy0_0 i
  | 1 => hbmTy0_1 i
  | _ => ⟨S1x8, .f32⟩

abbrev bufTy : (tb : Table) → Fin (tcTables nBuf tb) → BufTy
  | .hbm, ⟨i, _⟩ => hbmTy i
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_7 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_9 : Ref sig .tc := ⟨.hbm, 88, rfl⟩
abbrev main_v66 : Ref sig .tc := ⟨.hbm, 89, rfl⟩
abbrev main_v67 : Ref sig .tc := ⟨.hbm, 90, rfl⟩
abbrev main_c_10 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_12 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_15 : Ref sig .tc := ⟨.hbm, 138, rfl⟩
abbrev main_v107 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_cst_17 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩

abbrev nD : Nat := 1
abbrev τ : Topo := Topo.v7x

variable {F : FTy → Type} [FloatOps F]
-- ==== Proof.Attention.Finite.lean ====
/- What the precondition says: every element of the queries and keys is a real number. -/
module

public import proofs.«01_k».proof.Pre_finite_heads
public import Idealize.ShloMosaic.PureOps.Ideal.Laws
public import Idealize.ShloMosaic.Lib.ReduceAll
public import Idealize.ShloMosaic.Lib.Pointwise

@[expose] public section

noncomputable section

namespace Cert.Attention

open Idealize.ShloMosaic Cert.Pre_finite_heads

/-- The shape relations the predicate's operations take. -/
instance finiteFacts : Cert.Pre_finite_heads.Facts where
  bcast_S_S32x2048x8x64 := by decide
  reducesTo_S32x2048x8x64_S_d0_1_2_3 := by decide
  h_S_ := by decide
  bcast_S_S32x2048x8x32 := by decide
  reducesTo_S32x2048x8x32_S_d0_1_2_3 := by decide
  bcast_S_S32x2048x32 := by decide
  reducesTo_S32x2048x32_S_d0_1_2 := by decide

/-- An extended real whose size is less than ∞ is a real. -/
theorem real_of_abs_lt (x : EReal) (h : FloatOps.cmpf (F := Ideal) (φ := .f32) .olt (FloatOps.absf (F := Ideal) (φ := .f32) x)
    (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | coe r => exact ⟨r, rfl⟩
  | bot => exact absurd h (by simp [FloatOps.cmpf, FloatOps.absf, Ideal.cmp])
  | top => exact absurd h (by simp [FloatOps.cmpf, FloatOps.absf, Ideal.cmp])

theorem and_one {a b : BitVec 1} (h : IntOp.andi a b = 1#1) : a = 1#1 ∧ b = 1#1 := by
  revert a b; decide

theorem finite_of_pre (x0 : FVec Ideal S32x2048x8x64 .f32) (x1 : FVec Ideal S32x2048x8x32 .f32) (x2 : FVec Ideal S32x2048x8x64 .f32)
    (x3 : FVec Ideal S32x2048x32 .f32) (x4 : FVec Ideal S32x2048x8x64 .f32) (x5 : FVec Ideal S32x2048x512 .f32)
    (h : fn (F := Ideal) x0 x1 x2 x3 x4 x5 = fun _ => 1#1) :
    (∀ i, ∃ r : ℝ, x0 i = (r : EReal)) ∧ (∀ i, ∃ r : ℝ, x1 i = (r : EReal)) ∧ (∀ i, ∃ r : ℝ, x2 i = (r : EReal))
      ∧ ∀ i, ∃ r : ℝ, x3 i = (r : EReal) := by
  have hs : Subsingleton S_.Idx := ⟨fun a b => funext fun k => k.elim0⟩
  have h := congrFun h (Shape.Idx.first Facts.h_S_)
  dsimp only [fn, fn_part1] at h
  obtain ⟨h, e3⟩ := and_one h
  obtain ⟨h, e2⟩ := and_one h
  obtain ⟨e0, e1⟩ := and_one h
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i), fun i => real_of_abs_lt _ (Host.reduce_andi_all _ _ _ _ _ e3 i)⟩

end Cert.Attention

end
-- ==== Proof.Attention.Online.lean ====
/- The arithmetic of a softmax that is summed tile by tile (an "online" softmax), on extended reals.
   A score is a real, a value may be any extended real. `weighted s v T M` is the sum over the keys `T` of the values, each
   times two to the power of its score less the reference point `M`. Moving the reference point multiplies by one positive
   real (`weighted_rescale`), keys add up (`weighted_union`), and the quotient by the same sum over ones does not depend on the
   reference point: it is the sum of the values times the softmax weights, written with the base that one likes
   (`weighted_div`). -/
module

public import Idealize.ShloMosaic.PureOps.Ideal
public import Idealize.ShloMosaic.PureOps.Ideal.Laws

@[expose] public section

noncomputable section

namespace Cert.Attention

open Idealize.ShloMosaic

/-- A nonnegative real factor goes into a finite sum of extended reals. -/
theorem sum_mul_coe {ι : Type*} (T : Finset ι) (f : ι → EReal) (r : ℝ) (hr : 0 ≤ r) :
    (∑ k ∈ T, f k) * (r : EReal) = ∑ k ∈ T, f k * (r : EReal) := by
  classical
  induction T using Finset.induction_on with
  | empty => simp
  | insert a T ha ih =>
    rw [Finset.sum_insert ha, Finset.sum_insert ha,
      EReal.right_distrib_of_nonneg_of_ne_top (by exact_mod_cast hr) (EReal.coe_ne_top r), ih]

/-- A finite sum of reals, in the extended reals. -/
theorem coe_sum {ι : Type*} (T : Finset ι) (f : ι → ℝ) : ((∑ k ∈ T, f k : ℝ) : EReal) = ∑ k ∈ T, (f k : EReal) := by
  classical
  induction T using Finset.induction_on with
  | empty => simp
  | insert a T ha ih => rw [Finset.sum_insert ha, Finset.sum_insert ha, EReal.coe_add, ih]

/-- The weight of key `k` against the reference point `M`. -/
def weight (s : ℕ → ℝ) (M : ℝ) (k : ℕ) : ℝ := Real.rpow 2 (s k - M)

theorem weight_pos (s : ℕ → ℝ) (M : ℝ) (k : ℕ) : 0 < weight s M k := Real.rpow_pos_of_pos two_pos _

theorem weight_rescale (s : ℕ → ℝ) (M M' : ℝ) (k : ℕ) : weight s M k * Real.rpow 2 (M - M') = weight s M' k := by
  unfold weight
  rw [show s k - M' = (s k - M) + (M - M') by ring]
  exact (Real.rpow_add two_pos _ _).symm

/-- The values of the keys `T`, each times its weight. -/
def weighted (s : ℕ → ℝ) (v : ℕ → EReal) (T : Finset ℕ) (M : ℝ) : EReal := ∑ k ∈ T, v k * (weight s M k : EReal)

theorem weighted_rescale (s : ℕ → ℝ) (v : ℕ → EReal) (T : Finset ℕ) (M M' : ℝ) :
    weighted s v T M * ((Real.rpow 2 (M - M') : ℝ) : EReal) = weighted s v T M' := by
  unfold weighted
  rw [sum_mul_coe _ _ (Real.rpow 2 (M - M')) (Real.rpow_pos_of_pos two_pos _).le]
  refine Finset.sum_congr rfl fun k _ => ?_
  rw [mul_assoc, ← EReal.coe_mul, weight_rescale]

theorem weighted_union (s : ℕ → ℝ) (v : ℕ → EReal) (T U : Finset ℕ) (h : Disjoint T U) (M : ℝ) :
    weighted s v (T ∪ U) M = weighted s v T M + weighted s v U M := Finset.sum_union h

theorem weighted_one (s : ℕ → ℝ) (T : Finset ℕ) (M : ℝ) :
    weighted s (fun _ => 1) T M = ((∑ k ∈ T, weight s M k : ℝ) : EReal) := by
  unfold weighted; rw [coe_sum]; exact Finset.sum_congr rfl fun k _ => one_mul _

/-- The softmax weight of key `k` among the keys `T`, of the natural scores `z`, against the reference point `Z`. -/
def soft (z : ℕ → ℝ) (T : Finset ℕ) (Z : ℝ) (k : ℕ) : ℝ := Real.exp (z k - Z) / ∑ j ∈ T, Real.exp (z j - Z)

/-- With scores in units of `log 2`, the power of two is the exponential up to one factor for all keys. -/
theorem weight_eq_exp (s z : ℕ → ℝ) (hz : ∀ k, s k * Real.log 2 = z k) (M Z : ℝ) (k : ℕ) :
    weight s M k = Real.exp (z k - Z) * Real.exp (Z - M * Real.log 2) := by
  unfold weight
  rw [← Real.exp_add]
  show (2 : ℝ) ^ (s k - M) = _
  rw [Real.rpow_def_of_pos two_pos]
  congr 1
  rw [← hz k]; ring

theorem weight_div_sum (s z : ℕ → ℝ) (hz : ∀ k, s k * Real.log 2 = z k) (T : Finset ℕ) (M Z : ℝ) (k : ℕ) :
    weight s M k / ∑ j ∈ T, weight s M j = soft z T Z k := by
  unfold soft
  simp only [weight_eq_exp s z hz M Z]
  rw [← Finset.sum_mul, mul_div_mul_right _ _ (Real.exp_pos _).ne']

/-- The quotient that a tile-by-tile softmax ends with: the values times their softmax weights. -/
theorem weighted_div (s z : ℕ → ℝ) (hz : ∀ k, s k * Real.log 2 = z k) (v : ℕ → EReal) (T : Finset ℕ) (hT : T.Nonempty) (M Z : ℝ) :
    Ideal.div (weighted s v T M) (weighted s (fun _ => 1) T M) = ∑ k ∈ T, v k * (soft z T Z k : EReal) := by
  have hD : 0 < ∑ k ∈ T, weight s M k := Finset.sum_pos (fun k _ => weight_pos s M k) hT
  rw [weighted_one]
  have hne : ((∑ k ∈ T, weight s M k : ℝ) : EReal) ≠ 0 := by exact_mod_cast hD.ne'
  unfold Ideal.div
  rw [if_neg hne, ← EReal.coe_inv]
  unfold weighted
  rw [sum_mul_coe _ _ _ (inv_pos.mpr hD).le]
  refine Finset.sum_congr rfl fun k _ => ?_
  rw [mul_assoc, ← EReal.coe_mul, ← div_eq_mul_inv, weight_div_sum s z hz T M Z]

/-- The largest of a nonempty family of which each member is a real or minus infinity, one at least a real: a real. -/
theorem fold_max_real {ι : Type*} (T : Finset ι) (f : ι → EReal) (hf : ∀ k ∈ T, f k ≠ ⊤) (hr : ∃ k ∈ T, f k ≠ ⊥) :
    ∃ M : ℝ, T.fold max ⊥ f = (M : EReal) := by
  classical
  have htop : T.fold max ⊥ f < ⊤ := Finset.fold_max_lt ⊤ |>.mpr ⟨bot_lt_top, fun k hk => lt_top_iff_ne_top.mpr (hf k hk)⟩
  obtain ⟨k, hk, hne⟩ := hr
  have hbot : ⊥ < T.fold max ⊥ f := Finset.lt_fold_max ⊥ |>.mpr (Or.inr ⟨k, hk, bot_lt_iff_ne_bot.mpr hne⟩)
  exact ⟨(T.fold max ⊥ f).toReal, (EReal.coe_toReal htop.ne hbot.ne').symm⟩

/-- The row of key number `k`. -/
def key (k : ℕ) : Fin 2048 := ⟨k % 2048, Nat.mod_lt _ (by norm_num)⟩

theorem key_val (t : Fin 2048) : key t.val = t := Fin.ext (Nat.mod_eq_of_lt t.isLt)

theorem key_of_lt (k : ℕ) (h : k < 2048) : key k = ⟨k, h⟩ := Fin.ext (Nat.mod_eq_of_lt h)

/-- The softmax weights do not depend on the reference point. -/
theorem soft_shift (z : ℕ → ℝ) (T : Finset ℕ) (Z Z' : ℝ) (k : ℕ) : soft z T Z k = soft z T Z' k := by
  have hs : ∀ k, z k / Real.log 2 * Real.log 2 = z k := fun k => div_mul_cancel₀ _ (Real.log_pos one_lt_two).ne'
  rw [← weight_div_sum (fun k => z k / Real.log 2) z hs T 0 Z k, ← weight_div_sum (fun k => z k / Real.log 2) z hs T 0 Z' k]

/-- A sum over all keys of which only those up to the query count. -/
theorem sum_causal {α : Type*} [AddCommMonoid α] (f : Fin 2048 → α) (t : Fin 2048) :
    (∑ s : Fin 2048, if s.val ≤ t.val then f s else 0) = ∑ k ∈ Finset.range (t.val + 1), f (key k) := by
  have h : (∑ s : Fin 2048, if s.val ≤ t.val then f s else 0) = ∑ s : Fin 2048, (fun k => if k ≤ t.val then f (key k) else 0) s.val :=
    Finset.sum_congr rfl fun s _ => by simp only [key_val]
  rw [h, Fin.sum_univ_eq_sum_range (fun k => if k ≤ t.val then f (key k) else 0) 2048, ← Finset.sum_filter]
  refine Finset.sum_congr ?_ fun _ _ => rfl
  ext k; simp only [Finset.mem_filter, Finset.mem_range]; omega

end Cert.Attention

end
-- ==== Proof.Attention.Reference.lean ====
/- What the reference computes, at an index: the scores of a query against the keys up to it, their softmax, the values times it,
   and the gate. -/
module

public import proofs.«01_k».proof.Proof.Gen.ReferenceIdeal.Read
public import proofs.«01_k».proof.Proof.Attention.Online
public import Idealize.ShloMosaic.Lib.Pointwise
public import Idealize.ShloMosaic.Lib.WordCmp
public import Idealize.ShloMosaic.Lib.IdealHost

@[expose] public section

noncomputable section

namespace Cert.Attention

open Cert.ReferenceIdeal Cert.ReferenceIdeal.Read Idealize.ShloMosaic
open Cert.ReferenceIdeal.Facts₀

/-- The arguments' shapes. -/
abbrev Heads := (⟨4, ![32, 2048, 8, 64]⟩ : Shape).Idx
abbrev Rotary := (⟨4, ![32, 2048, 8, 32]⟩ : Shape).Idx
abbrev Shared := (⟨3, ![32, 2048, 32]⟩ : Shape).Idx

/-- A query's product with a key: the part without position, and the rotary part all heads share. -/
def product (a0 : Heads → ℝ) (a1 : Rotary → ℝ) (a2 : Heads → ℝ) (a3 : Shared → ℝ) (b : Fin 32) (h : Fin 8) (t k : ℕ) : ℝ :=
  (∑ d : Fin 64, a0 (ix4 b (key t) h d) * a2 (ix4 b (key k) h d)) + ∑ r : Fin 32, a1 (ix4 b (key t) h r) * a3 (ix3 b (key k) r)

/-- The score: the product over the root of the head's width. -/
def score (a0 : Heads → ℝ) (a1 : Rotary → ℝ) (a2 : Heads → ℝ) (a3 : Shared → ℝ) (b : Fin 32) (h : Fin 8) (t k : ℕ) : ℝ :=
  product a0 a1 a2 a3 b h t k / Real.sqrt 96

theorem ofBits_96 : Ideal.ofBits .f32 0x42C00000#32 = ((96 : ℝ) : EReal) := by
  simp [Ideal.ofBits, Ideal.ieee]; rw [← EReal.coe_mul]; norm_num

theorem ofBits_negInf : Ideal.ofBits .f32 0xFF800000#32 = ⊥ := by
  simp [Ideal.ofBits, Ideal.ieee]

section
variable (x0 : (⟨S32x2048x8x64, .f32⟩ : BufTy).Contents (Elt Ideal)) (x1 : (⟨S32x2048x8x32, .f32⟩ : BufTy).Contents (Elt Ideal))
  (x2 : (⟨S32x2048x8x64, .f32⟩ : BufTy).Contents (Elt Ideal)) (x3 : (⟨S32x2048x32, .f32⟩ : BufTy).Contents (Elt Ideal))
  (x4 : (⟨S32x2048x8x64, .f32⟩ : BufTy).Contents (Elt Ideal)) (x5 : (⟨S32x2048x512, .f32⟩ : BufTy).Contents (Elt Ideal))
  (a0 : Heads → ℝ) (a1 : Rotary → ℝ) (a2 : Heads → ℝ) (a3 : Shared → ℝ)
  (h0 : ∀ i, x0 i = (a0 i : EReal)) (h1 : ∀ i, x1 i = (a1 i : EReal)) (h2 : ∀ i, x2 i = (a2 i : EReal)) (h3 : ∀ i, x3 i = (a3 i : EReal))

theorem lidx_main_v1_ix (b : Fin 32) (h : Fin 8) (q s : Fin 2048) (d : Fin 64) : lidx_main_v1 (ix4 b h q s) d = ix4 b q h d :=
  funext fun a => match a with | ⟨0, _⟩ => rfl | ⟨1, _⟩ => rfl | ⟨2, _⟩ => rfl | ⟨3, _⟩ => rfl
theorem ridx_main_v1_ix (b : Fin 32) (h : Fin 8) (q s : Fin 2048) (d : Fin 64) : ridx_main_v1 (ix4 b h q s) d = ix4 b s h d :=
  funext fun a => match a with | ⟨0, _⟩ => rfl | ⟨1, _⟩ => rfl | ⟨2, _⟩ => rfl | ⟨3, _⟩ => rfl
theorem lidx_main_v2_ix (b : Fin 32) (h : Fin 8) (q s : Fin 2048) (d : Fin 32) :
    lidx_main_v2 (idx_main_v3 (ix4 b h q s)) d = ix3 b s d :=
  funext fun a => match a with | ⟨0, _⟩ => rfl | ⟨1, _⟩ => rfl | ⟨2, _⟩ => rfl
theorem ridx_main_v2_ix (b : Fin 32) (h : Fin 8) (q s : Fin 2048) (d : Fin 32) :
    ridx_main_v2 (idx_main_v3 (ix4 b h q s)) d = ix4 b q h d :=
  funext fun a => match a with | ⟨0, _⟩ => rfl | ⟨1, _⟩ => rfl | ⟨2, _⟩ => rfl | ⟨3, _⟩ => rfl

theorem reduces_keys : S32x8x2048x2048.Reduces [3] S32x8x2048 := by decide

include h0 h1 h2 h3

/-- The scores are real. -/
theorem scores_real (b : Fin 32) (h : Fin 8) (q s : Fin 2048) :
    val_main_v6 (F := Ideal) x0 x1 x2 x3 (ix4 b h q s) = (score a0 a1 a2 a3 b h q.val s.val : EReal) := by
  have hdot : val_main_v4 (F := Ideal) x0 x1 x2 x3 (ix4 b h q s) = (product a0 a1 a2 a3 b h q.val s.val : EReal) := by
    rw [val_main_v4_apply, val_main_v1_apply, val_main_v3_apply, val_main_v2_apply]
    unfold product
    rw [key_val, key_val, EReal.coe_add, coe_sum, coe_sum]
    show (_ : EReal) + _ = _
    congr 1
    · exact Finset.sum_congr rfl fun d _ => by rw [lidx_main_v1_ix, ridx_main_v1_ix, h0, h2, EReal.coe_mul]
    · exact Finset.sum_congr rfl fun d _ => by rw [lidx_main_v2_ix, ridx_main_v2_ix, h1, h3, EReal.coe_mul, mul_comm]
  have hroot : val_main_v5 (F := Ideal) (ix4 b h q s) = ((Real.sqrt 96 : ℝ) : EReal) := by
    rw [val_main_v5_apply]
    show Ideal.sqrt (Ideal.ofBits .f32 0x42C00000#32) = _
    rw [ofBits_96, Ideal.sqrt_coe, if_neg (by norm_num)]
  rw [val_main_v6_apply, hdot, hroot]
  show Ideal.div _ _ = _
  rw [Ideal.div_coe (Real.sqrt_pos.mpr (by norm_num)).ne', ← EReal.coe_mul]
  unfold score
  rw [mul_one_div]

theorem masked_scores (b : Fin 32) (h : Fin 8) (q s : Fin 2048) :
    val_main_v13 (F := Ideal) x0 x1 x2 x3 (ix4 b h q s)
      = if s.val ≤ q.val then (score a0 a1 a2 a3 b h q.val s.val : EReal) else ⊥ := by
  rw [val_main_v13_apply, scores_real x0 x1 x2 x3 a0 a1 a2 a3 h0 h1 h2 h3, val_main_call0_v1_apply, val_main_call0_v2_apply]
  have hb : val_main_call0_v0 (F := Ideal) (idx_main_call0_v2 (ix4 b h q s)) = ⊥ := ofBits_negInf
  have hm : val_main_v12 (F := Ideal) (idx_main_call0_v1 (ix4 b h q s))
      = IntOp.cmpi .sle (BitVec.ofNat 32 s.val) (BitVec.ofNat 32 q.val) := by
    rw [val_main_v12_apply, val_main_v10_apply, val_main_v11_apply, val_main_v8_apply, val_main_v9_apply, val_main_v7_apply, val_main_v7_apply]
    rfl
  rw [hb, hm, WordCmp.cmpi_sle_ofNat (by omega) (by omega)]
  by_cases hle : s.val ≤ q.val <;> simp [hle, Scalar.select]

theorem row_max (b : Fin 32) (h : Fin 8) (q : Fin 2048) :
    ∃ Z : ℝ, val_main_v16 (F := Ideal) x0 x1 x2 x3 (ix3 b h q) = (Z : EReal) := by
  have hfold : val_main_v14 (F := Ideal) x0 x1 x2 x3 (ix3 b h q)
      = (Finset.univ : Finset (Fin 2048)).fold max ⊥ fun s => val_main_v13 (F := Ideal) x0 x1 x2 x3 (ix4 b h q s) := by
    unfold val_main_v14
    generalize val_main_v13 (F := Ideal) x0 x1 x2 x3 = y
    have := Host.reduce_eq_fold_single (FloatOps.maximumf (F := Ideal) (φ := .f32)) y (val_main_cst_1 (F := Ideal))
      reducesTo_S32x8x2048x2048_S32x8x2048_d3 reduces_keys h_S_ (ix3 b h q)
    rw [this]
    have e : (y ∘ reduces_keys.lift (ix3 b h q)) = fun s : Fin 2048 => y (ix4 b h q s) := funext fun s => congrArg y (funext fun a =>
      match a with | ⟨0, _⟩ => rfl | ⟨1, _⟩ => rfl | ⟨2, _⟩ => rfl | ⟨3, _⟩ => rfl)
    rw [e]
    show Finset.fold max (Ideal.ofBits .f32 0xFF800000#32) _ _ = _
    rw [ofBits_negInf]
    rfl
  obtain ⟨Z, hZ⟩ := fold_max_real (Finset.univ : Finset (Fin 2048)) (fun s => val_main_v13 (F := Ideal) x0 x1 x2 x3 (ix4 b h q s))
    (fun s _ => by
      show val_main_v13 (F := Ideal) x0 x1 x2 x3 (ix4 b h q s) ≠ ⊤
      rw [masked_scores x0 x1 x2 x3 a0 a1 a2 a3 h0 h1 h2 h3]; split
      · exact EReal.coe_ne_top _
      · exact bot_ne_top)
    ⟨q, Finset.mem_univ _, by
      show val_main_v13 (F := Ideal) x0 x1 x2 x3 (ix4 b h q q) ≠ ⊥
      rw [masked_scores x0 x1 x2 x3 a0 a1 a2 a3 h0 h1 h2 h3, if_pos (le_refl _)]; exact EReal.coe_ne_bot _⟩
  refine ⟨Z, ?_⟩
  rw [val_main_v16_apply, hfold, hZ, val_main_v15_apply]
  show max (Ideal.ofBits .f32 0xFF800000#32) _ = _
  rw [ofBits_negInf]; exact bot_sup_eq _

/-- The attention weights: the softmax over the keys up to the query, zero after it. -/
theorem weights_apply (b : Fin 32) (h : Fin 8) (q s : Fin 2048) :
    val_main_v24 (F := Ideal) x0 x1 x2 x3 (ix4 b h q s)
      = if s.val ≤ q.val then (soft (score a0 a1 a2 a3 b h q.val) (Finset.range (q.val + 1)) 0 s.val : EReal) else 0 := by
  obtain ⟨Z, hZ⟩ := row_max x0 x1 x2 x3 a0 a1 a2 a3 h0 h1 h2 h3 b h q
  have hexp : ∀ s : Fin 2048, val_main_v20 (F := Ideal) x0 x1 x2 x3 (ix4 b h q s)
      = if s.val ≤ q.val then (Real.exp (score a0 a1 a2 a3 b h q.val s.val - Z) : EReal) else 0 := fun s => by
    rw [val_main_v20_apply, val_main_v19_apply, masked_scores x0 x1 x2 x3 a0 a1 a2 a3 h0 h1 h2 h3, val_main_v18_apply, val_main_v17_apply]
    have e : idx_main_v17 (idx_main_v18 (ix4 b h q s)) = ix3 b h q :=
      funext fun a => match a with | ⟨0, _⟩ => rfl | ⟨1, _⟩ => rfl | ⟨2, _⟩ => rfl
    rw [e, hZ]
    show Ideal.exp ((if s.val ≤ q.val then (score a0 a1 a2 a3 b h q.val s.val : EReal) else ⊥) - (Z : EReal)) = _
    by_cases hle : s.val ≤ q.val
    · rw [if_pos hle, if_pos hle, ← EReal.coe_sub, Ideal.exp_coe]
    · rw [if_neg hle, if_neg hle, EReal.bot_sub, Ideal.exp_bot]
  have hsum : val_main_v23 (F := Ideal) x0 x1 x2 x3 (ix4 b h q s)
      = ((∑ k ∈ Finset.range (q.val + 1), Real.exp (score a0 a1 a2 a3 b h q.val k - Z) : ℝ) : EReal) := by
    rw [val_main_v23_apply, val_main_v22_apply, val_main_v21_apply]
    have e : ∀ k, idx_main_v21 (idx_main_v22 (idx_main_v23 (ix4 b h q s))) k = ix4 b h q k := fun k =>
      funext fun a => match a with | ⟨0, _⟩ => rfl | ⟨1, _⟩ => rfl | ⟨2, _⟩ => rfl | ⟨3, _⟩ => rfl
    simp only [e, hexp]
    have hz : val_main_cst_3 (F := Ideal) (Shape.Idx.first h_S_) = 0 := by
      show Ideal.ofBits .f32 0x00000000#32 = 0
      simp [Ideal.ofBits, Ideal.ieee]
    rw [hz, zero_add, sum_causal (fun s => (Real.exp (score a0 a1 a2 a3 b h q.val s.val - Z) : EReal)) q, coe_sum]
    refine Finset.sum_congr rfl fun k hk => ?_
    have hk' : k < 2048 := by have := Finset.mem_range.mp hk; omega
    rw [key_of_lt k hk']
  have hpos : 0 < ∑ k ∈ Finset.range (q.val + 1), Real.exp (score a0 a1 a2 a3 b h q.val k - Z) :=
    Finset.sum_pos (fun _ _ => Real.exp_pos _) ⟨0, by simp⟩
  rw [val_main_v24_apply, hexp, hsum]
  show Ideal.div _ _ = _
  rw [Ideal.div_coe hpos.ne', soft_shift _ _ 0 Z]
  by_cases hle : s.val ≤ q.val
  · rw [if_pos hle, if_pos hle, ← EReal.coe_mul, mul_one_div]; rfl
  · rw [if_neg hle, if_neg hle, zero_mul]

/-- The reference's result, at an index. -/
theorem reference_apply (b : Fin 32) (t : Fin 2048) (l : Fin 512) :
    val_main_v29 (F := Ideal) x0 x1 x2 x3 x4 x5 (ix3 b t l)
      = (∑ k ∈ Finset.range (t.val + 1), x4 (ix4 b (key k) ⟨l.val / 64, by omega⟩ ⟨l.val % 64, by omega⟩)
          * (soft (score a0 a1 a2 a3 b ⟨l.val / 64, by omega⟩ t.val) (Finset.range (t.val + 1)) 0 k : EReal)) * x5 (ix3 b t l) := by
  rw [val_main_v29_apply, val_main_v28_apply, val_main_v27_apply, val_main_v26_apply, val_main_v25_apply]
  show (_ : EReal) * _ = _
  congr 1
  have el : ∀ k, lidx_main_v25 (idx_main_v26 (idx_main_v27 (ix3 b t l))) k = ix4 b k ⟨l.val / 64, by omega⟩ ⟨l.val % 64, by omega⟩ :=
    fun k => funext fun a => match a with
      | ⟨0, _⟩ => Fin.ext (show ((b.val * 2048 + t.val) * 512 + l.val) / 1048576 = b.val by omega)
      | ⟨1, _⟩ => rfl
      | ⟨2, _⟩ => Fin.ext (show ((b.val * 2048 + t.val) * 512 + l.val) / 64 % 8 = l.val / 64 by omega)
      | ⟨3, _⟩ => Fin.ext (show ((b.val * 2048 + t.val) * 512 + l.val) % 64 = l.val % 64 by omega)
  have er : ∀ k, ridx_main_v25 (idx_main_v26 (idx_main_v27 (ix3 b t l))) k = ix4 b ⟨l.val / 64, by omega⟩ t k :=
    fun k => funext fun a => match a with
      | ⟨0, _⟩ => Fin.ext (show ((b.val * 2048 + t.val) * 512 + l.val) / 1048576 = b.val by omega)
      | ⟨1, _⟩ => Fin.ext (show ((b.val * 2048 + t.val) * 512 + l.val) / 64 % 8 = l.val / 64 by omega)
      | ⟨2, _⟩ => Fin.ext (show ((b.val * 2048 + t.val) * 512 + l.val) / 512 % 2048 = t.val by omega)
      | ⟨3, _⟩ => rfl
  simp only [el, er, weights_apply x0 x1 x2 x3 a0 a1 a2 a3 h0 h1 h2 h3, mul_ite, mul_zero]
  rw [sum_causal (fun k => x4 (ix4 b k ⟨l.val / 64, by omega⟩ ⟨l.val % 64, by omega⟩)
      * (soft (score a0 a1 a2 a3 b ⟨l.val / 64, by omega⟩ t.val) (Finset.range (t.val + 1)) 0 k.val : EReal)) t]
  refine Finset.sum_congr rfl fun k hk => ?_
  have hk' : k < 2048 := by have := Finset.mem_range.mp hk; omega
  rw [key_of_lt k hk']

end

end Cert.Attention

end
-- ==== Proof.Attention.Host.lean ====
/- What the host lines before the kernel hand to it: each head's queries and keys packed to 128 lanes, the queries scaled. -/
module

public import proofs.«01_k».proof.Proof.Gen.KernelIdeal.Value
public import proofs.«01_k».proof.Proof.Attention.Reference
public import Idealize.ShloMosaic.Lib.StableHlo.ReadAt

@[expose] public section

noncomputable section

namespace Cert.Attention

open Cert.KernelIdeal Cert.KernelIdeal.Gen Idealize.ShloMosaic Idealize.ShloMosaic.TcCoe Idealize.ShloMosaic.StableHlo
open Cert.KernelIdeal.Facts₀

variable (m : (ℓ : Loc nD τ sig) → Buf (Elt Ideal) ℓ) (c : Dev nD)

theorem gate_read (j : S32x2048x512.Idx) : V m c main_v17 j = m ((c : Thread nD τ).loc main_arg5) j := by
  unfold V
  after_reads_at

theorem value_read (b : Fin 32) (t : Fin 2048) (l : Fin 512) : V m c main_v16 (ix3 b t l)
    = m ((c : Thread nD τ).loc main_arg4) (ix4 b t ⟨l.val / 64, by omega⟩ ⟨l.val % 64, by omega⟩) := by
  unfold V
  after_reads_at

/-- A packed array, at a lane. -/
def packed (x : Heads → EReal) (y : Rotary → EReal) (b : Fin 32) (t : Fin 2048) (h : Fin 8) (d : Fin 128) : EReal :=
  if h64 : d.val < 64 then x (ix4 b t h ⟨d.val, h64⟩)
  else if h32 : d.val - 64 < 32 then y (ix4 b t h ⟨d.val - 64, h32⟩) else 0

theorem query_read (b : Fin 32) (t : Fin 2048) (l : Fin 1024) : V m c main_v12 (ix3 b t l)
    = Ideal.div (packed (m ((c : Thread nD τ).loc main_arg0)) (m ((c : Thread nD τ).loc main_arg1)) b t
        ⟨l.val / 128, by omega⟩ ⟨l.val % 128, by omega⟩)
      (Ideal.sqrt (Ideal.ofBits .f32 0x42C00000#32) * Ideal.log (Ideal.ofBits .f32 0x40000000#32)) := by
  unfold V
  after_reads_at
  repeat after_reads_at
  rfl

theorem key_read (b : Fin 32) (t : Fin 2048) (l : Fin 1024) : V m c main_v14 (ix3 b t l)
    = packed (m ((c : Thread nD τ).loc main_arg2)) (fun j => m ((c : Thread nD τ).loc main_arg3) (ix3 (j 0) (j 1) (j 3))) b t
        ⟨l.val / 128, by omega⟩ ⟨l.val % 128, by omega⟩ := by
  unfold V
  after_reads_at
  repeat after_reads_at
  rfl

end Cert.Attention

end
-- ==== Proof.Attention.Tile.lean ====
/- What the attention kernel does with one tile of 256 keys against 256 queries of one head, as named steps over any float
   semantics: the scores (keys down, queries across), the causal mask of the diagonal tile, the running column maximum, the
   rescaled running sums, and the last quotient. Then each step read at an index over the extended reals. -/
module

public import proofs.«01_k».proof.Proof.Gen.KernelIdeal.Skeleton
public import proofs.«01_k».proof.Proof.Attention.Online
public import Idealize.ShloMosaic.Lib.Pointwise
public import Idealize.ShloMosaic.Lib.ValueIdx
public import Idealize.ShloMosaic.Lib.WordCmp

@[expose] public section

noncomputable section

namespace Cert.Attention

open Cert.KernelIdeal Cert.KernelIdeal.Gen Idealize.ShloMosaic

variable {F : FTy → Type} [FloatOps F] [Named F]

/-- The two heads' lanes of a block of rows. -/
def headA (x : Vec F S1x256x256 .bf16) : FVec F S256x128 .bf16 :=
  extractStridedSlice S256x128 ![0, 0] (shapeCast S256x256 x shapeCasts_S1x256x256_S256x256) slices_S256x256_o0_0_S256x128
def headB (x : Vec F S1x256x256 .bf16) : FVec F S256x128 .bf16 :=
  extractStridedSlice S256x128 ![0, 128] (shapeCast S256x256 x shapeCasts_S1x256x256_S256x256) slices_S256x256_o0_128_S256x128

/-- Scores: keys down, queries across. -/
def scores (k q : FVec F S256x128 .bf16) : FVec F S256x256 .f32 :=
  matmul dot_S256x128_S256x128_S256x256_1_1_0_0_n_n none k q (constant S256x256 .f32 0x00000000#32)

/-- The diagonal tile's mask, applied. -/
def masked (s : FVec F S256x256 .f32) : FVec F S256x256 .f32 :=
  select k0_pay2 s (broadcast S256x256 (Named.named κ "mask" 0xF149F2CA#32))

/-- The largest score of each query. -/
def colMax (s : FVec F S256x256 .f32) : FVec F S1x256 .f32 :=
  shapeCast S1x256 (multiReduction .maximumf [0] S256 s 0xFF800000#32 reduces_S256x256_S256 (.inl rfl) rfl) shapeCasts_S256_S1x256

/-- Two to the power of the scores less the reference row. -/
def powers (s : FVec F S256x256 .f32) (m : FVec F S1x256 .f32) : FVec F S256x256 .f32 :=
  exp2 (subf s (broadcastTo S256x256 m broadcasts_S1x256_S256x256))

/-- Values (and ones) times powers. -/
def sums (vl : Vec F S1x128x256 .bf16) (p : FVec F S256x256 .f32) : FVec F S128x256 .f32 :=
  matmul dot_S128x256_S256x256_S128x256_1_0_0_1_n_n none (shapeCast S128x256 vl shapeCasts_S1x128x256_S128x256)
    (truncf .bf16 p bitsLt_bf16_f32) (constant S128x256 .f32 0x00000000#32)

/-- The running state of one head and one block of queries: the reference row and the sums. -/
abbrev State (F : FTy → Type) [FloatOps F] [Named F] := FVec F S1x256 .f32 × FVec F S128x256 .f32

/-- The state after the diagonal tile. -/
def start (s : FVec F S256x256 .f32) (vl : Vec F S1x128x256 .bf16) : State F :=
  (colMax (masked s), sums vl (powers (masked s) (colMax (masked s))))

/-- The state after one more tile. -/
def next (t : State F) (s : FVec F S256x256 .f32) (vl : Vec F S1x128x256 .bf16) : State F :=
  (maximumf t.1 (colMax s),
    addf (mulf t.2 (broadcastTo S128x256 (exp2 (subf t.1 (maximumf t.1 (colMax s)))) broadcasts_S1x256_S128x256))
      (sums vl (powers s (maximumf t.1 (colMax s)))))

/-- The state after the diagonal tile and the first `n` tiles before it. -/
def sweep (s : FVec F S256x256 .f32) (vl : Vec F S1x128x256 .bf16) (S : ℕ → FVec F S256x256 .f32)
    (VL : ℕ → Vec F S1x128x256 .bf16) : ℕ → State F
  | 0 => start s vl
  | n + 1 => next (sweep s vl S VL n) (S n) (VL n)

theorem sweep_zero (s : FVec F S256x256 .f32) (vl : Vec F S1x128x256 .bf16) (S : ℕ → FVec F S256x256 .f32)
    (VL : ℕ → Vec F S1x128x256 .bf16) :
    sweep s vl S VL 0 = (colMax (masked s), sums vl (powers (masked s) (colMax (masked s)))) := rfl

theorem sweep_succ (s : FVec F S256x256 .f32) (vl : Vec F S1x128x256 .bf16) (S : ℕ → FVec F S256x256 .f32)
    (VL : ℕ → Vec F S1x128x256 .bf16) (n : ℕ) :
    sweep s vl S VL (n + 1) = next (sweep s vl S VL n) (S n) (VL n) := rfl

theorem next_fst (t : State F) (s : FVec F S256x256 .f32) (vl : Vec F S1x128x256 .bf16) :
    (next t s vl).1 = maximumf t.1 (colMax s) := rfl

/-- The gated quotients of the two heads, queries down, the heads' values across. -/
def finish (a b : FVec F S128x256 .f32) (g : Vec F S1x256x128 .bf16) : FVec F S1x256x128 .bf16 := k0_pay1 a b g

/-! ## Read at an index, over the extended reals -/

theorem headA_apply (x : Vec Ideal S1x256x256 .bf16) (r : Fin 256) (d : Fin 128) :
    headA x (ix2 r d) = x (ix3 0 r ⟨d.val, by omega⟩) := by
  pointwise [headA]

theorem headB_apply (x : Vec Ideal S1x256x256 .bf16) (r : Fin 256) (d : Fin 128) :
    headB x (ix2 r d) = x (ix3 0 r ⟨128 + d.val, by omega⟩) := by
  pointwise [headB]

theorem scores_apply (k q : FVec Ideal S256x128 .bf16) (j i : Fin 256) :
    scores k q (ix2 j i) = ∑ d : Fin 128, k (ix2 j d) * q (ix2 i d) := by
  pointwise [scores]

/-- The mask's constant stands for minus infinity. -/
theorem mask_bot : Named.named (F := Ideal) κ (φ := .f32) "mask" 0xF149F2CA#32 = ⊥ :=
  IdealRules.named_const.ideal_named_scalar _ _ _ _ rfl

theorem ofBits_bot : Ideal.ofBits .f32 0xFF800000#32 = ⊥ := by
  simp [Ideal.ofBits, Ideal.ieee]

theorem masked_apply (s : FVec Ideal S256x256 .f32) (j i : Fin 256) :
    masked s (ix2 j i) = if j.val ≤ i.val then s (ix2 j i) else ⊥ := by
  pointwise [masked, k0_pay2]
  rw [mask_bot, WordCmp.cmpi_sle_ofNat (by omega) (by omega)]
  by_cases h : j.val ≤ i.val <;> simp [h, Scalar.select]

theorem colMax_apply (s : FVec Ideal S256x256 .f32) (i : Fin 256) :
    colMax s (ix2 0 i) = Finset.univ.fold max ⊥ fun j : Fin 256 => s (ix2 j i) := by
  pointwise [colMax]
  rw [ofBits_bot]

theorem powers_apply (s : FVec Ideal S256x256 .f32) (m : FVec Ideal S1x256 .f32) (j i : Fin 256) :
    powers s m (ix2 j i) = Ideal.exp2 (s (ix2 j i) - m (ix2 0 i)) := by
  pointwise [powers]
  rfl

theorem sums_apply (vl : Vec Ideal S1x128x256 .bf16) (p : FVec Ideal S256x256 .f32) (r : Fin 128) (i : Fin 256) :
    sums vl p (ix2 r i) = ∑ j : Fin 256, vl (ix3 0 r j) * p (ix2 j i) := by
  pointwise [sums]

theorem next_snd_apply (t : State Ideal) (s : FVec Ideal S256x256 .f32) (vl : Vec Ideal S1x128x256 .bf16) (r : Fin 128) (i : Fin 256) :
    (next t s vl).2 (ix2 r i)
      = t.2 (ix2 r i) * Ideal.exp2 (t.1 (ix2 0 i) - (next t s vl).1 (ix2 0 i))
        + ∑ j : Fin 256, vl (ix3 0 r j) * Ideal.exp2 (s (ix2 j i) - (next t s vl).1 (ix2 0 i)) := by
  pointwise [next, sums, powers]
  rfl

theorem finish_apply (a b : FVec Ideal S128x256 .f32) (g : Vec Ideal S1x256x128 .bf16) (i : Fin 256) (l : Fin 128) :
    finish a b g (ix3 0 i l)
      = (if h : l.val < 64 then Ideal.div (a (ix2 l i)) (a (ix2 ⟨64 + l.val, by omega⟩ i))
          else Ideal.div (b (ix2 l i)) (b (ix2 ⟨l.val - 64, by omega⟩ i))) * g (ix3 0 i l) := by
  pointwise [finish, k0_pay1]
  by_cases h : l.val < 64
  · simp only [dif_pos h]
  · simp only [dif_neg h]
    rw [show (⟨64 + (l.val - 64), by omega⟩ : Fin 128) = l from Fin.ext (by show 64 + (l.val - 64) = l.val; omega)]

/-! ## What the sweep holds -/

/-- The keys met after the diagonal tile of block `c` at query `i` and the first `n` tiles. -/
def met (c n i : ℕ) : Finset ℕ := Finset.Ico (256 * c) (256 * c + i + 1) ∪ Finset.range (256 * n)

theorem met_zero (c i : ℕ) : met c 0 i = Finset.Ico (256 * c) (256 * c + i + 1) := by
  ext k; simp [met]

theorem met_succ (c n i : ℕ) : met c (n + 1) i = met c n i ∪ Finset.Ico (256 * n) (256 * n + 256) := by
  ext k; simp only [met, Finset.mem_union, Finset.mem_Ico, Finset.mem_range]; omega

theorem met_disjoint (c n i : ℕ) (h : n < c) : Disjoint (met c n i) (Finset.Ico (256 * n) (256 * n + 256)) := by
  rw [Finset.disjoint_left]; intro k; simp only [met, Finset.mem_union, Finset.mem_Ico, Finset.mem_range]; omega

theorem met_self (c i : ℕ) : met c c i = Finset.range (256 * c + i + 1) := by
  ext k; simp only [met, Finset.mem_union, Finset.mem_Ico, Finset.mem_range]; omega

/-- A tile's sum over its 256 keys, by the keys' numbers. -/
theorem sum_tile (f : ℕ → EReal) (a : ℕ) : ∑ j : Fin 256, f (a + j.val) = ∑ k ∈ Finset.Ico a (a + 256), f k := by
  rw [Finset.sum_Ico_eq_sum_range, Nat.add_sub_cancel_left]
  exact Fin.sum_univ_eq_sum_range (fun j => f (a + j)) 256

/-- The diagonal tile's sum, of which only the keys up to the query count. -/
theorem sum_diagonal (f : ℕ → EReal) (a i : ℕ) (hi : i < 256) :
    ∑ j : Fin 256, (if j.val ≤ i then f (a + j.val) else 0) = ∑ k ∈ Finset.Ico a (a + i + 1), f k := by
  rw [Finset.sum_Ico_eq_sum_range, show a + i + 1 - a = i + 1 by omega,
    Fin.sum_univ_eq_sum_range (fun j => if j ≤ i then f (a + j) else 0) 256, ← Finset.sum_filter]
  refine Finset.sum_congr ?_ fun _ _ => rfl
  ext k; simp only [Finset.mem_filter, Finset.mem_range]; omega

/-- After `n` tiles the reference row holds a real, and each sum row the weighted values of the keys met. -/
theorem sweep_spec (c : ℕ) (s : FVec Ideal S256x256 .f32) (vl : Vec Ideal S1x128x256 .bf16)
    (S : ℕ → FVec Ideal S256x256 .f32) (VL : ℕ → Vec Ideal S1x128x256 .bf16) (i : Fin 256)
    (σ : ℕ → ℝ) (V : Fin 128 → ℕ → EReal)
    (hs : ∀ j : Fin 256, s (ix2 j i) = (σ (256 * c + j.val) : EReal))
    (hv : ∀ (r : Fin 128) (j : Fin 256), vl (ix3 0 r j) = V r (256 * c + j.val))
    (hS : ∀ n, n < c → ∀ j : Fin 256, S n (ix2 j i) = (σ (256 * n + j.val) : EReal))
    (hV : ∀ n, n < c → ∀ (r : Fin 128) (j : Fin 256), VL n (ix3 0 r j) = V r (256 * n + j.val)) :
    ∀ n, n ≤ c → ∃ M : ℝ, (sweep s vl S VL n).1 (ix2 0 i) = (M : EReal)
      ∧ ∀ r : Fin 128, (sweep s vl S VL n).2 (ix2 r i) = weighted σ (V r) (met c n i.val) M := by
  intro n
  induction n with
  | zero =>
    intro _
    obtain ⟨M, hM⟩ := fold_max_real (Finset.univ : Finset (Fin 256)) (fun j => masked s (ix2 j i))
      (fun j _ => by
        show masked s (ix2 j i) ≠ ⊤
        rw [masked_apply, hs]; split
        · exact EReal.coe_ne_top _
        · exact bot_ne_top)
      ⟨0, Finset.mem_univ _, by
        show masked s (ix2 0 i) ≠ ⊥
        rw [masked_apply, hs, if_pos (show (0 : Fin 256).val ≤ i.val from Nat.zero_le _)]; exact EReal.coe_ne_bot _⟩
    have hm : colMax (masked s) (ix2 0 i) = (M : EReal) := by rw [colMax_apply]; exact hM
    refine ⟨M, ?_, fun r => ?_⟩
    · rw [sweep_zero]
      dsimp only
      rw [hm]
    rw [sweep_zero]
    dsimp only
    rw [sums_apply, met_zero]
    unfold weighted
    rw [← sum_diagonal (fun k => V r k * (weight σ M k : EReal)) (256 * c) i.val i.isLt]
    refine Finset.sum_congr rfl fun j _ => ?_
    rw [powers_apply, hm, masked_apply, hv, hs]
    by_cases h : j.val ≤ i.val
    · rw [if_pos h, if_pos h, ← EReal.coe_sub, Ideal.exp2_coe]; rfl
    · rw [if_neg h, if_neg h, EReal.bot_sub, Ideal.exp2_bot, mul_zero]
  | succ n ih =>
    intro hn
    obtain ⟨M, hm, hacc⟩ := ih (by omega)
    obtain ⟨T, hT⟩ := fold_max_real (Finset.univ : Finset (Fin 256)) (fun j => S n (ix2 j i))
      (fun j _ => by show S n (ix2 j i) ≠ ⊤; rw [hS n (by omega)]; exact EReal.coe_ne_top _)
      ⟨0, Finset.mem_univ _, by show S n (ix2 0 i) ≠ ⊥; rw [hS n (by omega)]; exact EReal.coe_ne_bot _⟩
    have hm' : (sweep s vl S VL (n + 1)).1 (ix2 0 i) = ((max M T : ℝ) : EReal) := by
      rw [sweep_succ, next_fst]
      change max ((sweep s vl S VL n).1 (ix2 0 i)) (colMax (S n) (ix2 0 i)) = _
      rw [hm, colMax_apply, hT]; exact (EReal.coe_strictMono.monotone.map_max).symm
    refine ⟨max M T, hm', fun r => ?_⟩
    have hgoal := next_snd_apply (sweep s vl S VL n) (S n) (VL n) r i
    rw [← sweep_succ] at hgoal
    rw [hgoal, hm', hm, hacc, ← EReal.coe_sub, Ideal.exp2_coe, weighted_rescale, met_succ,
      weighted_union _ _ _ _ (met_disjoint c n i.val (by omega))]
    congr 1
    unfold weighted
    rw [← sum_tile (fun k => V r k * (weight σ (max M T) k : EReal)) (256 * n)]
    refine Finset.sum_congr rfl fun j _ => ?_
    rw [hS n (by omega), hV n (by omega), ← EReal.coe_sub, Ideal.exp2_coe]; rfl

end Cert.Attention

end
-- ==== Proof.Attention.Pieces.lean ====
/- What one grid point writes: sixteen tiles of 256 rows by 128 lanes, eight blocks of queries for each of two pairs of heads. Each
   tile is the last quotient of the sweep over the key tiles of its two heads. The list the run found is that list. -/
module

public import proofs.«01_k».proof.Proof.Gen.KernelIdeal.Value
public import proofs.«01_k».proof.Proof.Attention.Tile

@[expose] public section

noncomputable section

namespace Cert.Attention

open Cert.KernelIdeal Cert.KernelIdeal.Gen Idealize.ShloMosaic

variable {F : FTy → Type} [FloatOps F] [Named F]

theorem rows_inb (pr n : ℕ) : ∀ a, ![0, 256 * (n % 8), 256 * (pr % 2)] a + S1x256x256.size a ≤ S1x2048x512.size a := by
  intro a
  match a with
  | ⟨0, _⟩ => exact Nat.le_refl 1
  | ⟨1, _⟩ => show 256 * (n % 8) + 256 ≤ 2048; omega
  | ⟨2, _⟩ => show 256 * (pr % 2) + 256 ≤ 512; omega

theorem vals_inb (h n : ℕ) : ∀ a, ![h % 4, 0, 256 * (n % 8)] a + S1x128x256.size a ≤ S4x128x2048.size a := by
  intro a
  match a with
  | ⟨0, _⟩ => show h % 4 + 1 ≤ 4; omega
  | ⟨1, _⟩ => exact Nat.le_refl 128
  | ⟨2, _⟩ => show 256 * (n % 8) + 256 ≤ 2048; omega

theorem out_inb (pr n : ℕ) : ∀ a, ![0, 256 * (n % 8), 128 * (pr % 2)] a + S1x256x128.size a ≤ S1x2048x256.size a := by
  intro a
  match a with
  | ⟨0, _⟩ => exact Nat.le_refl 1
  | ⟨1, _⟩ => show 256 * (n % 8) + 256 ≤ 2048; omega
  | ⟨2, _⟩ => show 128 * (pr % 2) + 128 ≤ 256; omega

/-- Block `n` of 256 rows of queries (or keys), the lanes of pair `pr`. -/
def rows (M : Memref sig .tc .vmem S1x2048x512 .bf16) (hM : M.IsWhole) (x : Vec F S1x2048x512 .bf16) (pr n : ℕ) :
    Vec F S1x256x256 .bf16 :=
  View.readAt (Elt F) M.view (Rect.unit (s := S1x2048x512) ![0, 256 * (n % 8), 256 * (pr % 2)] S1x256x256.size (rows_inb pr n)).toLoadRect
    (hM.unread x)

/-- Block `n` of 256 rows of gates, the lanes of pair `pr`. -/
def gates (M : Memref sig .tc .vmem S1x2048x256 .bf16) (hM : M.IsWhole) (x : Vec F S1x2048x256 .bf16) (pr n : ℕ) :
    Vec F S1x256x128 .bf16 :=
  View.readAt (Elt F) M.view (Rect.unit (s := S1x2048x256) ![0, 256 * (n % 8), 128 * (pr % 2)] S1x256x128.size (out_inb pr n)).toLoadRect
    (hM.unread x)

/-- Block `n` of 256 columns of head `h`'s prepared values. -/
def vals (c : Dev nD) (M : Memref sig .tc .vmem S1x2048x256 .bf16) (hM : M.IsWhole) (T : Memref sig .tc .vmem S4x128x2048 .bf16)
    (x : Vec F S1x2048x256 .bf16) (h n : ℕ) : Vec F S1x128x256 .bf16 :=
  T.view.readCov (kernelRun0_A.sl.HS0_4 c M hM x)
    (Rect.unit (s := S4x128x2048) ![h % 4, 0, 256 * (n % 8)] S1x128x256.size (vals_inb h n)).toLoadRect

section
variable (c : Dev nD) (i : grid0.Coords) (arg2 : Memref sig .tc .vmem S1x2048x512 .bf16) (harg2 : arg2.IsWhole)
  (arg3 : Memref sig .tc .vmem S1x2048x512 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x2048x256 .bf16) (harg6 : arg6.IsWhole)
  (arg7 : Memref sig .tc .vmem S4x128x2048 .bf16) (harg7 : arg7.IsWhole)
  (x0 : Vec F S1x2048x512 .bf16) (x1 : Vec F S1x2048x512 .bf16) (x2 : Vec F S1x2048x256 .bf16) (x3 : Vec F S1x2048x256 .bf16)

/-- The sums of the pair's first head after the whole sweep of query block `n`. -/
def sumsA (pr n : ℕ) : FVec F S128x256 .f32 :=
  (sweep (scores (headA (rows arg3 harg3 x1 pr n)) (headA (rows arg2 harg2 x0 pr n))) (vals c arg4 harg4 arg7 x2 (2 * pr) n)
    (fun k => scores (headA (rows arg3 harg3 x1 pr k)) (headA (rows arg2 harg2 x0 pr n)))
    (fun k => vals c arg4 harg4 arg7 x2 (2 * pr) k) n).2

/-- The sums of the pair's second head. -/
def sumsB (pr n : ℕ) : FVec F S128x256 .f32 :=
  (sweep (scores (headB (rows arg3 harg3 x1 pr n)) (headB (rows arg2 harg2 x0 pr n))) (vals c arg4 harg4 arg7 x2 (2 * pr + 1) n)
    (fun k => scores (headB (rows arg3 harg3 x1 pr k)) (headB (rows arg2 harg2 x0 pr n)))
    (fun k => vals c arg4 harg4 arg7 x2 (2 * pr + 1) k) n).2

/-- The tile written for pair `pr` and query block `n`. -/
def tile (pr n : ℕ) : Vec F S1x256x128 .bf16 :=
  finish (sumsA c arg2 harg2 arg3 harg3 arg4 harg4 arg7 x0 x1 x2 pr n) (sumsB c arg2 harg2 arg3 harg3 arg4 harg4 arg7 x0 x1 x2 pr n)
    (gates arg5 harg5 x3 pr n)

/-- The tile with where it is written. -/
def piece (pr n : ℕ) : View.Piece (Elt F) S1x2048x256 .bf16 :=
  ⟨Rect.unit (s := S1x2048x256) ![0, 256 * (n % 8), 128 * (pr % 2)] S1x256x128.size (out_inb pr n),
    tile c arg2 harg2 arg3 harg3 arg4 harg4 arg5 harg5 arg7 x0 x1 x2 x3 pr n⟩

set_option maxRecDepth 100000 in
set_option maxHeartbeats 4000000 in
/-- The list of writes the run found is the sixteen tiles. -/
theorem pieces : (kernelRun0_A c i arg2 harg2 arg3 harg3 arg4 harg4 arg5 harg5 arg6 harg6 arg7 harg7 x0 x1 x2 x3).1
    = [(1, 7), (1, 6), (1, 5), (1, 4), (1, 3), (1, 2), (1, 1), (1, 0), (0, 7), (0, 6), (0, 5), (0, 4), (0, 3), (0, 2), (0, 1), (0, 0)].map
        fun p => piece c arg2 harg2 arg3 harg3 arg4 harg4 arg5 harg5 arg7 x0 x1 x2 x3 p.1 p.2 := by
  rfl

end

end Cert.Attention

end
-- ==== Proof.Attention.Prepared.lean ====
/- The prepared values: before the sweeps a grid point writes, for each of its four heads, the head's values with the keys across
   and, in the other 64 rows, ones; a row of ones sums the powers themselves. Here the scratch array is read at an index. -/
module

public import proofs.«01_k».proof.Proof.Attention.Pieces
public import Idealize.ShloMosaic.Lib.WholeRead
public import Idealize.ShloMosaic.Lib.IdealHost

@[expose] public section

noncomputable section

namespace Cert.Attention

open Cert.KernelIdeal Cert.KernelIdeal.Gen Idealize.ShloMosaic

theorem rows_apply (M : Memref sig .tc .vmem S1x2048x512 .bf16) (hM : M.IsWhole) (x : Vec Ideal S1x2048x512 .bf16) (pr n : ℕ)
    (hpr : pr < 2) (hn : n < 8) (r d : Fin 256) :
    rows M hM x pr n (ix3 0 r d) = x (ix3 0 ⟨256 * n + r.val, by omega⟩ ⟨256 * pr + d.val, by omega⟩) := by
  unfold rows
  rw [Memref.IsWhole.readAt_unread]
  refine congrArg x (funext fun a => Fin.ext ?_)
  match a with
  | ⟨0, _⟩ => rfl
  | ⟨1, _⟩ => show 256 * (n % 8) + 1 * r.val = 256 * n + r.val; omega
  | ⟨2, _⟩ => show 256 * (pr % 2) + 1 * d.val = 256 * pr + d.val; omega

theorem gates_apply (M : Memref sig .tc .vmem S1x2048x256 .bf16) (hM : M.IsWhole) (x : Vec Ideal S1x2048x256 .bf16) (pr n : ℕ)
    (hpr : pr < 2) (hn : n < 8) (r : Fin 256) (l : Fin 128) :
    gates M hM x pr n (ix3 0 r l) = x (ix3 0 ⟨256 * n + r.val, by omega⟩ ⟨128 * pr + l.val, by omega⟩) := by
  unfold gates
  rw [Memref.IsWhole.readAt_unread]
  refine congrArg x (funext fun a => Fin.ext ?_)
  match a with
  | ⟨0, _⟩ => rfl
  | ⟨1, _⟩ => show 256 * (n % 8) + 1 * r.val = 256 * n + r.val; omega
  | ⟨2, _⟩ => show 128 * (pr % 2) + 1 * l.val = 128 * pr + l.val; omega

theorem lanes_inb (pr : ℕ) : ∀ a, ![0, 0, 128 * (pr % 2)] a + S1x2048x128.size a ≤ S1x2048x256.size a := by
  intro a
  match a with
  | ⟨0, _⟩ => exact Nat.le_refl 1
  | ⟨1, _⟩ => exact Nat.le_refl 2048
  | ⟨2, _⟩ => show 128 * (pr % 2) + 128 ≤ 256; omega

theorem head_inb (h : ℕ) : ∀ a, ![h % 4, 0, 0] a + S1x128x2048.size a ≤ S4x128x2048.size a := by
  intro a
  match a with
  | ⟨0, _⟩ => show h % 4 + 1 ≤ 4; omega
  | ⟨1, _⟩ => exact Nat.le_refl 128
  | ⟨2, _⟩ => exact Nat.le_refl 2048

section
variable {F : FTy → Type} [FloatOps F]
variable (c : Dev nD) (M : Memref sig .tc .vmem S1x2048x256 .bf16) (hM : M.IsWhole)

/-- All rows of values, the lanes of pair `pr`. -/
def lanes (x : Vec F S1x2048x256 .bf16) (pr : ℕ) : Vec F S1x2048x128 .bf16 :=
  View.readAt (Elt F) M.view (Rect.unit (s := S1x2048x256) ![0, 0, 128 * (pr % 2)] S1x2048x128.size (lanes_inb pr)).toLoadRect
    (hM.unread x)

/-- What is written for one head. -/
def headPiece (h : ℕ) (w : Vec F S1x128x2048 .bf16) : View.Piece (Elt F) S4x128x2048 .bf16 :=
  ⟨Rect.unit (s := S4x128x2048) ![h % 4, 0, 0] S1x128x2048.size (head_inb h), w⟩

/-- The four writes to the scratch array. -/
theorem head_pieces (x : Vec F S1x2048x256 .bf16) :
    kernelRun0_A.sl.HS0_4 c M hM x
      = [headPiece 3 (k0_pay6 (lanes M hM x 1)), headPiece 2 (k0_pay5 (lanes M hM x 1)),
          headPiece 1 (k0_pay6 (lanes M hM x 0)), headPiece 0 (k0_pay5 (lanes M hM x 0))] := rfl

end

theorem lanes_apply (M : Memref sig .tc .vmem S1x2048x256 .bf16) (hM : M.IsWhole) (x : Vec Ideal S1x2048x256 .bf16) (pr : ℕ)
    (hpr : pr < 2) (t : Fin 2048) (l : Fin 128) :
    lanes M hM x pr (ix3 0 t l) = x (ix3 0 t ⟨128 * pr + l.val, by omega⟩) := by
  unfold lanes
  rw [Memref.IsWhole.readAt_unread]
  refine congrArg x (funext fun a => Fin.ext ?_)
  match a with
  | ⟨0, _⟩ => rfl
  | ⟨1, _⟩ => show 0 + 1 * t.val = t.val; omega
  | ⟨2, _⟩ => show 128 * (pr % 2) + 1 * l.val = 128 * pr + l.val; omega

theorem first_apply (w : Vec Ideal S1x2048x128 .bf16) (r : Fin 128) (t : Fin 2048) :
    k0_pay5 w (ix3 0 r t) = if r.val < 64 then w (ix3 0 t r) else 1 := by
  pointwise [k0_pay5, k0_pay3, k0_pay4]
  rw [WordCmp.cmpi_slt_ofNat (by omega) (by omega)]
  by_cases h : r.val < 64 <;> simp [h, Scalar.select]

theorem second_apply (w : Vec Ideal S1x2048x128 .bf16) (r : Fin 128) (t : Fin 2048) :
    k0_pay6 w (ix3 0 r t) = if r.val < 64 then 1 else w (ix3 0 t r) := by
  pointwise [k0_pay6, k0_pay3, k0_pay4]
  rw [WordCmp.cmpi_slt_ofNat (by omega) (by omega)]
  by_cases h : r.val < 64 <;> simp [h, Scalar.select]

/-- Row `r` at key `t` of head `h`'s prepared values. -/
def prepared (x : Vec Ideal S1x2048x256 .bf16) (h : Fin 4) (r : Fin 128) (t : Fin 2048) : EReal :=
  if (h.val % 2 = 0 ↔ r.val < 64) then x (ix3 0 t ⟨128 * (h.val / 2) + r.val, by omega⟩) else 1

theorem headPiece_apply (x : Vec Ideal S1x2048x256 .bf16) (h : Fin 4) (w : Vec Ideal S1x128x2048 .bf16)
    (hw : ∀ r t, w (ix3 0 r t) = prepared x h r t) (y : S1x128x2048.Idx) :
    (headPiece h.val w).2 y
      = (fun i : S4x128x2048.Idx => prepared x (i 0) (i 1) (i 2)) ((headPiece (F := Ideal) h.val w).1.emb y) := by
  obtain ⟨r, t, rfl⟩ : ∃ (r : Fin 128) (t : Fin 2048), y = ix3 0 r t :=
    ⟨y 1, y 2, (eq_ix3 y).trans (congrArg (fun u => ix3 u (y 1) (y 2))
      (Fin.ext (by have := (y 0).isLt; change (y 0).val < 1 at this; show (y 0).val = 0; omega)))⟩
  have e : (headPiece (F := Ideal) h.val w).1.emb (ix3 0 r t) = ix3 h r t := funext fun a => Fin.ext (by
    match a with
    | ⟨0, _⟩ => show h.val % 4 + 1 * 0 = h.val; omega
    | ⟨1, _⟩ => show 0 + 1 * r.val = r.val; omega
    | ⟨2, _⟩ => show 0 + 1 * t.val = t.val; omega)
  rw [e]
  exact hw r t

/-- A load of prepared values, at an index. -/
theorem vals_apply (c : Dev nD) (M : Memref sig .tc .vmem S1x2048x256 .bf16) (hM : M.IsWhole) (T : Memref sig .tc .vmem S4x128x2048 .bf16)
    (x : Vec Ideal S1x2048x256 .bf16) (h : Fin 4) (n : ℕ) (hn : n < 8) (r : Fin 128) (j : Fin 256) :
    vals c M hM T x h.val n (ix3 0 r j) = prepared x h r ⟨256 * n + j.val, by omega⟩ := by
  unfold vals
  rw [View.readCov_eq_canon', head_pieces]
  have key := View.canon_apply_of_pieces (Val := Elt Ideal) (fun i : S4x128x2048.Idx => prepared x (i 0) (i 1) (i 2))
    [headPiece 3 (k0_pay6 (lanes M hM x 1)), headPiece 2 (k0_pay5 (lanes M hM x 1)),
      headPiece 1 (k0_pay6 (lanes M hM x 0)), headPiece 0 (k0_pay5 (lanes M hM x 0))]
    (by
      intro p hp
      simp only [List.mem_cons, List.not_mem_nil, or_false] at hp
      rcases hp with rfl | rfl | rfl | rfl
      · exact headPiece_apply x 3 _ fun r t => by
          rw [second_apply, lanes_apply M hM x 1 (by omega)]; by_cases h : r.val < 64 <;> simp [prepared, h]
      · exact headPiece_apply x 2 _ fun r t => by
          rw [first_apply, lanes_apply M hM x 1 (by omega)]; by_cases h : r.val < 64 <;> simp [prepared, h]
      · exact headPiece_apply x 1 _ fun r t => by
          rw [second_apply, lanes_apply M hM x 0 (by omega)]; by_cases h : r.val < 64 <;> simp [prepared, h]
      · exact headPiece_apply x 0 _ fun r t => by
          rw [first_apply, lanes_apply M hM x 0 (by omega)]; by_cases h : r.val < 64 <;> simp [prepared, h])
    (ix3 h r ⟨256 * n + j.val, by omega⟩)
    (by
      have mem : ∀ (h : Fin 4) (w : Vec Ideal S1x128x2048 .bf16) (t : Fin 2048), ix3 h r t ∈ (headPiece (F := Ideal) h.val w).1.set := by
        intro h w t
        have e : (headPiece (F := Ideal) h.val w).1.idx (ix3 0 r t) = ix3 h r t := funext fun a => Fin.ext (by
          match a with
          | ⟨0, _⟩ => show h.val % 4 + 1 * 0 = h.val; omega
          | ⟨1, _⟩ => show 0 + 1 * r.val = r.val; omega
          | ⟨2, _⟩ => show 0 + 1 * t.val = t.val; omega)
        rw [← e]; exact LoadRect.idx_mem _ _
      match h with
      | ⟨0, _⟩ => exact ⟨headPiece 0 (k0_pay5 (lanes M hM x 0)), by simp, mem 0 _ _⟩
      | ⟨1, _⟩ => exact ⟨headPiece 1 (k0_pay6 (lanes M hM x 0)), by simp, mem 1 _ _⟩
      | ⟨2, _⟩ => exact ⟨headPiece 2 (k0_pay5 (lanes M hM x 1)), by simp, mem 2 _ _⟩
      | ⟨3, _⟩ => exact ⟨headPiece 3 (k0_pay6 (lanes M hM x 1)), by simp, mem 3 _ _⟩)
  refine Eq.trans (congrArg _ ?_) key
  refine funext fun a => Fin.ext ?_
  match a with
  | ⟨0, _⟩ => show h.val % 4 + 1 * 0 = h.val; omega
  | ⟨1, _⟩ => show 0 + 1 * r.val = r.val; omega
  | ⟨2, _⟩ => show 256 * (n % 8) + 1 * j.val = 256 * n + j.val; omega

end Cert.Attention

end
-- ==== Proof.Attention.Block.lean ====
/- What one grid point leaves in its output block, at an index: the head's values of the keys up to the query, each times its softmax
   weight, summed, times the gate. -/
module

public import proofs.«01_k».proof.Proof.Attention.Prepared

@[expose] public section

noncomputable section

namespace Cert.Attention

open Cert.KernelIdeal Cert.KernelIdeal.Gen Idealize.ShloMosaic

/-- Head `h`'s score of query `t` against key `k`, from the block's rows. -/
def blockScore (x0 x1 : Vec Ideal S1x2048x512 .bf16) (h : Fin 4) (t k : Fin 2048) : EReal :=
  ∑ d : Fin 128, x1 (ix3 0 k ⟨128 * h.val + d.val, by omega⟩) * x0 (ix3 0 t ⟨128 * h.val + d.val, by omega⟩)

/-- The block's result at row `t` and lane `l`, of the real scores `z`. -/
def blockOut (z : Fin 4 → ℕ → ℕ → ℝ) (x2 x3 : Vec Ideal S1x2048x256 .bf16) (t : Fin 2048) (l : Fin 256) : EReal :=
  (∑ k ∈ Finset.range (t.val + 1), x2 (ix3 0 (key k) l)
      * (soft (z ⟨l.val / 64, by omega⟩ t.val) (Finset.range (t.val + 1)) 0 k : EReal)) * x3 (ix3 0 t l)

section
variable (c : Dev nD) (i : grid0.Coords) (arg2 : Memref sig .tc .vmem S1x2048x512 .bf16) (harg2 : arg2.IsWhole)
  (arg3 : Memref sig .tc .vmem S1x2048x512 .bf16) (harg3 : arg3.IsWhole) (arg4 : Memref sig .tc .vmem S1x2048x256 .bf16) (harg4 : arg4.IsWhole)
  (arg5 : Memref sig .tc .vmem S1x2048x256 .bf16) (harg5 : arg5.IsWhole) (arg6 : Memref sig .tc .vmem S1x2048x256 .bf16) (harg6 : arg6.IsWhole)
  (arg7 : Memref sig .tc .vmem S4x128x2048 .bf16) (harg7 : arg7.IsWhole)
  (x0 : Vec Ideal S1x2048x512 .bf16) (x1 : Vec Ideal S1x2048x512 .bf16) (x2 : Vec Ideal S1x2048x256 .bf16) (x3 : Vec Ideal S1x2048x256 .bf16)
  (σ z : Fin 4 → ℕ → ℕ → ℝ) (hσ : ∀ h t k, blockScore x0 x1 h t k = (σ h t.val k.val : EReal))
  (hz : ∀ h t k, σ h t k * Real.log 2 = z h t k)

include hσ

theorem scoresA_eq (pr : Fin 2) (n : Fin 8) (m : ℕ) (hm : m < 8) (i j : Fin 256) :
    scores (headA (rows arg3 harg3 x1 pr.val m)) (headA (rows arg2 harg2 x0 pr.val n.val)) (ix2 j i)
      = (σ ⟨2 * pr.val, by omega⟩ (256 * n.val + i.val) (256 * m + j.val) : EReal) := by
  rw [scores_apply, ← hσ ⟨2 * pr.val, by omega⟩ ⟨256 * n.val + i.val, by omega⟩ ⟨256 * m + j.val, by omega⟩]
  refine Finset.sum_congr rfl fun d _ => ?_
  rw [headA_apply, headA_apply, rows_apply _ _ _ _ _ (by omega) hm, rows_apply _ _ _ _ _ (by omega) (by omega)]
  have e : (⟨256 * pr.val + d.val, by omega⟩ : Fin 512) = ⟨128 * (2 * pr.val) + d.val, by omega⟩ := Fin.ext (by dsimp only; omega)
  exact congrArg₂ (· * ·) (congrArg (fun l => x1 (ix3 0 _ l)) e) (congrArg (fun l => x0 (ix3 0 _ l)) e)

theorem scoresB_eq (pr : Fin 2) (n : Fin 8) (m : ℕ) (hm : m < 8) (i j : Fin 256) :
    scores (headB (rows arg3 harg3 x1 pr.val m)) (headB (rows arg2 harg2 x0 pr.val n.val)) (ix2 j i)
      = (σ ⟨2 * pr.val + 1, by omega⟩ (256 * n.val + i.val) (256 * m + j.val) : EReal) := by
  rw [scores_apply, ← hσ ⟨2 * pr.val + 1, by omega⟩ ⟨256 * n.val + i.val, by omega⟩ ⟨256 * m + j.val, by omega⟩]
  refine Finset.sum_congr rfl fun d _ => ?_
  rw [headB_apply, headB_apply, rows_apply _ _ _ _ _ (by omega) hm, rows_apply _ _ _ _ _ (by omega) (by omega)]
  have e : (⟨256 * pr.val + (128 + d.val), by omega⟩ : Fin 512) = ⟨128 * (2 * pr.val + 1) + d.val, by omega⟩ :=
    Fin.ext (by dsimp only; omega)
  exact congrArg₂ (· * ·) (congrArg (fun l => x1 (ix3 0 _ l)) e) (congrArg (fun l => x0 (ix3 0 _ l)) e)

theorem sumsA_eq (pr : Fin 2) (n : Fin 8) (i : Fin 256) : ∃ M : ℝ, ∀ r : Fin 128,
    sumsA c arg2 harg2 arg3 harg3 arg4 harg4 arg7 x0 x1 x2 pr.val n.val (ix2 r i)
      = weighted (σ ⟨2 * pr.val, by omega⟩ (256 * n.val + i.val)) (fun k => prepared x2 ⟨2 * pr.val, by omega⟩ r (key k))
          (Finset.range (256 * n.val + i.val + 1)) M := by
  have hv : ∀ m, m < 8 → ∀ (r : Fin 128) (j : Fin 256), vals c arg4 harg4 arg7 x2 (2 * pr.val) m (ix3 0 r j)
      = prepared x2 ⟨2 * pr.val, by omega⟩ r (key (256 * m + j.val)) := fun m hm r j => by
    rw [key_of_lt _ (by omega)]
    exact vals_apply c arg4 harg4 arg7 x2 ⟨2 * pr.val, by omega⟩ m hm r j
  obtain ⟨M, -, h⟩ := sweep_spec n.val
    (scores (headA (rows arg3 harg3 x1 pr.val n.val)) (headA (rows arg2 harg2 x0 pr.val n.val))) (vals c arg4 harg4 arg7 x2 (2 * pr.val) n.val)
    (fun k => scores (headA (rows arg3 harg3 x1 pr.val k)) (headA (rows arg2 harg2 x0 pr.val n.val)))
    (fun k => vals c arg4 harg4 arg7 x2 (2 * pr.val) k) i (σ ⟨2 * pr.val, by omega⟩ (256 * n.val + i.val))
    (fun r k => prepared x2 ⟨2 * pr.val, by omega⟩ r (key k))
    (fun j => scoresA_eq arg2 harg2 arg3 harg3 x0 x1 σ hσ pr n n.val n.isLt i j) (fun r j => hv n.val n.isLt r j)
    (fun m hm j => scoresA_eq arg2 harg2 arg3 harg3 x0 x1 σ hσ pr n m (by omega) i j) (fun m hm r j => hv m (by omega) r j) n.val le_rfl
  exact ⟨M, fun r => by rw [← met_self]; exact h r⟩

theorem sumsB_eq (pr : Fin 2) (n : Fin 8) (i : Fin 256) : ∃ M : ℝ, ∀ r : Fin 128,
    sumsB c arg2 harg2 arg3 harg3 arg4 harg4 arg7 x0 x1 x2 pr.val n.val (ix2 r i)
      = weighted (σ ⟨2 * pr.val + 1, by omega⟩ (256 * n.val + i.val)) (fun k => prepared x2 ⟨2 * pr.val + 1, by omega⟩ r (key k))
          (Finset.range (256 * n.val + i.val + 1)) M := by
  have hv : ∀ m, m < 8 → ∀ (r : Fin 128) (j : Fin 256), vals c arg4 harg4 arg7 x2 (2 * pr.val + 1) m (ix3 0 r j)
      = prepared x2 ⟨2 * pr.val + 1, by omega⟩ r (key (256 * m + j.val)) := fun m hm r j => by
    rw [key_of_lt _ (by omega)]
    exact vals_apply c arg4 harg4 arg7 x2 ⟨2 * pr.val + 1, by omega⟩ m hm r j
  obtain ⟨M, -, h⟩ := sweep_spec n.val
    (scores (headB (rows arg3 harg3 x1 pr.val n.val)) (headB (rows arg2 harg2 x0 pr.val n.val))) (vals c arg4 harg4 arg7 x2 (2 * pr.val + 1) n.val)
    (fun k => scores (headB (rows arg3 harg3 x1 pr.val k)) (headB (rows arg2 harg2 x0 pr.val n.val)))
    (fun k => vals c arg4 harg4 arg7 x2 (2 * pr.val + 1) k) i (σ ⟨2 * pr.val + 1, by omega⟩ (256 * n.val + i.val))
    (fun r k => prepared x2 ⟨2 * pr.val + 1, by omega⟩ r (key k))
    (fun j => scoresB_eq arg2 harg2 arg3 harg3 x0 x1 σ hσ pr n n.val n.isLt i j) (fun r j => hv n.val n.isLt r j)
    (fun m hm j => scoresB_eq arg2 harg2 arg3 harg3 x0 x1 σ hσ pr n m (by omega) i j) (fun m hm r j => hv m (by omega) r j) n.val le_rfl
  exact ⟨M, fun r => by rw [← met_self]; exact h r⟩

include hz

theorem tile_apply (pr : Fin 2) (n : Fin 8) (i : Fin 256) (l : Fin 128) :
    tile c arg2 harg2 arg3 harg3 arg4 harg4 arg5 harg5 arg7 x0 x1 x2 x3 pr.val n.val (ix3 0 i l)
      = blockOut z x2 x3 ⟨256 * n.val + i.val, by omega⟩ ⟨128 * pr.val + l.val, by omega⟩ := by
  obtain ⟨MA, hA⟩ := sumsA_eq c arg2 harg2 arg3 harg3 arg4 harg4 arg7 x0 x1 x2 σ hσ pr n i
  obtain ⟨MB, hB⟩ := sumsB_eq c arg2 harg2 arg3 harg3 arg4 harg4 arg7 x0 x1 x2 σ hσ pr n i
  unfold tile blockOut
  rw [finish_apply, gates_apply _ _ _ _ _ (by omega) (by omega)]
  congr 1
  by_cases h : l.val < 64
  · rw [dif_pos h, hA, hA]
    have e1 : (fun k => prepared x2 ⟨2 * pr.val, by omega⟩ ⟨64 + l.val, by omega⟩ (key k)) = fun _ => 1 := funext fun k => by
      simp [prepared]
    have e2 : (fun k => prepared x2 ⟨2 * pr.val, by omega⟩ l (key k))
        = fun k => x2 (ix3 0 (key k) ⟨128 * pr.val + l.val, by omega⟩) := funext fun k => by
      simp [prepared, h]
    have e3 : (⟨(128 * pr.val + l.val) / 64, by omega⟩ : Fin 4) = ⟨2 * pr.val, by omega⟩ := Fin.ext (by dsimp only; omega)
    rw [e1, e2, weighted_div _ (z ⟨2 * pr.val, by omega⟩ (256 * n.val + i.val)) (hz _ _) _ _ ⟨0, by simp⟩ _ 0]
    simp only [e3]
  · rw [dif_neg h, hB, hB]
    have e1 : (fun k => prepared x2 ⟨2 * pr.val + 1, by omega⟩ ⟨l.val - 64, by omega⟩ (key k)) = fun _ => 1 := funext fun k => by
      have : l.val - 64 < 64 := by omega
      simp [prepared, this]
    have e2 : (fun k => prepared x2 ⟨2 * pr.val + 1, by omega⟩ l (key k))
        = fun k => x2 (ix3 0 (key k) ⟨128 * pr.val + l.val, by omega⟩) := funext fun k => by
      have e : (2 * pr.val + 1) / 2 = pr.val := by omega
      have e' : ((2 * pr.val + 1) % 2 = 0 ↔ l.val < 64) := by omega
      simp only [prepared, e, if_pos e']
    have e3 : (⟨(128 * pr.val + l.val) / 64, by omega⟩ : Fin 4) = ⟨2 * pr.val + 1, by omega⟩ := Fin.ext (by dsimp only; omega)
    rw [e1, e2, weighted_div _ (z ⟨2 * pr.val + 1, by omega⟩ (256 * n.val + i.val)) (hz _ _) _ _ ⟨0, by simp⟩ _ 0]
    simp only [e3]

/-- The block a grid point leaves, at an index. -/
theorem block_apply (t : Fin 2048) (l : Fin 256) :
    out0_A_4 c i arg2 harg2 arg3 harg3 arg4 harg4 arg5 harg5 arg6 harg6 arg7 harg7 x0 x1 x2 x3 (ix3 0 t l) = blockOut z x2 x3 t l := by
  unfold out0_A_4
  rw [View.read_writes_junk_eq_canon, pieces]
  refine View.canon_apply_of_pieces (Val := Elt Ideal) (e := .bf16) (fun y : S1x2048x256.Idx => blockOut z x2 x3 (y 1) (y 2)) _ ?_ (ix3 0 t l) ?_
  · intro p hp y
    obtain ⟨⟨pr, n⟩, hmem, rfl⟩ := List.mem_map.mp hp
    have hb : ∀ q ∈ [(1, 7), (1, 6), (1, 5), (1, 4), (1, 3), (1, 2), (1, 1), (1, 0), (0, 7), (0, 6), (0, 5), (0, 4), (0, 3), (0, 2), (0, 1), (0, 0)],
        q.1 < 2 ∧ q.2 < 8 := by decide
    obtain ⟨hpr, hn⟩ := hb _ hmem
    have hy := eq_ix3 (n0 := 1) (n1 := 256) (n2 := 128) y
    have y0 : (y 0).val = 0 := by have := (y 0).isLt; change (y 0).val < 1 at this; omega
    have l1 : (y 1).val < 256 := (y 1).isLt
    have l2 : (y 2).val < 128 := (y 2).isLt
    have h0 : y = ix3 (n0 := 1) (n1 := 256) (n2 := 128) 0 (y 1) (y 2) := hy.trans (by congr 1; exact Fin.ext y0)
    have := tile_apply c arg2 harg2 arg3 harg3 arg4 harg4 arg5 harg5 arg7 x0 x1 x2 x3 σ z hσ hz ⟨pr, hpr⟩ ⟨n, hn⟩ (y 1) (y 2)
    refine (congrArg (tile c arg2 harg2 arg3 harg3 arg4 harg4 arg5 harg5 arg7 x0 x1 x2 x3 pr n) h0).trans (this.trans ?_)
    refine congrArg₂ (blockOut z x2 x3) (Fin.ext ?_) (Fin.ext ?_)
    · show 256 * n + (y 1).val = 256 * (n % 8) + 1 * (y 1).val; omega
    · show 128 * pr + (y 2).val = 128 * (pr % 2) + 1 * (y 2).val; omega
  · have hc : ∀ (pr : Fin 2) (n : Fin 8), (pr.val, n.val) ∈ [(1, 7), (1, 6), (1, 5), (1, 4), (1, 3), (1, 2), (1, 1), (1, 0), (0, 7), (0, 6), (0, 5), (0, 4), (0, 3), (0, 2), (0, 1), (0, 0)] := by
      decide
    refine ⟨_, List.mem_map_of_mem (hc ⟨l.val / 128, by omega⟩ ⟨t.val / 256, by omega⟩), ?_⟩
    have e : (piece c arg2 harg2 arg3 harg3 arg4 harg4 arg5 harg5 arg7 x0 x1 x2 x3 (l.val / 128) (t.val / 256)).1.idx
        (ix3 (n0 := 1) (n1 := 256) (n2 := 128) 0 ⟨t.val % 256, by omega⟩ ⟨l.val % 128, by omega⟩) = ix3 0 t l := funext fun a => Fin.ext (by
      match a with
      | ⟨0, _⟩ => rfl
      | ⟨1, _⟩ => show 256 * (t.val / 256 % 8) + 1 * (t.val % 256) = t.val; omega
      | ⟨2, _⟩ => show 128 * (l.val / 128 % 2) + 1 * (l.val % 128) = l.val; omega)
    rw [← e]; exact LoadRect.idx_mem _ _

end

end Cert.Attention

end
-- ==== Proof.Attention.Blocks.lean ====
/- The blocks a grid point reads, at an index, and their scores. -/
module

public import proofs.«01_k».proof.Proof.Attention.Host
public import proofs.«01_k».proof.Proof.Attention.Block

@[expose] public section

noncomputable section

namespace Cert.Attention

open Cert.KernelIdeal Cert.KernelIdeal.Gen Idealize.ShloMosaic Idealize.ShloMosaic.TcCoe Idealize.SL.Sem

/-- The attention of one query and head, gated: what both programs compute. -/
def attention (a0 : Heads → ℝ) (a1 : Rotary → ℝ) (a2 : Heads → ℝ) (a3 : Shared → ℝ) (x4 : Heads → EReal)
    (x5 : (⟨3, ![32, 2048, 512]⟩ : Shape).Idx → EReal) (b : Fin 32) (t : Fin 2048) (l : Fin 512) : EReal :=
  (∑ k ∈ Finset.range (t.val + 1), x4 (ix4 b (key k) ⟨l.val / 64, by omega⟩ ⟨l.val % 64, by omega⟩)
    * (soft (score a0 a1 a2 a3 b ⟨l.val / 64, by omega⟩ t.val) (Finset.range (t.val + 1)) 0 k : EReal)) * x5 (ix3 b t l)

/-! ## The packed lanes -/

/-- A packed row of reals, at a lane. -/
def lane (x : Heads → ℝ) (y : Rotary → ℝ) (b : Fin 32) (t : Fin 2048) (h : Fin 8) (d : Fin 128) : ℝ :=
  if h64 : d.val < 64 then x (ix4 b t h ⟨d.val, h64⟩)
  else if h32 : d.val - 64 < 32 then y (ix4 b t h ⟨d.val - 64, h32⟩) else 0

theorem packed_real (X : Heads → EReal) (Y : Rotary → EReal) (x : Heads → ℝ) (y : Rotary → ℝ) (hx : ∀ i, X i = (x i : EReal))
    (hy : ∀ i, Y i = (y i : EReal)) (b : Fin 32) (t : Fin 2048) (h : Fin 8) (d : Fin 128) :
    packed X Y b t h d = (lane x y b t h d : EReal) := by
  unfold packed lane
  split_ifs
  · exact hx _
  · exact hy _
  · rfl

theorem sum_lanes (x x' : Heads → ℝ) (y y' : Rotary → ℝ) (b : Fin 32) (t k : Fin 2048) (h : Fin 8) :
    (∑ d : Fin 128, lane x' y' b k h d * lane x y b t h d)
      = (∑ d : Fin 64, x (ix4 b t h d) * x' (ix4 b k h d)) + ∑ r : Fin 32, y (ix4 b t h r) * y' (ix4 b k h r) := by
  have h1 := Fin.sum_univ_add (a := 64) (b := 64) fun d : Fin (64 + 64) => lane x' y' b k h d * lane x y b t h d
  have h2 := Fin.sum_univ_add (a := 32) (b := 32)
    fun d : Fin (32 + 32) => lane x' y' b k h (Fin.natAdd 64 d) * lane x y b t h (Fin.natAdd 64 d)
  refine h1.trans (congrArg₂ (· + ·) (Finset.sum_congr rfl fun d _ => ?_) (h2.trans ?_))
  · have := d.isLt
    simp [lane, mul_comm]
  · have hz : (∑ d : Fin 32, lane x' y' b k h (Fin.natAdd 64 (Fin.natAdd 32 d)) * lane x y b t h (Fin.natAdd 64 (Fin.natAdd 32 d))) = 0 :=
      Finset.sum_eq_zero fun d _ => by simp [lane]
    refine (congrArg₂ (· + ·) (Finset.sum_congr rfl fun d _ => ?_) hz).trans (add_zero _)
    simp [lane, mul_comm]

theorem scale_real : Ideal.sqrt (Ideal.ofBits .f32 0x42C00000#32) * Ideal.log (Ideal.ofBits .f32 0x40000000#32)
    = ((Real.sqrt 96 * Real.log 2 : ℝ) : EReal) := by
  have h2 : Ideal.ofBits .f32 0x40000000#32 = ((2 : ℝ) : EReal) := by
    simp [Ideal.ofBits, Ideal.ieee]; rw [← EReal.coe_mul]; norm_num
  rw [ofBits_96, h2, Ideal.sqrt_coe, if_neg (by norm_num), Ideal.log_coe, if_neg (by norm_num), EReal.coe_mul]

theorem scale_pos : 0 < Real.sqrt 96 * Real.log 2 := mul_pos (Real.sqrt_pos.mpr (by norm_num)) (Real.log_pos one_lt_two)

/-! ## The blocks of a grid point -/

theorem index0 : ∀ t : Fin cfg0.N, win0_0.index t = ![t.val / 2, 0, t.val % 2] :=
  (by decide +kernel : ∀ t : Fin grid0.N, win0_0.index t = ![t.val / 2, 0, t.val % 2])
theorem index1 : ∀ t : Fin cfg0.N, win0_1.index t = ![t.val / 2, 0, t.val % 2] :=
  (by decide +kernel : ∀ t : Fin grid0.N, win0_1.index t = ![t.val / 2, 0, t.val % 2])
theorem index2 : ∀ t : Fin cfg0.N, win0_2.index t = ![t.val / 2, 0, t.val % 2] :=
  (by decide +kernel : ∀ t : Fin grid0.N, win0_2.index t = ![t.val / 2, 0, t.val % 2])
theorem index3 : ∀ t : Fin cfg0.N, win0_3.index t = ![t.val / 2, 0, t.val % 2] :=
  (by decide +kernel : ∀ t : Fin grid0.N, win0_3.index t = ![t.val / 2, 0, t.val % 2])
theorem index4 : ∀ t : Fin cfg0.N, win0_4.index t = ![t.val / 2, 0, t.val % 2] :=
  (by decide +kernel : ∀ t : Fin grid0.N, win0_4.index t = ![t.val / 2, 0, t.val % 2])

theorem point_lt (t : Fin cfg0.N) : t.val < 64 := by have := t.isLt; have h : cfg0.N = 64 := N_0; omega

section
variable (m : (ℓ : Loc nD τ sig) → Buf (Elt Ideal) ℓ) (c : Dev nD) (t : Fin cfg0.N)

theorem block0 (r : Fin 2048) (l : Fin 512) : iblk m c 0 t (ix3 0 r l)
    = V m c main_v12 (ix3 ⟨t.val / 2, by have := point_lt t; omega⟩ r ⟨512 * (t.val % 2) + l.val, by omega⟩) := by
  refine congrArg (V m c main_v12) (funext fun a => Fin.ext ?_)
  match a with
  | ⟨0, _⟩ => show win0_0.index t 0 * 1 + 1 * 0 = t.val / 2; rw [index0]; show t.val / 2 * 1 + 1 * 0 = _; omega
  | ⟨1, _⟩ => show win0_0.index t 1 * 2048 + 1 * r.val = r.val; rw [index0]; show 0 * 2048 + 1 * r.val = _; omega
  | ⟨2, _⟩ => show win0_0.index t 2 * 512 + 1 * l.val = 512 * (t.val % 2) + l.val; rw [index0]; show t.val % 2 * 512 + 1 * l.val = _; omega

theorem block1 (r : Fin 2048) (l : Fin 512) : iblk m c 1 t (ix3 0 r l)
    = V m c main_v14 (ix3 ⟨t.val / 2, by have := point_lt t; omega⟩ r ⟨512 * (t.val % 2) + l.val, by omega⟩) := by
  refine congrArg (V m c main_v14) (funext fun a => Fin.ext ?_)
  match a with
  | ⟨0, _⟩ => show win0_1.index t 0 * 1 + 1 * 0 = t.val / 2; rw [index1]; show t.val / 2 * 1 + 1 * 0 = _; omega
  | ⟨1, _⟩ => show win0_1.index t 1 * 2048 + 1 * r.val = r.val; rw [index1]; show 0 * 2048 + 1 * r.val = _; omega
  | ⟨2, _⟩ => show win0_1.index t 2 * 512 + 1 * l.val = 512 * (t.val % 2) + l.val; rw [index1]; show t.val % 2 * 512 + 1 * l.val = _; omega

theorem block2 (r : Fin 2048) (l : Fin 256) : iblk m c 2 t (ix3 0 r l)
    = V m c main_v16 (ix3 ⟨t.val / 2, by have := point_lt t; omega⟩ r ⟨256 * (t.val % 2) + l.val, by omega⟩) := by
  refine congrArg (V m c main_v16) (funext fun a => Fin.ext ?_)
  match a with
  | ⟨0, _⟩ => show win0_2.index t 0 * 1 + 1 * 0 = t.val / 2; rw [index2]; show t.val / 2 * 1 + 1 * 0 = _; omega
  | ⟨1, _⟩ => show win0_2.index t 1 * 2048 + 1 * r.val = r.val; rw [index2]; show 0 * 2048 + 1 * r.val = _; omega
  | ⟨2, _⟩ => show win0_2.index t 2 * 256 + 1 * l.val = 256 * (t.val % 2) + l.val; rw [index2]; show t.val % 2 * 256 + 1 * l.val = _; omega

theorem block3 (r : Fin 2048) (l : Fin 256) : iblk m c 3 t (ix3 0 r l)
    = V m c main_v17 (ix3 ⟨t.val / 2, by have := point_lt t; omega⟩ r ⟨256 * (t.val % 2) + l.val, by omega⟩) := by
  refine congrArg (V m c main_v17) (funext fun a => Fin.ext ?_)
  match a with
  | ⟨0, _⟩ => show win0_3.index t 0 * 1 + 1 * 0 = t.val / 2; rw [index3]; show t.val / 2 * 1 + 1 * 0 = _; omega
  | ⟨1, _⟩ => show win0_3.index t 1 * 2048 + 1 * r.val = r.val; rw [index3]; show 0 * 2048 + 1 * r.val = _; omega
  | ⟨2, _⟩ => show win0_3.index t 2 * 256 + 1 * l.val = 256 * (t.val % 2) + l.val; rw [index3]; show t.val % 2 * 256 + 1 * l.val = _; omega

variable (a0 : Heads → ℝ) (a1 : Rotary → ℝ) (a2 : Heads → ℝ) (a3 : Shared → ℝ)
  (h0 : ∀ i, m ((c : Thread nD τ).loc main_arg0) i = (a0 i : EReal)) (h1 : ∀ i, m ((c : Thread nD τ).loc main_arg1) i = (a1 i : EReal))
  (h2 : ∀ i, m ((c : Thread nD τ).loc main_arg2) i = (a2 i : EReal)) (h3 : ∀ i, m ((c : Thread nD τ).loc main_arg3) i = (a3 i : EReal))

include h0 h1 h2 h3

/-- A block's scores: the products over the root of the width, in units of `log 2`. -/
theorem block_scores (h : Fin 4) (r k : Fin 2048) :
    blockScore (iblk m c 0 t) (iblk m c 1 t) h r k
      = ((product a0 a1 a2 a3 ⟨t.val / 2, by have := point_lt t; omega⟩ ⟨4 * (t.val % 2) + h.val, by omega⟩ r.val k.val
          / (Real.sqrt 96 * Real.log 2) : ℝ) : EReal) := by
  unfold blockScore product
  have hq : ∀ d : Fin 128, iblk m c 0 t (ix3 0 r ⟨128 * h.val + d.val, by omega⟩)
      = ((lane a0 a1 ⟨t.val / 2, by have := point_lt t; omega⟩ r ⟨4 * (t.val % 2) + h.val, by omega⟩ d
          * (1 / (Real.sqrt 96 * Real.log 2)) : ℝ) : EReal) := fun d => by
    rw [block0, query_read, scale_real, Ideal.div_coe scale_pos.ne', packed_real _ _ a0 a1 h0 h1, ← EReal.coe_mul]
    have e : (⟨(512 * (t.val % 2) + (128 * h.val + d.val)) / 128, by omega⟩ : Fin 8) = ⟨4 * (t.val % 2) + h.val, by omega⟩ :=
      Fin.ext (by dsimp only; omega)
    have e' : (⟨(512 * (t.val % 2) + (128 * h.val + d.val)) % 128, by omega⟩ : Fin 128) = d := Fin.ext (by dsimp only; omega)
    rw [e, e']
  have hk : ∀ d : Fin 128, iblk m c 1 t (ix3 0 k ⟨128 * h.val + d.val, by omega⟩)
      = (lane a2 (fun j => a3 (ix3 (j 0) (j 1) (j 3))) ⟨t.val / 2, by have := point_lt t; omega⟩ k
          ⟨4 * (t.val % 2) + h.val, by omega⟩ d : EReal) := fun d => by
    rw [block1, key_read, packed_real _ _ a2 (fun j => a3 (ix3 (j 0) (j 1) (j 3))) h2 (fun _ => h3 _)]
    have e : (⟨(512 * (t.val % 2) + (128 * h.val + d.val)) / 128, by omega⟩ : Fin 8) = ⟨4 * (t.val % 2) + h.val, by omega⟩ :=
      Fin.ext (by dsimp only; omega)
    have e' : (⟨(512 * (t.val % 2) + (128 * h.val + d.val)) % 128, by omega⟩ : Fin 128) = d := Fin.ext (by dsimp only; omega)
    rw [e, e']
  simp only [hq, hk, ← EReal.coe_mul]
  rw [← coe_sum]
  congr 1
  have hs := sum_lanes a0 a2 a1 (fun j => a3 (ix3 (j 0) (j 1) (j 3))) ⟨t.val / 2, by have := point_lt t; omega⟩ r k
    ⟨4 * (t.val % 2) + h.val, by omega⟩
  rw [key_val, key_val]
  simp only [← mul_assoc]
  rw [← Finset.sum_mul, hs]
  exact mul_one_div _ _

end

end Cert.Attention

end
-- ==== Proof.Attention.Result.lean ====
/- The kernel's result array, at every index: the attention of that index's batch, query and head, gated. -/
module

public import proofs.«01_k».proof.Proof.Attention.Blocks

@[expose] public section

noncomputable section

namespace Cert.Attention

open Cert.KernelIdeal Cert.KernelIdeal.Gen Idealize.ShloMosaic Idealize.ShloMosaic.TcCoe Idealize.SL.Sem

section
variable (m : (ℓ : Loc nD τ sig) → Buf (Elt Ideal) ℓ) (c : Dev nD) (t : Fin cfg0.N)
variable (a0 : Heads → ℝ) (a1 : Rotary → ℝ) (a2 : Heads → ℝ) (a3 : Shared → ℝ)
  (h0 : ∀ i, m ((c : Thread nD τ).loc main_arg0) i = (a0 i : EReal)) (h1 : ∀ i, m ((c : Thread nD τ).loc main_arg1) i = (a1 i : EReal))
  (h2 : ∀ i, m ((c : Thread nD τ).loc main_arg2) i = (a2 i : EReal)) (h3 : ∀ i, m ((c : Thread nD τ).loc main_arg3) i = (a3 i : EReal))

include h0 h1 h2 h3

/-- What a grid point writes, at an index: the attention at the array's index. -/
theorem flushed_apply (r : Fin 2048) (l : Fin 256) :
    (dats m 0 c).flushed 4 t (ix3 0 r l)
      = attention a0 a1 a2 a3 (m ((c : Thread nD τ).loc main_arg4)) (m ((c : Thread nD τ).loc main_arg5))
          ⟨t.val / 2, by have := point_lt t; omega⟩ r ⟨256 * (t.val % 2) + l.val, by omega⟩ := by
  rw [Cert.KernelIdeal.Value.flushed4_A]
  have hb := block_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) (iblk m c 0 t) (iblk m c 1 t) (iblk m c 2 t) (iblk m c 3 t)
    (fun h r k => product a0 a1 a2 a3 ⟨t.val / 2, by have := point_lt t; omega⟩ ⟨4 * (t.val % 2) + h.val, by omega⟩ r k
          / (Real.sqrt 96 * Real.log 2))
    (fun h r k => score a0 a1 a2 a3 ⟨t.val / 2, by have := point_lt t; omega⟩ ⟨4 * (t.val % 2) + h.val, by omega⟩ r k)
    (fun h r k => block_scores m c t a0 a1 a2 a3 h0 h1 h2 h3 h r k)
    (fun h r k => by
      have hl := (Real.log_pos one_lt_two).ne'
      unfold score
      rw [← div_div, div_mul_cancel₀ _ hl])
    r l
  refine Eq.trans ?_ (hb.trans ?_)
  · rfl
  · unfold blockOut attention
    rw [block3, gate_read]
    congr 1
    refine Finset.sum_congr rfl fun k _ => ?_
    rw [block2, value_read]
    have e : (⟨(256 * (t.val % 2) + l.val) / 64, by omega⟩ : Fin 8) = ⟨4 * (t.val % 2) + l.val / 64, by omega⟩ :=
      Fin.ext (by dsimp only; omega)
    simp only [e]

end

/-- The result array the kernel leaves. -/
def result (a0 : Heads → ℝ) (a1 : Rotary → ℝ) (a2 : Heads → ℝ) (a3 : Shared → ℝ) (x4 : Heads → EReal)
    (x5 : (⟨3, ![32, 2048, 512]⟩ : Shape).Idx → EReal) : S32x2048x512.Idx → EReal :=
  fun i => attention a0 a1 a2 a3 x4 x5 (i 0) (i 1) (i 2)

section
variable (m : (ℓ : Loc nD τ sig) → Buf (Elt Ideal) ℓ) (c : Dev nD)
variable (a0 : Heads → ℝ) (a1 : Rotary → ℝ) (a2 : Heads → ℝ) (a3 : Shared → ℝ)
  (h0 : ∀ i, m ((c : Thread nD τ).loc main_arg0) i = (a0 i : EReal)) (h1 : ∀ i, m ((c : Thread nD τ).loc main_arg1) i = (a1 i : EReal))
  (h2 : ∀ i, m ((c : Thread nD τ).loc main_arg2) i = (a2 i : EReal)) (h3 : ∀ i, m ((c : Thread nD τ).loc main_arg3) i = (a3 i : EReal))

theorem mem_block (t : Fin cfg0.N) (i : S32x2048x512.Idx) (e0 : (i 0).val = t.val / 2) (e2 : (i 2).val / 256 = t.val % 2) :
    i ∈ ((cfg0.win 4).blk t).view.set := by
  have l1 : (i 1).val < 2048 := (i 1).isLt
  show i ∈ ((View.whole main_v18).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [index4]; show t.val / 2 * 1 ≤ (i 0).val ∧ (i 0).val < t.val / 2 * 1 + 1; omega
  | ⟨1, _⟩ =>
    show win0_4.index t 1 * 2048 ≤ (i 1).val ∧ (i 1).val < win0_4.index t 1 * 2048 + 2048
    rw [index4]; show 0 * 2048 ≤ (i 1).val ∧ (i 1).val < 0 * 2048 + 2048; omega
  | ⟨2, _⟩ =>
    show win0_4.index t 2 * 256 ≤ (i 2).val ∧ (i 2).val < win0_4.index t 2 * 256 + 256
    rw [index4]; show t.val % 2 * 256 ≤ (i 2).val ∧ (i 2).val < t.val % 2 * 256 + 256; omega

theorem covered (i : S32x2048x512.Idx) : ∃ t : Fin cfg0.N, (cfg0.win 4).flush t = true ∧ i ∈ ((cfg0.win 4).blk t).view.set := by
  have l0 : (i 0).val < 32 := (i 0).isLt
  have l2 : (i 2).val < 512 := (i 2).isLt
  have hN : cfg0.N = 64 := N_0
  exact ⟨⟨2 * (i 0).val + (i 2).val / 256, by omega⟩, flush0_4 _, mem_block _ i (by dsimp only; omega) (by dsimp only; omega)⟩

include h0 h1 h2 h3 in
theorem kernel_array : (dats m 0 c).arrAt 4 cfg0.N
    = result a0 a1 a2 a3 (m ((c : Thread nD τ).loc main_arg4)) (m ((c : Thread nD τ).loc main_arg5)) := by
  refine (dats m 0 c).arrAt_eq_of_cover 4 _ (fun t _ => funext fun y => ?_) covered
  obtain ⟨r, l, rfl⟩ : ∃ (r : Fin 2048) (l : Fin 256), y = ix3 (n0 := 1) (n1 := 2048) (n2 := 256) 0 r l :=
    ⟨y 1, y 2, (eq_ix3 (n0 := 1) (n1 := 2048) (n2 := 256) y).trans (congrArg (fun u => ix3 (n0 := 1) (n1 := 2048) (n2 := 256) u (y 1) (y 2))
      (Fin.ext (by have := (y 0).isLt; change (y 0).val < 1 at this; show (y 0).val = 0; omega)))⟩
  refine (flushed_apply m c t a0 a1 a2 a3 h0 h1 h2 h3 r l).trans ?_
  show _ = attention a0 a1 a2 a3 _ _ _ _ _
  congr 1
  · exact Fin.ext (by show t.val / 2 = win0_4.index t 0 * 1 + 1 * 0; rw [index4]; show _ = t.val / 2 * 1 + 1 * 0; omega)
  · exact Fin.ext (by show r.val = win0_4.index t 1 * 2048 + 1 * r.val; rw [index4]; show _ = 0 * 2048 + 1 * r.val; omega)
  · exact Fin.ext (by
      show 256 * (t.val % 2) + l.val = win0_4.index t 2 * 256 + 1 * l.val; rw [index4]; show _ = t.val % 2 * 256 + 1 * l.val; omega)

end

end Cert.Attention

end
-- ==== Proof.Projection.Spec.lean ====
/- The layer from its modulated norm to the queries, keys, values and gates of both attentions, row by row on extended reals: what
   both programs compute. An array is a function of its coordinates here, and a row is the vector of one batch and position. -/
module

public import proofs.«01_k».proof.Proof.Attention.Online
public import Idealize.ShloMosaic.Lib.Pointwise

@[expose] public section

noncomputable section

namespace Cert.Projection

open Idealize.ShloMosaic

/-- The arguments: activations, modulation (shift, scale and gate of each batch), positions, and the weights. -/
structure Args where
  x : Fin 32 → Fin 2048 → Fin 1024 → EReal
  mod : Fin 32 → Fin 3072 → EReal
  pos : Fin 32 → Fin 2048 → BitVec 32
  gain : Fin 1024 → EReal
  win : Fin 1024 → Fin 2464 → EReal
  qgain : Fin 384 → EReal
  kvgain : Fin 256 → EReal
  wq : Fin 384 → Fin 768 → EReal
  wkv : Fin 256 → Fin 1024 → EReal

/-- The arguments as arrays. -/
def argsOf (x : (⟨3, ![32, 2048, 1024]⟩ : Shape).Idx → EReal) (mod : (⟨2, ![32, 3072]⟩ : Shape).Idx → EReal)
    (pos : (⟨2, ![32, 2048]⟩ : Shape).Idx → BitVec 32) (gain : (⟨2, ![1, 1024]⟩ : Shape).Idx → EReal)
    (win : (⟨3, ![1, 1024, 2464]⟩ : Shape).Idx → EReal) (qgain : (⟨2, ![1, 384]⟩ : Shape).Idx → EReal)
    (kvgain : (⟨2, ![1, 256]⟩ : Shape).Idx → EReal) (wq : (⟨3, ![1, 384, 768]⟩ : Shape).Idx → EReal)
    (wkv : (⟨3, ![1, 256, 1024]⟩ : Shape).Idx → EReal) : Args where
  x b t k := x (ix3 b t k)
  mod b k := mod (ix2 b k)
  pos b t := pos (ix2 b t)
  gain k := gain (ix2 0 k)
  win k j := win (ix3 0 k j)
  qgain k := qgain (ix2 0 k)
  kvgain k := kvgain (ix2 0 k)
  wq k j := wq (ix3 0 k j)
  wkv k j := wkv (ix3 0 k j)

/-- One over the root of the mean square: `N` is the length, as the programs write it. -/
def rms {n : ℕ} (N : EReal) (f : Fin n → EReal) : EReal :=
  Ideal.rsqrt (Ideal.div (∑ k, f k * f k) N + Ideal.ofBits .f32 0x358637BD#32)

/-- A row divided by the root of its mean square, times a gain. -/
def normed {n : ℕ} (N : EReal) (f g : Fin n → EReal) (k : Fin n) : EReal := f k * rms N f * g k

/-- A row times a matrix. -/
def product {n k : ℕ} (f : Fin k → EReal) (w : Fin k → Fin n → EReal) (j : Fin n) : EReal := ∑ i, f i * w i j

/-- The modulated norm of a row. -/
def hidden (x shift scale gain : Fin 1024 → EReal) (k : Fin 1024) : EReal :=
  normed (Ideal.ofBits .f32 0x44800000#32) x gain k * (1 + scale k) + shift k

/-- The angle of frequency `i` at a position. -/
def angle (p : BitVec 32) (i : Fin 16) : ℝ := (p.toInt : ℝ) * Real.rpow 10000 (-(2 * (i.val : ℝ)) / 32)

/-- Rotary position of the 32 lanes of a vector: lane `i` and lane `16 + i` are turned together. -/
def rot (θ : Fin 16 → ℝ) (f : Fin 32 → EReal) (i : Fin 32) : EReal :=
  if h : i.val < 16 then f ⟨i.val, by omega⟩ * (Real.cos (θ ⟨i.val, h⟩) : EReal) - f ⟨16 + i.val, by omega⟩ * (Real.sin (θ ⟨i.val, h⟩) : EReal)
  else f ⟨16 + (i.val - 16), by omega⟩ * (Real.cos (θ ⟨i.val - 16, by omega⟩) : EReal)
    + f ⟨i.val - 16, by omega⟩ * (Real.sin (θ ⟨i.val - 16, by omega⟩) : EReal)

/-- A gate. -/
def silu (x : EReal) : EReal := x * Ideal.logistic x

namespace Args

variable (A : Args) (b : Fin 32) (t : Fin 2048)

/-- The input projection. -/
def proj : Fin 2464 → EReal :=
  product (hidden (A.x b t) (fun k => A.mod b ⟨k.val, by omega⟩) (fun k => A.mod b ⟨1024 + k.val, by omega⟩) A.gain) A.win

/-- The queries of the eight heads, before the rotation. -/
def queries : Fin 768 → EReal :=
  product (normed (Ideal.ofBits .f32 0x43C00000#32) (fun k => A.proj b t ⟨k.val, by omega⟩) A.qgain) A.wq

/-- The keys and values of the eight heads. -/
def keysValues : Fin 1024 → EReal :=
  product (normed (Ideal.ofBits .f32 0x43800000#32) (fun k => A.proj b t ⟨384 + k.val, by omega⟩) A.kvgain) A.wkv

/-- The unscaled queries as the attention takes them: per head 64 lanes as they are, 32 rotated, 32 zero. -/
def query (h : Fin 8) (d : Fin 128) : EReal :=
  if h64 : d.val < 64 then A.queries b t ⟨96 * h.val + d.val, by omega⟩
  else if h32 : d.val - 64 < 32 then
    rot (angle (A.pos b t)) (fun i => A.queries b t ⟨96 * h.val + (64 + i.val), by omega⟩) ⟨d.val - 64, h32⟩
  else 0

/-- The keys as the attention takes them: per head 64 lanes of its own, 32 rotated ones that all heads share, 32 zero. -/
def key (h : Fin 8) (d : Fin 128) : EReal :=
  if h64 : d.val < 64 then A.keysValues b t ⟨128 * h.val + d.val, by omega⟩
  else if h32 : d.val - 64 < 32 then
    rot (angle (A.pos b t)) (fun i => A.proj b t ⟨640 + i.val, by omega⟩) ⟨d.val - 64, h32⟩
  else 0

/-- The eight results. -/
def out0 (l : Fin 1024) : EReal :=
  A.query b t ⟨l.val / 128, by omega⟩ ⟨l.val % 128, by omega⟩ * ((1 / (Real.sqrt 96 * Real.log 2) : ℝ) : EReal)
def out1 (l : Fin 1024) : EReal := A.key b t ⟨l.val / 128, by omega⟩ ⟨l.val % 128, by omega⟩
def out2 (l : Fin 512) : EReal := A.keysValues b t ⟨128 * (l.val / 64) + (64 + l.val % 64), by omega⟩
def out3 (l : Fin 512) : EReal := silu (A.proj b t ⟨672 + l.val, by omega⟩)
def out4 (l : Fin 512) : EReal := A.proj b t ⟨1184 + l.val, by omega⟩ * ((1 / (8 * Real.log 2) : ℝ) : EReal)
def out5 (l : Fin 256) : EReal := A.proj b t ⟨1696 + (64 * (l.val / 128) + l.val % 64), by omega⟩
def out6 (n : Fin 16) (d r : Fin 128) : EReal := A.proj b ⟨128 * n.val + r.val, by omega⟩ ⟨1824 + d.val, by omega⟩
def out7 (l : Fin 512) : EReal := silu (A.proj b t ⟨1952 + l.val, by omega⟩)

end Args

/-! ## The packed weights -/

/-- The kernel's order of the columns of the input projection: the queries' latent first, then one block of 128 lanes that holds
    zeros, the shared rotary key and that key with its halves swapped, then the rest as it was. -/
def packed (f : Fin 2464 → EReal) (j : Fin 2560) : EReal :=
  if h : j.val < 384 then f ⟨j.val, by omega⟩
  else if h : j.val - 384 < 128 then
    if h : j.val - 384 < 64 then 0
    else if h : j.val - 384 - 64 < 32 then f ⟨640 + (j.val - 384 - 64), by omega⟩
    else if h : j.val - 384 - 64 - 32 < 16 then f ⟨640 + (16 + (j.val - 384 - 64 - 32)), by omega⟩
    else f ⟨640 + (j.val - 384 - 64 - 32 - 16), by omega⟩
  else if h : j.val - 384 - 128 < 256 then f ⟨384 + (j.val - 384 - 128), by omega⟩
  else if h : j.val - 384 - 128 - 256 < 512 then f ⟨672 + (j.val - 384 - 128 - 256), by omega⟩
  else if h : j.val - 384 - 128 - 256 - 512 < 512 then f ⟨1184 + (j.val - 384 - 128 - 256 - 512), by omega⟩
  else if h : j.val - 384 - 128 - 256 - 512 - 512 < 128 then f ⟨1696 + (j.val - 384 - 128 - 256 - 512 - 512), by omega⟩
  else if h : j.val - 384 - 128 - 256 - 512 - 512 - 128 < 128 then f ⟨1824 + (j.val - 384 - 128 - 256 - 512 - 512 - 128), by omega⟩
  else f ⟨1952 + (j.val - 384 - 128 - 256 - 512 - 512 - 128 - 128), by omega⟩

/-- The kernel's order of a query head's columns: the 96 lanes, then the rotary 32 with their halves swapped. -/
def packedHeads (f : Fin 768 → EReal) (j : Fin 1024) : EReal :=
  if h : j.val % 128 < 96 then f ⟨j.val / 128 * 96 + j.val % 128, by omega⟩
  else if h_1 : j.val % 128 - 96 < 16 then f ⟨j.val / 128 * 96 + (64 + (16 + (j.val % 128 - 96))), by omega⟩
  else f ⟨j.val / 128 * 96 + (64 + (j.val % 128 - 96 - 16)), by omega⟩

/-- A product with packed columns is the packed product. -/
theorem product_packed {k : ℕ} (f : Fin k → EReal) (w : Fin k → Fin 2464 → EReal) (j : Fin 2560) :
    ∑ i, f i * packed (w i) j = packed (product f w) j := by
  unfold packed product
  split_ifs <;> first | rfl | simp

theorem product_packedHeads {k : ℕ} (f : Fin k → EReal) (w : Fin k → Fin 768 → EReal) (j : Fin 1024) :
    ∑ i, f i * packedHeads (w i) j = packedHeads (product f w) j := by
  unfold packedHeads product
  split_ifs <;> rfl

variable (f : Fin 2464 → EReal)

theorem packed_query (k : Fin 384) : packed f ⟨k.val, by omega⟩ = f ⟨k.val, by omega⟩ := by
  unfold packed
  dsimp only
  split_ifs <;> first | (exfalso; omega) | exact congrArg f (Fin.ext (by dsimp only; omega)) | rfl

theorem packed_latent (k : Fin 256) : packed f ⟨512 + k.val, by omega⟩ = f ⟨384 + k.val, by omega⟩ := by
  unfold packed
  dsimp only
  split_ifs <;> first | (exfalso; omega) | exact congrArg f (Fin.ext (by dsimp only; omega)) | rfl

theorem packed_gate (l : Fin 512) : packed f ⟨768 + l.val, by omega⟩ = f ⟨672 + l.val, by omega⟩ := by
  unfold packed
  dsimp only
  split_ifs <;> first | (exfalso; omega) | exact congrArg f (Fin.ext (by dsimp only; omega)) | rfl

theorem packed_window_query (l : Fin 512) : packed f ⟨1280 + l.val, by omega⟩ = f ⟨1184 + l.val, by omega⟩ := by
  unfold packed
  dsimp only
  split_ifs <;> first | (exfalso; omega) | exact congrArg f (Fin.ext (by dsimp only; omega)) | rfl

theorem packed_window_key (l : Fin 128) : packed f ⟨1792 + l.val, by omega⟩ = f ⟨1696 + l.val, by omega⟩ := by
  unfold packed
  dsimp only
  split_ifs <;> first | (exfalso; omega) | exact congrArg f (Fin.ext (by dsimp only; omega)) | rfl

theorem packed_window_value (l : Fin 128) : packed f ⟨1792 + (128 + l.val), by omega⟩ = f ⟨1824 + l.val, by omega⟩ := by
  unfold packed
  dsimp only
  split_ifs <;> first | (exfalso; omega) | exact congrArg f (Fin.ext (by dsimp only; omega)) | rfl

theorem packed_window_gate (l : Fin 512) : packed f ⟨2048 + l.val, by omega⟩ = f ⟨1952 + l.val, by omega⟩ := by
  unfold packed
  dsimp only
  split_ifs <;> first | (exfalso; omega) | exact congrArg f (Fin.ext (by dsimp only; omega)) | rfl

/-! ## The rotation on 128 lanes -/

/-- 96 lanes, then the last 32 of them with their halves swapped. -/
def doubled (u : Fin 96 → EReal) (l : Fin 128) : EReal :=
  if h : l.val < 96 then u ⟨l.val, h⟩
  else if h : l.val - 96 < 16 then u ⟨64 + (16 + (l.val - 96)), by omega⟩
  else u ⟨64 + (l.val - 96 - 16), by omega⟩

theorem packed_rotary (l : Fin 128) : packed f ⟨384 + l.val, by omega⟩
    = doubled (fun i => if h : i.val < 64 then 0 else f ⟨640 + (i.val - 64), by omega⟩) l := by
  unfold packed doubled
  dsimp only
  split_ifs <;> first | (exfalso; omega) | exact congrArg f (Fin.ext (by dsimp only; omega)) | rfl

theorem packedHeads_head (g : Fin 768 → EReal) (h : Fin 8) (l : Fin 128) :
    packedHeads g ⟨128 * h.val + l.val, by omega⟩ = doubled (fun i => g ⟨96 * h.val + i.val, by omega⟩) l := by
  unfold packedHeads doubled
  dsimp only
  split_ifs <;> first | (exfalso; omega) | exact congrArg g (Fin.ext (by dsimp only; omega)) | rfl

/-- The factor of a lane's own value: one on the first 64 lanes, the cosines twice, zero. -/
def tableA (θ : Fin 16 → ℝ) (l : Fin 128) : EReal :=
  if h : l.val < 64 then 1
  else if h : l.val - 64 < 16 then (Real.cos (θ ⟨l.val - 64, h⟩) : EReal)
  else if h : l.val - 64 - 16 < 16 then (Real.cos (θ ⟨l.val - 64 - 16, h⟩) : EReal) else 0

/-- The factor of the value 32 lanes on: zero on the first 64 lanes, minus the sines, the sines, zero. -/
def tableB (θ : Fin 16 → ℝ) (l : Fin 128) : EReal :=
  if h : l.val < 64 then 0
  else if h : l.val - 64 < 16 then 0 - (Real.sin (θ ⟨l.val - 64, h⟩) : EReal)
  else if h : l.val - 64 - 16 < 16 then (Real.sin (θ ⟨l.val - 64 - 16, h⟩) : EReal) else 0

/-- 64 lanes as they are, 32 rotated, 32 zero. -/
def roped (θ : Fin 16 → ℝ) (u : Fin 96 → EReal) (l : Fin 128) : EReal :=
  if h64 : l.val < 64 then u ⟨l.val, by omega⟩
  else if h32 : l.val - 64 < 32 then rot θ (fun i => u ⟨64 + i.val, by omega⟩) ⟨l.val - 64, h32⟩
  else 0

/-- The kernel's rotation: each lane times one table, plus the lane 32 on times the other. -/
theorem rotation (θ : Fin 16 → ℝ) (u : Fin 96 → EReal) (l : Fin 128) :
    doubled u l * tableA θ l + doubled u ⟨(l.val + 128 - 96) % 128, by omega⟩ * tableB θ l = roped θ u l := by
  by_cases h64 : l.val < 64
  · have e : doubled u l = u ⟨l.val, by omega⟩ := dif_pos (by omega)
    simp only [tableA, tableB, roped, dif_pos h64, mul_one, mul_zero, add_zero, e]
  · have h128 := l.isLt
    by_cases h16 : l.val - 64 < 16
    · have e : doubled u l = u ⟨64 + (l.val - 64), by omega⟩ :=
        (dif_pos (by omega)).trans (congrArg u (Fin.ext (show l.val = 64 + (l.val - 64) by omega)))
      have e' : doubled u ⟨(l.val + 128 - 96) % 128, by omega⟩ = u ⟨64 + (16 + (l.val - 64)), by omega⟩ :=
        (dif_neg (show ¬ (l.val + 128 - 96) % 128 < 96 by omega)).trans
          ((dif_pos (show (l.val + 128 - 96) % 128 - 96 < 16 by omega)).trans
            (congrArg u (Fin.ext (show 64 + (16 + ((l.val + 128 - 96) % 128 - 96)) = 64 + (16 + (l.val - 64)) by omega))))
      have h32 : l.val - 64 < 32 := by omega
      simp only [tableA, tableB, roped, rot, dif_neg h64, dif_pos h16, dif_pos h32, e, e']
      rw [zero_sub, mul_neg, ← sub_eq_add_neg]
    · by_cases h32 : l.val - 64 - 16 < 16
      · have e : doubled u l = u ⟨64 + (16 + (l.val - 64 - 16)), by omega⟩ :=
          (dif_pos (by omega)).trans (congrArg u (Fin.ext (show l.val = 64 + (16 + (l.val - 64 - 16)) by omega)))
        have e' : doubled u ⟨(l.val + 128 - 96) % 128, by omega⟩ = u ⟨64 + (l.val - 64 - 16), by omega⟩ :=
          (dif_neg (show ¬ (l.val + 128 - 96) % 128 < 96 by omega)).trans
            ((dif_neg (show ¬ (l.val + 128 - 96) % 128 - 96 < 16 by omega)).trans
              (congrArg u (Fin.ext (show 64 + ((l.val + 128 - 96) % 128 - 96 - 16) = 64 + (l.val - 64 - 16) by omega))))
        have h32' : l.val - 64 < 32 := by omega
        simp only [tableA, tableB, roped, rot, dif_neg h64, dif_neg h16, dif_pos h32, dif_pos h32', e, e']
      · have h32' : ¬ l.val - 64 < 32 := by omega
        simp only [tableA, tableB, roped, dif_neg h64, dif_neg h16, dif_neg h32, dif_neg h32', mul_zero, add_zero]

/-- A nonnegative real factor passes through the rotation. -/
theorem roped_mul (θ : Fin 16 → ℝ) (u : Fin 96 → EReal) (s : ℝ) (hs : 0 ≤ s) (l : Fin 128) :
    roped θ (fun i => u i * (s : EReal)) l = roped θ u l * (s : EReal) := by
  have hadd : ∀ a c : EReal, (a + c) * (s : EReal) = a * s + c * s :=
    fun a c => EReal.right_distrib_of_nonneg_of_ne_top (by exact_mod_cast hs) (EReal.coe_ne_top s) a c
  unfold roped rot
  dsimp only
  split_ifs
  · rfl
  · rw [sub_eq_add_neg, sub_eq_add_neg, hadd, EReal.neg_mul]
    simp only [mul_right_comm]
  · rw [hadd]
    simp only [mul_right_comm]
  · exact (zero_mul _).symm

/-- A nonnegative real factor in the gain comes out of a normed product. -/
theorem product_scaled {n k : ℕ} (N : EReal) (f g : Fin k → EReal) (w : Fin k → Fin n → EReal) (s : ℝ) (hs : 0 ≤ s) (j : Fin n) :
    ∑ i, f i * rms N f * (g i * (s : EReal)) * w i j = product (normed N f g) w j * (s : EReal) := by
  unfold product normed
  rw [Cert.Attention.sum_mul_coe _ _ s hs]
  refine Finset.sum_congr rfl fun i _ => ?_
  rw [← mul_assoc, mul_right_comm]

end Cert.Projection

end
-- ==== Proof.Projection.Values.lean ====
/- What the kernel's body computes from the blocks it loads, row by row: the packed projection, the rotation tables, the scaled
   queries, the shared rotary key and the latent the keys and values are made of. -/
module

public import proofs.«01_k».proof.Proof.Gen.Kernel2Ideal.Value
public import proofs.«01_k».proof.Proof.Projection.Spec
public import Idealize.ShloMosaic.Lib.Pointwise
public import Idealize.ShloMosaic.Lib.ValueIdx
public import Idealize.ShloMosaic.Lib.WordCmp
public import Idealize.ShloMosaic.Lib.Pipeline.ValueKit

@[expose] public section

noncomputable section

namespace Cert.Projection

open Cert.Kernel2Ideal Cert.Kernel2Ideal.Gen Idealize.ShloMosaic

/-- The loaded blocks hold the arguments at batch `b`, row `r` of the block being position `p r`. -/
structure Loaded (x0 : Vec Ideal S1x1024x1024 .f32) (x1 : Vec Ideal S1x3x1024 .f32) (x2 : Vec Ideal S1x1x1024 .f32)
    (x3 : Vec Ideal S1x1024 .f32) (x4 : Vec Ideal S1x384 .f32) (x5 : Vec Ideal S1x256 .f32) (x6 : Vec Ideal S1024x2560 .bf16)
    (x7 : Vec Ideal S384x1024 .bf16) (x8 : Vec Ideal S256x1024 .bf16) (A : Args) (b : Fin 32) (p : Fin 1024 → Fin 2048) : Prop where
  x : ∀ r k, x0 (ix3 0 r k) = A.x b (p r) k
  shift : ∀ k : Fin 1024, x1 (ix3 0 0 k) = A.mod b ⟨k.val, by omega⟩
  scale : ∀ k : Fin 1024, x1 (ix3 0 1 k) = A.mod b ⟨1024 + k.val, by omega⟩
  pos : ∀ r, x2 (ix3 0 0 r) = (((A.pos b (p r)).toInt : ℝ) : EReal)
  gain : ∀ k, x3 (ix2 0 k) = A.gain k
  qgain : ∀ k, x4 (ix2 0 k) = A.qgain k
  kvgain : ∀ k, x5 (ix2 0 k) = A.kvgain k
  win : ∀ k j, x6 (ix2 k j) = packed (A.win k) j
  wq : ∀ k j, x7 (ix2 k j) = packedHeads (A.wq k) j
  wkv : ∀ k j, x8 (ix2 k j) = A.wkv k j

theorem named_step : Named.named (F := Ideal) Cert.Kernel2Ideal.κ (φ := .f32) "rope_step" 0xBF135D8E#32
    = ((-((Real.log 10000) * 16⁻¹) : ℝ) : EReal) := IdealRules.named_const.ideal_named_scalar _ _ _ _ rfl
theorem named_q : Named.named (F := Ideal) Cert.Kernel2Ideal.κ (φ := .f32) "q_scale" 0x3E16C740#32
    = ((((Real.sqrt 96) * (Real.log 2))⁻¹ : ℝ) : EReal) := IdealRules.named_const.ideal_named_scalar _ _ _ _ rfl
theorem named_window : Named.named (F := Ideal) Cert.Kernel2Ideal.κ (φ := .f32) "swa_scale" 0x3E38AA3B#32
    = (((8 * (Real.log 2))⁻¹ : ℝ) : EReal) := IdealRules.named_const.ideal_named_scalar _ _ _ _ rfl

/-- Steps of the exponent are powers of the base. -/
theorem frequency (i : ℝ) : Real.exp (i * -((Real.log 10000) * 16⁻¹)) = Real.rpow 10000 (-(2 * i) / 32) := by
  show _ = (10000 : ℝ) ^ (-(2 * i) / 32)
  rw [Real.rpow_def_of_pos (by norm_num)]
  congr 1; ring

section
variable {x0 : Vec Ideal S1x1024x1024 .f32} {x1 : Vec Ideal S1x3x1024 .f32} {x2 : Vec Ideal S1x1x1024 .f32}
    {x3 : Vec Ideal S1x1024 .f32} {x4 : Vec Ideal S1x384 .f32} {x5 : Vec Ideal S1x256 .f32} {x6 : Vec Ideal S1024x2560 .bf16}
    {x7 : Vec Ideal S384x1024 .bf16} {x8 : Vec Ideal S256x1024 .bf16} {A : Args} {b : Fin 32} {p : Fin 1024 → Fin 2048}
    (H : Loaded x0 x1 x2 x3 x4 x5 x6 x7 x8 A b p)
include H

theorem row_proj (r : Fin 1024) (j : Fin 2560) : k0_pay64 x0 x1 x2 x3 x4 x5 x6 x7 x8 (ix2 r j) = packed (A.proj b (p r)) j := by
  have e : k0_pay64 x0 x1 x2 x3 x4 x5 x6 x7 x8 = k0_pay2 x0 x1 x3 x6 := by
    unfold k0_pay64
    rw [View.ld_unit_lit _ x0 (by decide), View.ld_unit_lit _ x1 (by decide), View.ld_unit_lit _ x3 (by decide),
      View.ld_unit_lit _ x6 (by decide)]
  rw [e]
  pointwise [k0_pay2]
  simp only [H.x, H.shift, H.scale, H.gain, H.win]
  exact product_packed _ A.win j

theorem row_angle (i : Fin 16) (r : Fin 1024) : k0_pay65 x0 x1 x2 x3 x4 x5 x6 x7 x8 (ix2 i r) * k0_pay66 x0 x1 x2 x3 x4 x5 x6 x7 x8 (ix2 i r)
    = (angle (A.pos b (p r)) i : EReal) := by
  have e1 : k0_pay65 x0 x1 x2 x3 x4 x5 x6 x7 x8 (ix2 i r) = (Real.rpow 10000 (-(2 * (i.val : ℝ)) / 32) : EReal) := by
    unfold k0_pay65
    pointwise [k0_pay3]
    rw [named_step]
    have hi : (FloatOps.sitofp .f32 (BitVec.ofNat 32 i.val) : Ideal .f32) = ((i.val : ℝ) : EReal) := by
      show (((BitVec.ofNat 32 i.val).toInt : ℝ) : EReal) = _
      rw [WordCmp.toInt_ofNat_of_lt (by omega)]
      simp
    rw [hi]
    show Ideal.exp (((i.val : ℝ) : EReal) * ((-((Real.log 10000) * 16⁻¹) : ℝ) : EReal)) = _
    rw [← EReal.coe_mul, Ideal.exp_coe, frequency]
  have e2 : k0_pay66 x0 x1 x2 x3 x4 x5 x6 x7 x8 (ix2 i r) = (((A.pos b (p r)).toInt : ℝ) : EReal) := by
    unfold k0_pay66
    rw [View.ld_unit_lit _ x2 (by decide)]
    pointwise [k0_pay4]
    exact H.pos r
  rw [e1, e2, ← EReal.coe_mul, mul_comm]
  rfl

theorem row_tableA (r : Fin 1024) (l : Fin 128) :
    k0_pay67 x0 x1 x2 x3 x4 x5 x6 x7 x8 (ix2 r l) = tableA (angle (A.pos b (p r))) l := by
  unfold k0_pay67
  pointwise [k0_pay7, k0_pay6, k0_pay5]
  simp only [row_angle H, Ideal.cos_coe]
  rfl

theorem row_tableB (r : Fin 1024) (l : Fin 128) :
    k0_pay68 x0 x1 x2 x3 x4 x5 x6 x7 x8 (ix2 r l) = tableB (angle (A.pos b (p r))) l := by
  unfold k0_pay68
  pointwise [k0_pay8, k0_pay6, k0_pay5]
  simp only [row_angle H, Ideal.sin_coe]
  rfl

theorem row_queries (r j : Fin 1024) : k0_pay69 x0 x1 x2 x3 x4 x5 x6 x7 x8 (ix2 r j)
    = packedHeads (A.queries b (p r)) j * ((1 / (Real.sqrt 96 * Real.log 2) : ℝ) : EReal) := by
  unfold k0_pay69
  rw [View.ld_unit_lit _ x4 (by decide), View.ld_unit_lit _ x7 (by decide)]
  pointwise [k0_pay10, k0_pay9]
  simp only [row_proj H, packed_query, H.qgain, H.wq, named_q]
  rw [one_div]
  refine (product_scaled (Ideal.ofBits .f32 0x43C00000#32) (fun k => A.proj b (p r) ⟨k.val, by omega⟩) A.qgain
    (fun k => packedHeads (A.wq k)) _ (inv_nonneg.mpr (mul_nonneg (Real.sqrt_nonneg _) (Real.log_nonneg one_lt_two.le))) j).trans ?_
  exact congrArg (· * _) (product_packedHeads _ A.wq j)

/-- The 96 lanes whose rotation is the rotary part of every key. -/
def sharedKey (A : Args) (b : Fin 32) (t : Fin 2048) (i : Fin 96) : EReal :=
  if h : i.val < 64 then 0 else A.proj b t ⟨640 + (i.val - 64), by omega⟩

theorem row_sharedKey (r : Fin 1024) (l : Fin 128) :
    k0_pay70 x0 x1 x2 x3 x4 x5 x6 x7 x8 (ix2 r l) = roped (angle (A.pos b (p r))) (sharedKey A b (p r)) l := by
  unfold k0_pay70
  pointwise [k0_pay21, k0_pay9]
  simp only [row_proj H, row_tableA H, row_tableB H]
  have e := fun l => packed_rotary (A.proj b (p r)) l
  rw [← rotation]
  refine congrArg₂ (· + ·) (congrArg (· * _) (e l)) (congrArg (· * _) (e ⟨(l.val + 128 - 96) % 128, by omega⟩))

theorem row_latent (r : Fin 1024) (k : Fin 256) : k0_pay74 x0 x1 x2 x3 x4 x5 x6 x7 x8 (ix2 r k)
    = normed (Ideal.ofBits .f32 0x43800000#32) (fun k => A.proj b (p r) ⟨384 + k.val, by omega⟩) A.kvgain k := by
  unfold k0_pay74 k0_pay71 k0_pay72 k0_pay73
  rw [View.ld_unit_lit _ x5 (by decide)]
  pointwise [k0_pay25, k0_pay22, k0_pay23, k0_pay24]
  simp only [row_proj H, packed_latent, H.kvgain]
  rfl

end

end Cert.Projection

end
-- ==== Proof.Projection.Step.lean ====
/- The eight blocks the kernel's body leaves, at an index: each store's payload is read lane by lane, and the stores fill the block. -/
module

public import proofs.«01_k».proof.Proof.Projection.Values

@[expose] public section

noncomputable section

namespace Cert.Projection

open Cert.Kernel2Ideal Cert.Kernel2Ideal.Gen Idealize.ShloMosaic

section
variable {x0 : Vec Ideal S1x1024x1024 .f32} {x1 : Vec Ideal S1x3x1024 .f32} {x2 : Vec Ideal S1x1x1024 .f32}
    {x3 : Vec Ideal S1x1024 .f32} {x4 : Vec Ideal S1x384 .f32} {x5 : Vec Ideal S1x256 .f32} {x6 : Vec Ideal S1024x2560 .bf16}
    {x7 : Vec Ideal S384x1024 .bf16} {x8 : Vec Ideal S256x1024 .bf16} {A : Args} {b : Fin 32} {p : Fin 1024 → Fin 2048}
    (H : Loaded x0 x1 x2 x3 x4 x5 x6 x7 x8 A b p)

/-! ## The queries -/

/-- A lane of head `h` before its rounding: its own value times one table, the value 32 lanes on times the other. -/
def turned (q : FVec Ideal S1024x1024 .f32) (u v : FVec Ideal S1024x128 .f32) (h : Fin 8) (r : Fin 1024) (j : Fin 128) : EReal :=
  (q (ix2 r ⟨128 * h.val + j.val, by omega⟩) : EReal) * u (ix2 r j)
    + (q (ix2 r ⟨128 * h.val + (j.val + 128 - 96) % 128, by omega⟩) : EReal) * v (ix2 r j)

include H in
theorem turned_query (h : Fin 8) (r : Fin 1024) (j : Fin 128) :
    turned (k0_pay69 x0 x1 x2 x3 x4 x5 x6 x7 x8) (k0_pay67 x0 x1 x2 x3 x4 x5 x6 x7 x8) (k0_pay68 x0 x1 x2 x3 x4 x5 x6 x7 x8) h r j
      = A.out0 b (p r) ⟨128 * h.val + j.val, by omega⟩ := by
  unfold turned
  simp only [row_queries H, row_tableA H, row_tableB H]
  have e := fun l => packedHeads_head (A.queries b (p r)) h l
  have e1 := e j
  have e2 := e ⟨(j.val + 128 - 96) % 128, by omega⟩
  simp only at e2
  rw [e1, e2, mul_right_comm, mul_right_comm (doubled _ ⟨(j.val + 128 - 96) % 128, _⟩),
    ← EReal.right_distrib_of_nonneg_of_ne_top (by exact_mod_cast (by positivity : 0 ≤ (1 / (Real.sqrt 96 * Real.log 2)))) (EReal.coe_ne_top _),
    rotation]
  unfold Args.out0
  have f1 : (⟨(128 * h.val + j.val) / 128, by omega⟩ : Fin 8) = h := Fin.ext (by dsimp only; omega)
  have f2 : (⟨(128 * h.val + j.val) % 128, by omega⟩ : Fin 128) = j := Fin.ext (by dsimp only; omega)
  simp only [f1, f2]
  rfl

theorem pay11_apply (z : FVec Ideal S1024x2560 .f32) (u v : FVec Ideal S16x1024 .f32) (g : Vec Ideal S1x384 .f32)
    (w : Vec Ideal S384x1024 .bf16) (r : Fin 1024) (j : Fin 128) :
    k0_pay11 z u v g w (ix3 0 r j) = turned (k0_pay10 z g w) (k0_pay7 u v) (k0_pay8 u v) 0 r j := by
  unfold turned
  pointwise [k0_pay11]

variable (q : FVec Ideal S1024x1024 .f32) (u v : FVec Ideal S1024x128 .f32) (r : Fin 1024) (j : Fin 128)

theorem pay12_apply : k0_pay12 u v q (ix3 0 r j) = turned q u v 1 r j := by unfold turned; pointwise [k0_pay12]
theorem pay13_apply : k0_pay13 u v q (ix3 0 r j) = turned q u v 2 r j := by unfold turned; pointwise [k0_pay13]
theorem pay14_apply : k0_pay14 u v q (ix3 0 r j) = turned q u v 3 r j := by unfold turned; pointwise [k0_pay14]
theorem pay15_apply : k0_pay15 u v q (ix3 0 r j) = turned q u v 4 r j := by unfold turned; pointwise [k0_pay15]
theorem pay18_apply : k0_pay18 v (k0_pay16 q) (k0_pay17 u q) 96#32 (ix3 0 r j) = turned q u v 5 r j := by
  unfold turned; pointwise [k0_pay18, k0_pay16, k0_pay17]
theorem pay19_apply : k0_pay19 u v q (ix3 0 r j) = turned q u v 6 r j := by unfold turned; pointwise [k0_pay19]
theorem pay20_apply : k0_pay20 u v q (ix3 0 r j) = turned q u v 7 r j := by unfold turned; pointwise [k0_pay20]

/-! ## The keys and values -/

/-- The columns of two heads. -/
def pair (w : Vec Ideal S256x1024 .bf16) (n : Fin 4) : Vec Ideal S256x256 .bf16 :=
  fun i => w (ix2 (i 0) ⟨256 * n.val + (i 1).val, by have := (i 1).isLt; change (i 1).val < 256 at this; omega⟩)

theorem pay39_apply (lat : FVec Ideal S1024x256 .bf16) (w : Vec Ideal S256x256 .bf16) (r : Fin 1024) (j : Fin 256) :
    k0_pay39 lat w (ix2 r j) = ∑ k : Fin 256, (lat (ix2 r k) : EReal) * w (ix2 k j) := by
  pointwise [k0_pay39]

include H in
theorem pair_apply (n : Fin 4) (r : Fin 1024) (j : Fin 256) :
    (k0_pay39 (k0_pay74 x0 x1 x2 x3 x4 x5 x6 x7 x8) (pair x8 n) (ix2 r j) : EReal)
      = A.keysValues b (p r) ⟨256 * n.val + j.val, by omega⟩ := by
  rw [pay39_apply]
  have e : ∀ k, pair x8 n (ix2 k j) = A.wkv k ⟨256 * n.val + j.val, by omega⟩ := fun k => H.wkv k ⟨256 * n.val + j.val, by omega⟩
  simp only [row_latent H, e]
  rfl

theorem select_low {a c : EReal} (j : ℕ) (hj : j < 128) :
    Scalar.select (IntOp.cmpi CmpIPredicate.slt (BitVec.ofNat 32 j) 64#32) a c = if j < 64 then a else c := by
  rw [show (64#32 : BitVec 32) = BitVec.ofNat 32 64 from rfl, WordCmp.cmpi_slt_ofNat (by omega) (by omega)]
  by_cases h : j < 64 <;> simp [h, Scalar.select]

theorem pay42_apply (e : FVec Ideal S1024x128 .f32) (lat : FVec Ideal S1024x256 .bf16) (w : Vec Ideal S256x256 .bf16) (r : Fin 1024)
    (j : Fin 256) : (k0_pay42 e lat k0_pay26 w (ix3 0 r j) : EReal)
      = if j.val % 128 < 64 then k0_pay39 lat w (ix2 r j) else e (ix2 r ⟨j.val % 128, by omega⟩) := by
  pointwise [k0_pay42, k0_pay40, k0_pay41, k0_pay26]
  by_cases h : j.val < 128
  · have e1 : (⟨j.val % 128, by omega⟩ : Fin 128) = ⟨j.val, h⟩ := Fin.ext (Nat.mod_eq_of_lt h)
    rw [dif_pos h, select_low j.val (by omega), e1]
    exact if_congr (by omega) rfl rfl
  · have e1 : (⟨j.val % 128, by omega⟩ : Fin 128) = ⟨j.val - 128, by omega⟩ := Fin.ext (by dsimp only; omega)
    have e2 : (⟨128 + (j.val - 128), by omega⟩ : Fin 256) = j := Fin.ext (by dsimp only; omega)
    rw [dif_neg h, select_low (j.val - 128) (by omega), e1, e2]
    exact if_congr (by omega) rfl rfl

theorem pay43_apply (lat : FVec Ideal S1024x256 .bf16) (w : Vec Ideal S256x256 .bf16) (r : Fin 1024)
    (j : Fin 128) : (k0_pay43 lat k0_pay26 w (ix3 0 r j) : EReal)
      = k0_pay39 lat w (ix2 r ⟨128 * (j.val / 64) + (64 + j.val % 64), by omega⟩) := by
  pointwise [k0_pay43, k0_pay40, k0_pay41, k0_pay26]
  rw [select_low _ (by omega)]
  split_ifs with h
  · exact congrArg (fun i => k0_pay39 lat w (ix2 r i)) (Fin.ext (by dsimp only <;> omega))
  · exact congrArg (fun i => k0_pay39 lat w (ix2 r i)) (Fin.ext (by dsimp only <;> omega))

include H in
theorem key_lane (n : Fin 4) (r : Fin 1024) (j : Fin 256) :
    (k0_pay42 (k0_pay70 x0 x1 x2 x3 x4 x5 x6 x7 x8) (k0_pay74 x0 x1 x2 x3 x4 x5 x6 x7 x8) k0_pay26 (pair x8 n) (ix3 0 r j) : EReal)
      = A.out1 b (p r) ⟨256 * n.val + j.val, by omega⟩ := by
  rw [pay42_apply, pair_apply H, row_sharedKey H]
  unfold Args.out1 Args.key roped
  dsimp only
  by_cases h : j.val % 128 < 64
  · rw [if_pos h, dif_pos (show (256 * n.val + j.val) % 128 < 64 by omega)]
    exact congrArg (A.keysValues b (p r)) (Fin.ext (by dsimp only; omega))
  · rw [if_neg h, dif_neg (show ¬ (256 * n.val + j.val) % 128 < 64 by omega), dif_neg h]
    by_cases h' : j.val % 128 - 64 < 32
    · rw [dif_pos h', dif_pos (show (256 * n.val + j.val) % 128 - 64 < 32 by omega)]
      congr 1
      · funext i
        unfold sharedKey
        rw [dif_neg (by dsimp only; omega)]
        exact congrArg (A.proj b (p r)) (Fin.ext (by dsimp only; omega))
      · exact Fin.ext (by dsimp only; omega)
    · rw [dif_neg h', dif_neg (show ¬ (256 * n.val + j.val) % 128 - 64 < 32 by omega)]

include H in
theorem value_lane (n : Fin 4) (r : Fin 1024) (j : Fin 128) :
    (k0_pay43 (k0_pay74 x0 x1 x2 x3 x4 x5 x6 x7 x8) k0_pay26 (pair x8 n) (ix3 0 r j) : EReal)
      = A.out2 b (p r) ⟨128 * n.val + j.val, by omega⟩ := by
  rw [pay43_apply, pair_apply H]
  exact congrArg (A.keysValues b (p r)) (Fin.ext (by dsimp only; omega))

end

end Cert.Projection

end
-- ==== Proof.Projection.Block.lean ====
/- The eight blocks the kernel's body leaves, whole: their stores fill them, and each holds its result at the block's rows. -/
module

public import proofs.«01_k».proof.Proof.Projection.Step

@[expose] public section

noncomputable section

namespace Cert.Projection

open Cert.Kernel2Ideal Cert.Kernel2Ideal.Gen Cert.Kernel2Ideal.Value Idealize.ShloMosaic

/-- A store of `w` columns from `off` on that holds `G` there. -/
theorem piece {n w off : ℕ} (G : Fin 1024 → Fin n → EReal) (P : (⟨3, ![1, 1024, w]⟩ : Shape).Idx → EReal) (hoff : off + w ≤ n)
    (hP : ∀ (r : Fin 1024) (j : Fin w), P (ix3 (n0 := 1) (n1 := 1024) (n2 := w) 0 r j) = G r ⟨off + j.val, by omega⟩)
    (inb : ∀ a : Fin 3, ![0, 0, off] a + ![1, 1024, w] a ≤ ![1, 1024, n] a) (x : (⟨3, ![1, 1024, w]⟩ : Shape).Idx) :
    P x = (fun y : (⟨3, ![1, 1024, n]⟩ : Shape).Idx => G (y 1) (y 2))
      ((Rect.unit (s := ⟨3, ![1, 1024, n]⟩) ![0, 0, off] ![1, 1024, w] inb).emb x) := by
  obtain ⟨r, j, rfl⟩ : ∃ (r : Fin 1024) (j : Fin w), x = ix3 (n0 := 1) (n1 := 1024) (n2 := w) 0 r j :=
    ⟨x 1, x 2, (eq_ix3 (n0 := 1) (n1 := 1024) (n2 := w) x).trans (congrArg (fun u => ix3 (n0 := 1) (n1 := 1024) (n2 := w) u (x 1) (x 2))
      (Fin.ext (by have := (x 0).isLt; change (x 0).val < 1 at this; show (x 0).val = 0; omega)))⟩
  refine (hP r j).trans (congrArg₂ G (Fin.ext ?_) (Fin.ext ?_))
  · show r.val = 0 + 1 * r.val; omega
  · show off + j.val = off + 1 * j.val; omega

section
variable {x0 : Vec Ideal S1x1024x1024 .f32} {x1 : Vec Ideal S1x3x1024 .f32} {x2 : Vec Ideal S1x1x1024 .f32}
    {x3 : Vec Ideal S1x1024 .f32} {x4 : Vec Ideal S1x384 .f32} {x5 : Vec Ideal S1x256 .f32} {x6 : Vec Ideal S1024x2560 .bf16}
    {x7 : Vec Ideal S384x1024 .bf16} {x8 : Vec Ideal S256x1024 .bf16} {A : Args} {b : Fin 32} {p : Fin 1024 → Fin 2048}
    (H : Loaded x0 x1 x2 x3 x4 x5 x6 x7 x8 A b p)
include H

theorem block9 (r l : Fin 1024) : (out0_9 x0 x1 x2 x3 x4 x5 x6 x7 x8 (ix3 0 r l) : EReal) = A.out0 b (p r) l := by
  unfold out0_9
  refine View.canon_apply_of_pieces (Val := Elt Ideal) (e := .bf16) (S := S1x1024x1024) (fun y => A.out0 b (p (y 1)) (y 2)) _ ?_ (ix3 0 r l)
    (cover0_9 _ _ _ _ _ _ _ _ _)
  intro pc hpc
  rcases List.mem_cons.mp hpc with rfl | hpc
  · exact piece (off := 896) (fun r l => A.out0 b (p r) l) _ (by omega) (fun r j => (pay20_apply _ _ _ r j).trans (turned_query H 7 r j)) (by decide)
  rcases List.mem_cons.mp hpc with rfl | hpc
  · exact piece (off := 768) (fun r l => A.out0 b (p r) l) _ (by omega) (fun r j => (pay19_apply _ _ _ r j).trans (turned_query H 6 r j)) (by decide)
  rcases List.mem_cons.mp hpc with rfl | hpc
  · exact piece (off := 640) (fun r l => A.out0 b (p r) l) _ (by omega) (fun r j => (pay18_apply _ _ _ r j).trans (turned_query H 5 r j)) (by decide)
  rcases List.mem_cons.mp hpc with rfl | hpc
  · exact piece (off := 512) (fun r l => A.out0 b (p r) l) _ (by omega) (fun r j => (pay15_apply _ _ _ r j).trans (turned_query H 4 r j)) (by decide)
  rcases List.mem_cons.mp hpc with rfl | hpc
  · exact piece (off := 384) (fun r l => A.out0 b (p r) l) _ (by omega) (fun r j => (pay14_apply _ _ _ r j).trans (turned_query H 3 r j)) (by decide)
  rcases List.mem_cons.mp hpc with rfl | hpc
  · exact piece (off := 256) (fun r l => A.out0 b (p r) l) _ (by omega) (fun r j => (pay13_apply _ _ _ r j).trans (turned_query H 2 r j)) (by decide)
  rcases List.mem_cons.mp hpc with rfl | hpc
  · exact piece (off := 128) (fun r l => A.out0 b (p r) l) _ (by omega) (fun r j => (pay12_apply _ _ _ r j).trans (turned_query H 1 r j)) (by decide)
  rcases List.mem_cons.mp hpc with rfl | hpc
  · exact piece (off := 0) (fun r l => A.out0 b (p r) l) _ (by omega) (fun r j => (pay11_apply _ _ _ _ _ r j).trans (turned_query H 0 r j)) (by decide)
  nomatch hpc

omit H in
/-- The columns of two heads, as the body loads them. -/
theorem pair_load (x8 : Vec Ideal S256x1024 .bf16) (n : Fin 4) (inb : ∀ a, ![0, 256 * n.val] a + S256x256.size a ≤ S256x1024.size a) :
    View.ld x8 (Rect.unit (s := S256x1024) ![0, 256 * n.val] S256x256.size inb) = pair x8 n :=
  funext fun x => congrArg x8 (funext fun a => Fin.ext (by
    match a with
    | ⟨0, _⟩ => show 0 + 1 * (x 0).val = (x 0).val; omega
    | ⟨1, _⟩ => show 256 * n.val + 1 * (x 1).val = 256 * n.val + (x 1).val; omega))

omit H in
theorem pair_0 (x8 : Vec Ideal S256x1024 .bf16) : View.ld x8 r0_16 = pair x8 0 := pair_load x8 0 _
omit H in
theorem pair_1 (x8 : Vec Ideal S256x1024 .bf16) : View.ld x8 r0_19 = pair x8 1 := pair_load x8 1 _
omit H in
theorem pair_2 (x8 : Vec Ideal S256x1024 .bf16) : View.ld x8 r0_22 = pair x8 2 := pair_load x8 2 _
omit H in
theorem pair_3 (x8 : Vec Ideal S256x1024 .bf16) : View.ld x8 r0_25 = pair x8 3 := pair_load x8 3 _

theorem block10 (r l : Fin 1024) : (out0_10 x0 x1 x2 x3 x4 x5 x6 x7 x8 (ix3 0 r l) : EReal) = A.out1 b (p r) l := by
  unfold out0_10
  rw [pair_0, pair_1, pair_2, pair_3]
  refine View.canon_apply_of_pieces (Val := Elt Ideal) (e := .bf16) (S := S1x1024x1024) (fun y => A.out1 b (p (y 1)) (y 2)) _ ?_ (ix3 0 r l)
    (cover0_10 _ _ _ _ _)
  intro pc hpc
  rcases List.mem_cons.mp hpc with rfl | hpc
  · exact piece (off := 768) (fun r l => A.out1 b (p r) l) _ (by omega) (key_lane H 3) (by decide)
  rcases List.mem_cons.mp hpc with rfl | hpc
  · exact piece (off := 512) (fun r l => A.out1 b (p r) l) _ (by omega) (key_lane H 2) (by decide)
  rcases List.mem_cons.mp hpc with rfl | hpc
  · exact piece (off := 256) (fun r l => A.out1 b (p r) l) _ (by omega) (key_lane H 1) (by decide)
  rcases List.mem_cons.mp hpc with rfl | hpc
  · exact piece (off := 0) (fun r l => A.out1 b (p r) l) _ (by omega) (key_lane H 0) (by decide)
  nomatch hpc

theorem block11 (r : Fin 1024) (l : Fin 512) : (out0_11 x0 x1 x2 x3 x4 x5 x6 x7 x8 (ix3 0 r l) : EReal) = A.out2 b (p r) l := by
  unfold out0_11
  rw [pair_0, pair_1, pair_2, pair_3]
  refine View.canon_apply_of_pieces (Val := Elt Ideal) (e := .bf16) (S := S1x1024x512) (fun y => A.out2 b (p (y 1)) (y 2)) _ ?_ (ix3 0 r l)
    (cover0_11 _ _ _ _ _)
  intro pc hpc
  rcases List.mem_cons.mp hpc with rfl | hpc
  · exact piece (off := 384) (fun r l => A.out2 b (p r) l) _ (by omega) (value_lane H 3) (by decide)
  rcases List.mem_cons.mp hpc with rfl | hpc
  · exact piece (off := 256) (fun r l => A.out2 b (p r) l) _ (by omega) (value_lane H 2) (by decide)
  rcases List.mem_cons.mp hpc with rfl | hpc
  · exact piece (off := 128) (fun r l => A.out2 b (p r) l) _ (by omega) (value_lane H 1) (by decide)
  rcases List.mem_cons.mp hpc with rfl | hpc
  · exact piece (off := 0) (fun r l => A.out2 b (p r) l) _ (by omega) (value_lane H 0) (by decide)
  nomatch hpc

theorem block12 (r : Fin 1024) (l : Fin 512) : (out0_12 x0 x1 x2 x3 x4 x5 x6 x7 x8 (ix3 0 r l) : EReal) = A.out3 b (p r) l := by
  unfold out0_12
  refine View.canon_apply_of_pieces (Val := Elt Ideal) (e := .bf16) (S := S1x1024x512) (fun y => A.out3 b (p (y 1)) (y 2)) _ ?_ (ix3 0 r l)
    (cover0_12 _ _)
  intro pc hpc
  rcases List.mem_cons.mp hpc with rfl | hpc
  · refine piece (off := 0) (fun r l => A.out3 b (p r) l) _ (by omega) (fun r j => ?_) (by decide)
    pointwise [k0_pay49]
    simp only [row_proj H, packed_gate, Nat.zero_add]
    rfl
  nomatch hpc

theorem block13 (r : Fin 1024) (l : Fin 512) : (out0_13 x0 x1 x2 x3 x4 x5 x6 x7 x8 (ix3 0 r l) : EReal) = A.out4 b (p r) l := by
  unfold out0_13
  refine View.canon_apply_of_pieces (Val := Elt Ideal) (e := .bf16) (S := S1x1024x512) (fun y => A.out4 b (p (y 1)) (y 2)) _ ?_ (ix3 0 r l)
    (cover0_13 _ _)
  intro pc hpc
  rcases List.mem_cons.mp hpc with rfl | hpc
  · refine piece (off := 0) (fun r l => A.out4 b (p r) l) _ (by omega) (fun r j => ?_) (by decide)
    pointwise [k0_pay52, k0_pay51]
    simp only [row_proj H, packed_window_query, named_window, Args.out4, one_div, Nat.zero_add]
  nomatch hpc

theorem block14 (r : Fin 1024) (l : Fin 256) : (out0_14 x0 x1 x2 x3 x4 x5 x6 x7 x8 (ix3 0 r l) : EReal) = A.out5 b (p r) l := by
  unfold out0_14
  refine View.canon_apply_of_pieces (Val := Elt Ideal) (e := .bf16) (S := S1x1024x256) (fun y => A.out5 b (p (y 1)) (y 2)) _ ?_ (ix3 0 r l)
    (cover0_14 _ _)
  intro pc hpc
  rcases List.mem_cons.mp hpc with rfl | hpc
  · refine piece (off := 0) (fun r l => A.out5 b (p r) l) _ (by omega) (fun r j => ?_) (by decide)
    pointwise [k0_pay54, k0_pay53]
    simp only [row_proj H, Args.out5]
    have key : ∀ (i l : ℕ) (hi : i < 128) (_ : i = l),
        packed (A.proj b (p r)) ⟨1792 + i, by omega⟩ = A.proj b (p r) ⟨1696 + l, by omega⟩ := by
      rintro i _ hi rfl
      exact packed_window_key _ ⟨i, hi⟩
    by_cases h : j.val < 128
    · rw [dif_pos h, select_low j.val (by omega)]
      split_ifs <;> exact key _ _ (by omega) (by omega)
    · rw [dif_neg h, select_low (j.val - 128) (by omega)]
      split_ifs <;> exact key _ _ (by omega) (by omega)
  nomatch hpc

theorem block16 (r : Fin 1024) (l : Fin 512) : (out0_16 x0 x1 x2 x3 x4 x5 x6 x7 x8 (ix3 0 r l) : EReal) = A.out7 b (p r) l := by
  unfold out0_16
  refine View.canon_apply_of_pieces (Val := Elt Ideal) (e := .bf16) (S := S1x1024x512) (fun y => A.out7 b (p (y 1)) (y 2)) _ ?_ (ix3 0 r l)
    (cover0_16 _ _)
  intro pc hpc
  rcases List.mem_cons.mp hpc with rfl | hpc
  · refine piece (off := 0) (fun r l => A.out7 b (p r) l) _ (by omega) (fun r j => ?_) (by decide)
    pointwise [k0_pay50]
    simp only [row_proj H, packed_window_gate, Nat.zero_add]
    rfl
  nomatch hpc

/-- The windows' values lie transposed, 128 positions at a time. -/
theorem block15 (n : Fin 8) (d r : Fin 128) : (out0_15 x0 x1 x2 x3 x4 x5 x6 x7 x8 (ix4 0 n d r) : EReal)
    = A.proj b (p ⟨128 * n.val + r.val, by omega⟩) ⟨1824 + d.val, by omega⟩ := by
  have e : (out0_15 x0 x1 x2 x3 x4 x5 x6 x7 x8 (ix4 0 n d r) : EReal)
      = k0_pay64 x0 x1 x2 x3 x4 x5 x6 x7 x8 (ix15_0 (ix4 0 n d r)) := canon15_eq _ _ _ _ (ix4 0 n d r)
  have ei : ix15_0 (ix4 0 n d r) = ix2 (n0 := 1024) (n1 := 2560) ⟨128 * n.val + r.val, by omega⟩ ⟨1792 + (128 + d.val), by omega⟩ :=
    funext fun a => Fin.ext (by
      match a with
      | ⟨0, _⟩ => show n.val * 128 + r.val = 128 * n.val + r.val; omega
      | ⟨1, _⟩ => show d.val + 1920 = 1792 + (128 + d.val); omega)
  rw [e, ei, row_proj H, packed_window_value]

end

end Cert.Projection

end
-- ==== Proof.Projection.Host.lean ====
/- What the host lines before the kernel hand to it: the packed weights, and the other arguments reshaped. -/
module

public import proofs.«01_k».proof.Proof.Gen.Kernel2Ideal.Value
public import proofs.«01_k».proof.Proof.Projection.Spec
public import Idealize.ShloMosaic.Lib.StableHlo.ReadAt

@[expose] public section

noncomputable section

namespace Cert.Projection

open Cert.Kernel2Ideal Cert.Kernel2Ideal.Gen Idealize.ShloMosaic Idealize.ShloMosaic.TcCoe Idealize.ShloMosaic.StableHlo
open Cert.Kernel2Ideal.Facts₀

variable (m : (ℓ : Loc nD τ sig) → Buf (Elt Ideal) ℓ) (c : Dev nD)

/-- The arguments the memory holds. -/
def args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

set_option maxHeartbeats 4000000 in
theorem win_read (k : Fin 1024) (j : Fin 2560) : (V m c main_v18 (ix2 k j) : EReal) = packed ((args m c).win k) j := by
  have e : packed ((args m c).win k) j = packed (fun i => m ((c : Thread nD τ).loc main_arg4) (ix3 0 k i)) j := rfl
  rw [e]
  unfold V packed
  after_reads_at
  repeat after_reads_at

theorem wq_read (k : Fin 384) (j : Fin 1024) : (V m c main_v26 (ix2 k j) : EReal) = packedHeads ((args m c).wq k) j := by
  unfold V
  after_reads_at
  repeat after_reads_at
  rfl

theorem wkv_read (k : Fin 256) (j : Fin 1024) : (V m c main_v27 (ix2 k j) : EReal) = (args m c).wkv k j := by
  unfold V
  after_reads_at
  repeat after_reads_at
  rfl

theorem mod_read (b : Fin 32) (i : Fin 3) (j : Fin 1024) : (V m c main_v28 (ix3 b i j) : EReal) = (args m c).mod b ⟨i.val * 1024 + j.val, by omega⟩ := by
  unfold V
  after_reads_at
  repeat after_reads_at
  rfl

theorem pos_read (b : Fin 32) (t : Fin 2048) : (V m c main_v29 (ix3 b 0 t) : EReal) = ((((args m c).pos b t).toInt : ℝ) : EReal) := by
  unfold V
  after_reads_at
  repeat after_reads_at
  rfl

theorem gain_read (k : Fin 1024) : (V m c main_v31 (ix2 0 k) : EReal) = (args m c).gain k := by
  unfold V
  after_reads_at
  repeat after_reads_at
  rfl

theorem qgain_read (k : Fin 384) : (V m c main_v33 (ix2 0 k) : EReal) = (args m c).qgain k := by
  unfold V
  after_reads_at
  repeat after_reads_at
  rfl

theorem kvgain_read (k : Fin 256) : (V m c main_v35 (ix2 0 k) : EReal) = (args m c).kvgain k := by
  unfold V
  after_reads_at
  repeat after_reads_at
  rfl

theorem x_read (b : Fin 32) (t : Fin 2048) (k : Fin 1024) : (V m c main_arg0 (ix3 b t k) : EReal) = (args m c).x b t k := by
  unfold V
  after_reads_at
  rfl

end Cert.Projection

end
-- ==== Proof.Projection.Array.lean ====
/- The eight arrays the kernel leaves: grid point `t` holds batch `t / 2` and the positions from `1024 * (t % 2)` on. -/
module

public import proofs.«01_k».proof.Proof.Projection.Block
public import proofs.«01_k».proof.Proof.Projection.Host

@[expose] public section

noncomputable section

namespace Cert.Projection

open Cert.Kernel2Ideal Cert.Kernel2Ideal.Gen Cert.Kernel2Ideal.Value Idealize.ShloMosaic Idealize.ShloMosaic.TcCoe Idealize.SL.Sem

/-! ## The blocks of a grid point -/

theorem at0 : ∀ t : Fin cfg0.N, win0_0.index t = ![t.val / 2, t.val % 2, 0] :=
  (by decide +kernel : ∀ t : Fin grid0.N, win0_0.index t = ![t.val / 2, t.val % 2, 0])
theorem at1 : ∀ t : Fin cfg0.N, win0_1.index t = ![t.val / 2, 0, 0] :=
  (by decide +kernel : ∀ t : Fin grid0.N, win0_1.index t = ![t.val / 2, 0, 0])
theorem at2 : ∀ t : Fin cfg0.N, win0_2.index t = ![t.val / 2, 0, t.val % 2] :=
  (by decide +kernel : ∀ t : Fin grid0.N, win0_2.index t = ![t.val / 2, 0, t.val % 2])
theorem at3 : ∀ t : Fin cfg0.N, win0_3.index t = ![0, 0] := (by decide +kernel : ∀ t : Fin grid0.N, win0_3.index t = ![0, 0])
theorem at4 : ∀ t : Fin cfg0.N, win0_4.index t = ![0, 0] := (by decide +kernel : ∀ t : Fin grid0.N, win0_4.index t = ![0, 0])
theorem at5 : ∀ t : Fin cfg0.N, win0_5.index t = ![0, 0] := (by decide +kernel : ∀ t : Fin grid0.N, win0_5.index t = ![0, 0])
theorem at6 : ∀ t : Fin cfg0.N, win0_6.index t = ![0, 0] := (by decide +kernel : ∀ t : Fin grid0.N, win0_6.index t = ![0, 0])
theorem at7 : ∀ t : Fin cfg0.N, win0_7.index t = ![0, 0] := (by decide +kernel : ∀ t : Fin grid0.N, win0_7.index t = ![0, 0])
theorem at8 : ∀ t : Fin cfg0.N, win0_8.index t = ![0, 0] := (by decide +kernel : ∀ t : Fin grid0.N, win0_8.index t = ![0, 0])
theorem at9 : ∀ t : Fin cfg0.N, win0_9.index t = ![t.val / 2, t.val % 2, 0] :=
  (by decide +kernel : ∀ t : Fin grid0.N, win0_9.index t = ![t.val / 2, t.val % 2, 0])
theorem at10 : ∀ t : Fin cfg0.N, win0_10.index t = ![t.val / 2, t.val % 2, 0] :=
  (by decide +kernel : ∀ t : Fin grid0.N, win0_10.index t = ![t.val / 2, t.val % 2, 0])
theorem at11 : ∀ t : Fin cfg0.N, win0_11.index t = ![t.val / 2, t.val % 2, 0] :=
  (by decide +kernel : ∀ t : Fin grid0.N, win0_11.index t = ![t.val / 2, t.val % 2, 0])
theorem at12 : ∀ t : Fin cfg0.N, win0_12.index t = ![t.val / 2, t.val % 2, 0] :=
  (by decide +kernel : ∀ t : Fin grid0.N, win0_12.index t = ![t.val / 2, t.val % 2, 0])
theorem at13 : ∀ t : Fin cfg0.N, win0_13.index t = ![t.val / 2, t.val % 2, 0] :=
  (by decide +kernel : ∀ t : Fin grid0.N, win0_13.index t = ![t.val / 2, t.val % 2, 0])
theorem at14 : ∀ t : Fin cfg0.N, win0_14.index t = ![t.val / 2, t.val % 2, 0] :=
  (by decide +kernel : ∀ t : Fin grid0.N, win0_14.index t = ![t.val / 2, t.val % 2, 0])
theorem at15 : ∀ t : Fin cfg0.N, win0_15.index t = ![t.val / 2, t.val % 2, 0, 0] :=
  (by decide +kernel : ∀ t : Fin grid0.N, win0_15.index t = ![t.val / 2, t.val % 2, 0, 0])
theorem at16 : ∀ t : Fin cfg0.N, win0_16.index t = ![t.val / 2, t.val % 2, 0] :=
  (by decide +kernel : ∀ t : Fin grid0.N, win0_16.index t = ![t.val / 2, t.val % 2, 0])

theorem points_lt (t : Fin cfg0.N) : t.val < 64 := by have := t.isLt; have h : cfg0.N = 64 := N_0; omega

variable (m : (ℓ : Loc nD τ sig) → Buf (Elt Ideal) ℓ) (c : Dev nD)

section
variable (t : Fin cfg0.N)

/-- The batch of a grid point, and the position of a row of its block. -/
def batch : Fin 32 := ⟨t.val / 2, by have := points_lt t; omega⟩
def position (r : Fin 1024) : Fin 2048 := ⟨1024 * (t.val % 2) + r.val, by omega⟩

theorem block0 (r k : Fin 1024) : iblk m c 0 t (ix3 0 r k) = V m c main_arg0 (ix3 (batch t) (position t r) k) := by
  refine congrArg (V m c main_arg0) (funext fun a => Fin.ext ?_)
  match a with
  | ⟨0, _⟩ => show win0_0.index t 0 * 1 + 1 * 0 = t.val / 2; rw [at0]; show t.val / 2 * 1 + 1 * 0 = _; omega
  | ⟨1, _⟩ => show win0_0.index t 1 * 1024 + 1 * r.val = 1024 * (t.val % 2) + r.val; rw [at0]; show t.val % 2 * 1024 + 1 * r.val = _; omega
  | ⟨2, _⟩ => show win0_0.index t 2 * 1024 + 1 * k.val = k.val; rw [at0]; show 0 * 1024 + 1 * k.val = _; omega

theorem block1 (i : Fin 3) (k : Fin 1024) : iblk m c 1 t (ix3 0 i k) = V m c main_v28 (ix3 (batch t) i k) := by
  refine congrArg (V m c main_v28) (funext fun a => Fin.ext ?_)
  match a with
  | ⟨0, _⟩ => show win0_1.index t 0 * 1 + 1 * 0 = t.val / 2; rw [at1]; show t.val / 2 * 1 + 1 * 0 = _; omega
  | ⟨1, _⟩ => show win0_1.index t 1 * 3 + 1 * i.val = i.val; rw [at1]; show 0 * 3 + 1 * i.val = _; omega
  | ⟨2, _⟩ => show win0_1.index t 2 * 1024 + 1 * k.val = k.val; rw [at1]; show 0 * 1024 + 1 * k.val = _; omega

theorem block2 (r : Fin 1024) : iblk m c 2 t (ix3 0 0 r) = V m c main_v29 (ix3 (batch t) 0 (position t r)) := by
  refine congrArg (V m c main_v29) (funext fun a => Fin.ext ?_)
  match a with
  | ⟨0, _⟩ => show win0_2.index t 0 * 1 + 1 * 0 = t.val / 2; rw [at2]; show t.val / 2 * 1 + 1 * 0 = _; omega
  | ⟨1, _⟩ => show win0_2.index t 1 * 1 + 1 * 0 = 0; rw [at2]; rfl
  | ⟨2, _⟩ => show win0_2.index t 2 * 1024 + 1 * r.val = 1024 * (t.val % 2) + r.val; rw [at2]; show t.val % 2 * 1024 + 1 * r.val = _; omega

/-- The other windows hold whole arrays. -/
theorem block3 (k : Fin 1024) : iblk m c 3 t (ix2 0 k) = V m c main_v31 (ix2 0 k) := by
  refine congrArg (V m c main_v31) (funext fun a => Fin.ext ?_)
  match a with
  | ⟨0, _⟩ => show win0_3.index t 0 * 1 + 1 * 0 = 0; rw [at3]; rfl
  | ⟨1, _⟩ => show win0_3.index t 1 * 1024 + 1 * k.val = k.val; rw [at3]; show 0 * 1024 + 1 * k.val = _; omega

theorem block4 (k : Fin 384) : iblk m c 4 t (ix2 0 k) = V m c main_v33 (ix2 0 k) := by
  refine congrArg (V m c main_v33) (funext fun a => Fin.ext ?_)
  match a with
  | ⟨0, _⟩ => show win0_4.index t 0 * 1 + 1 * 0 = 0; rw [at4]; rfl
  | ⟨1, _⟩ => show win0_4.index t 1 * 384 + 1 * k.val = k.val; rw [at4]; show 0 * 384 + 1 * k.val = _; omega

theorem block5 (k : Fin 256) : iblk m c 5 t (ix2 0 k) = V m c main_v35 (ix2 0 k) := by
  refine congrArg (V m c main_v35) (funext fun a => Fin.ext ?_)
  match a with
  | ⟨0, _⟩ => show win0_5.index t 0 * 1 + 1 * 0 = 0; rw [at5]; rfl
  | ⟨1, _⟩ => show win0_5.index t 1 * 256 + 1 * k.val = k.val; rw [at5]; show 0 * 256 + 1 * k.val = _; omega

theorem block6 (k : Fin 1024) (j : Fin 2560) : iblk m c 6 t (ix2 k j) = V m c main_v18 (ix2 k j) := by
  refine congrArg (V m c main_v18) (funext fun a => Fin.ext ?_)
  match a with
  | ⟨0, _⟩ => show win0_6.index t 0 * 1024 + 1 * k.val = k.val; rw [at6]; show 0 * 1024 + 1 * k.val = _; omega
  | ⟨1, _⟩ => show win0_6.index t 1 * 2560 + 1 * j.val = j.val; rw [at6]; show 0 * 2560 + 1 * j.val = _; omega

theorem block7 (k : Fin 384) (j : Fin 1024) : iblk m c 7 t (ix2 k j) = V m c main_v26 (ix2 k j) := by
  refine congrArg (V m c main_v26) (funext fun a => Fin.ext ?_)
  match a with
  | ⟨0, _⟩ => show win0_7.index t 0 * 384 + 1 * k.val = k.val; rw [at7]; show 0 * 384 + 1 * k.val = _; omega
  | ⟨1, _⟩ => show win0_7.index t 1 * 1024 + 1 * j.val = j.val; rw [at7]; show 0 * 1024 + 1 * j.val = _; omega

theorem block8 (k : Fin 256) (j : Fin 1024) : iblk m c 8 t (ix2 k j) = V m c main_v27 (ix2 k j) := by
  refine congrArg (V m c main_v27) (funext fun a => Fin.ext ?_)
  match a with
  | ⟨0, _⟩ => show win0_8.index t 0 * 256 + 1 * k.val = k.val; rw [at8]; show 0 * 256 + 1 * k.val = _; omega
  | ⟨1, _⟩ => show win0_8.index t 1 * 1024 + 1 * j.val = j.val; rw [at8]; show 0 * 1024 + 1 * j.val = _; omega

/-- A grid point loads the arguments of its batch and positions. -/
theorem loaded : Loaded (iblk m c 0 t) (iblk m c 1 t) (iblk m c 2 t) (iblk m c 3 t) (iblk m c 4 t) (iblk m c 5 t) (iblk m c 6 t)
    (iblk m c 7 t) (iblk m c 8 t) (args m c) (batch t) (position t) where
  x r k := (block0 m c t r k).trans (x_read m c _ _ k)
  shift k := (block1 m c t 0 k).trans ((mod_read m c _ 0 k).trans
    (congrArg ((args m c).mod (batch t)) (Fin.ext (by show 0 * 1024 + k.val = k.val; omega))))
  scale k := (block1 m c t 1 k).trans ((mod_read m c _ 1 k).trans
    (congrArg ((args m c).mod (batch t)) (Fin.ext (by show 1 * 1024 + k.val = 1024 + k.val; omega))))
  pos r := (block2 m c t r).trans (pos_read m c _ _)
  gain k := (block3 m c t k).trans (gain_read m c k)
  qgain k := (block4 m c t k).trans (qgain_read m c k)
  kvgain k := (block5 m c t k).trans (kvgain_read m c k)
  win k j := (block6 m c t k j).trans (win_read m c k j)
  wq k j := (block7 m c t k j).trans (wq_read m c k j)
  wkv k j := (block8 m c t k j).trans (wkv_read m c k j)

end

/-! ## The arrays -/

/-- The grid point that writes a batch's position, and the row it has there. -/
def point (b : Fin 32) (p : Fin 2048) : Fin cfg0.N := ⟨2 * b.val + p.val / 1024, by have h : cfg0.N = 64 := N_0; omega⟩
def row (p : Fin 2048) : Fin 1024 := ⟨p.val % 1024, by omega⟩

theorem batch_point (b : Fin 32) (p : Fin 2048) : batch (point b p) = b :=
  Fin.ext (by show (2 * b.val + p.val / 1024) / 2 = b.val; omega)
theorem position_point (b : Fin 32) (p : Fin 2048) : position (point b p) (row p) = p :=
  Fin.ext (by show 1024 * ((2 * b.val + p.val / 1024) % 2) + p.val % 1024 = p.val; omega)

theorem along_batch (b : Fin 32) (p : Fin 2048) : (2 * b.val + p.val / 1024) / 2 * 1 + 1 * 0 = b.val := by omega
theorem along_rows (b : Fin 32) (p : Fin 2048) : (2 * b.val + p.val / 1024) % 2 * 1024 + 1 * (p.val % 1024) = p.val := by omega

theorem array9 (b : Fin 32) (p : Fin 2048) (l : Fin 1024) :
    ((dats m 0 c).arrAt 9 cfg0.N (ix3 (n0 := 32) (n1 := 2048) (n2 := 1024) b p l) : EReal) = (args m c).out0 b p l := by
  have h := congrFun ((blocks9 m c (point b p) (flush0_9 _)).trans (flushed9 m c (point b p)))
    (ix3 (n0 := 1) (n1 := 1024) (n2 := 1024) 0 (row p) l)
  have e : ((cfg0.win 9).blk (point b p)).view.emb (ix3 (n0 := 1) (n1 := 1024) (n2 := 1024) 0 (row p) l)
      = ix3 (n0 := 32) (n1 := 2048) (n2 := 1024) b p l := funext fun a => Fin.ext (by
    match a with
    | ⟨0, _⟩ => show win0_9.index (point b p) 0 * 1 + 1 * 0 = b.val; rw [at9]; exact along_batch b p
    | ⟨1, _⟩ => show win0_9.index (point b p) 1 * 1024 + 1 * (p.val % 1024) = p.val; rw [at9]; exact along_rows b p
    | ⟨2, _⟩ => show win0_9.index (point b p) 2 * 1024 + 1 * l.val = l.val; rw [at9]; show 0 * 1024 + 1 * l.val = l.val; omega)
  have h' := block9 (loaded m c (point b p)) (row p) l
  rw [batch_point, position_point] at h'
  exact (congrArg ((dats m 0 c).arrAt 9 cfg0.N) e).symm.trans (h.trans h')

theorem array10 (b : Fin 32) (p : Fin 2048) (l : Fin 1024) :
    ((dats m 0 c).arrAt 10 cfg0.N (ix3 (n0 := 32) (n1 := 2048) (n2 := 1024) b p l) : EReal) = (args m c).out1 b p l := by
  have h := congrFun ((blocks10 m c (point b p) (flush0_10 _)).trans (flushed10 m c (point b p)))
    (ix3 (n0 := 1) (n1 := 1024) (n2 := 1024) 0 (row p) l)
  have e : ((cfg0.win 10).blk (point b p)).view.emb (ix3 (n0 := 1) (n1 := 1024) (n2 := 1024) 0 (row p) l)
      = ix3 (n0 := 32) (n1 := 2048) (n2 := 1024) b p l := funext fun a => Fin.ext (by
    match a with
    | ⟨0, _⟩ => show win0_10.index (point b p) 0 * 1 + 1 * 0 = b.val; rw [at10]; exact along_batch b p
    | ⟨1, _⟩ => show win0_10.index (point b p) 1 * 1024 + 1 * (p.val % 1024) = p.val; rw [at10]; exact along_rows b p
    | ⟨2, _⟩ => show win0_10.index (point b p) 2 * 1024 + 1 * l.val = l.val; rw [at10]; show 0 * 1024 + 1 * l.val = l.val; omega)
  have h' := block10 (loaded m c (point b p)) (row p) l
  rw [batch_point, position_point] at h'
  exact (congrArg ((dats m 0 c).arrAt 10 cfg0.N) e).symm.trans (h.trans h')

theorem array11 (b : Fin 32) (p : Fin 2048) (l : Fin 512) :
    ((dats m 0 c).arrAt 11 cfg0.N (ix3 (n0 := 32) (n1 := 2048) (n2 := 512) b p l) : EReal) = (args m c).out2 b p l := by
  have h := congrFun ((blocks11 m c (point b p) (flush0_11 _)).trans (flushed11 m c (point b p)))
    (ix3 (n0 := 1) (n1 := 1024) (n2 := 512) 0 (row p) l)
  have e : ((cfg0.win 11).blk (point b p)).view.emb (ix3 (n0 := 1) (n1 := 1024) (n2 := 512) 0 (row p) l)
      = ix3 (n0 := 32) (n1 := 2048) (n2 := 512) b p l := funext fun a => Fin.ext (by
    match a with
    | ⟨0, _⟩ => show win0_11.index (point b p) 0 * 1 + 1 * 0 = b.val; rw [at11]; exact along_batch b p
    | ⟨1, _⟩ => show win0_11.index (point b p) 1 * 1024 + 1 * (p.val % 1024) = p.val; rw [at11]; exact along_rows b p
    | ⟨2, _⟩ => show win0_11.index (point b p) 2 * 512 + 1 * l.val = l.val; rw [at11]; show 0 * 512 + 1 * l.val = l.val; omega)
  have h' := block11 (loaded m c (point b p)) (row p) l
  rw [batch_point, position_point] at h'
  exact (congrArg ((dats m 0 c).arrAt 11 cfg0.N) e).symm.trans (h.trans h')

theorem array12 (b : Fin 32) (p : Fin 2048) (l : Fin 512) :
    ((dats m 0 c).arrAt 12 cfg0.N (ix3 (n0 := 32) (n1 := 2048) (n2 := 512) b p l) : EReal) = (args m c).out3 b p l := by
  have h := congrFun ((blocks12 m c (point b p) (flush0_12 _)).trans (flushed12 m c (point b p)))
    (ix3 (n0 := 1) (n1 := 1024) (n2 := 512) 0 (row p) l)
  have e : ((cfg0.win 12).blk (point b p)).view.emb (ix3 (n0 := 1) (n1 := 1024) (n2 := 512) 0 (row p) l)
      = ix3 (n0 := 32) (n1 := 2048) (n2 := 512) b p l := funext fun a => Fin.ext (by
    match a with
    | ⟨0, _⟩ => show win0_12.index (point b p) 0 * 1 + 1 * 0 = b.val; rw [at12]; exact along_batch b p
    | ⟨1, _⟩ => show win0_12.index (point b p) 1 * 1024 + 1 * (p.val % 1024) = p.val; rw [at12]; exact along_rows b p
    | ⟨2, _⟩ => show win0_12.index (point b p) 2 * 512 + 1 * l.val = l.val; rw [at12]; show 0 * 512 + 1 * l.val = l.val; omega)
  have h' := block12 (loaded m c (point b p)) (row p) l
  rw [batch_point, position_point] at h'
  exact (congrArg ((dats m 0 c).arrAt 12 cfg0.N) e).symm.trans (h.trans h')

theorem array13 (b : Fin 32) (p : Fin 2048) (l : Fin 512) :
    ((dats m 0 c).arrAt 13 cfg0.N (ix3 (n0 := 32) (n1 := 2048) (n2 := 512) b p l) : EReal) = (args m c).out4 b p l := by
  have h := congrFun ((blocks13 m c (point b p) (flush0_13 _)).trans (flushed13 m c (point b p)))
    (ix3 (n0 := 1) (n1 := 1024) (n2 := 512) 0 (row p) l)
  have e : ((cfg0.win 13).blk (point b p)).view.emb (ix3 (n0 := 1) (n1 := 1024) (n2 := 512) 0 (row p) l)
      = ix3 (n0 := 32) (n1 := 2048) (n2 := 512) b p l := funext fun a => Fin.ext (by
    match a with
    | ⟨0, _⟩ => show win0_13.index (point b p) 0 * 1 + 1 * 0 = b.val; rw [at13]; exact along_batch b p
    | ⟨1, _⟩ => show win0_13.index (point b p) 1 * 1024 + 1 * (p.val % 1024) = p.val; rw [at13]; exact along_rows b p
    | ⟨2, _⟩ => show win0_13.index (point b p) 2 * 512 + 1 * l.val = l.val; rw [at13]; show 0 * 512 + 1 * l.val = l.val; omega)
  have h' := block13 (loaded m c (point b p)) (row p) l
  rw [batch_point, position_point] at h'
  exact (congrArg ((dats m 0 c).arrAt 13 cfg0.N) e).symm.trans (h.trans h')

theorem array14 (b : Fin 32) (p : Fin 2048) (l : Fin 256) :
    ((dats m 0 c).arrAt 14 cfg0.N (ix3 (n0 := 32) (n1 := 2048) (n2 := 256) b p l) : EReal) = (args m c).out5 b p l := by
  have h := congrFun ((blocks14 m c (point b p) (flush0_14 _)).trans (flushed14 m c (point b p)))
    (ix3 (n0 := 1) (n1 := 1024) (n2 := 256) 0 (row p) l)
  have e : ((cfg0.win 14).blk (point b p)).view.emb (ix3 (n0 := 1) (n1 := 1024) (n2 := 256) 0 (row p) l)
      = ix3 (n0 := 32) (n1 := 2048) (n2 := 256) b p l := funext fun a => Fin.ext (by
    match a with
    | ⟨0, _⟩ => show win0_14.index (point b p) 0 * 1 + 1 * 0 = b.val; rw [at14]; exact along_batch b p
    | ⟨1, _⟩ => show win0_14.index (point b p) 1 * 1024 + 1 * (p.val % 1024) = p.val; rw [at14]; exact along_rows b p
    | ⟨2, _⟩ => show win0_14.index (point b p) 2 * 256 + 1 * l.val = l.val; rw [at14]; show 0 * 256 + 1 * l.val = l.val; omega)
  have h' := block14 (loaded m c (point b p)) (row p) l
  rw [batch_point, position_point] at h'
  exact (congrArg ((dats m 0 c).arrAt 14 cfg0.N) e).symm.trans (h.trans h')

theorem array16 (b : Fin 32) (p : Fin 2048) (l : Fin 512) :
    ((dats m 0 c).arrAt 16 cfg0.N (ix3 (n0 := 32) (n1 := 2048) (n2 := 512) b p l) : EReal) = (args m c).out7 b p l := by
  have h := congrFun ((blocks16 m c (point b p) (flush0_16 _)).trans (flushed16 m c (point b p)))
    (ix3 (n0 := 1) (n1 := 1024) (n2 := 512) 0 (row p) l)
  have e : ((cfg0.win 16).blk (point b p)).view.emb (ix3 (n0 := 1) (n1 := 1024) (n2 := 512) 0 (row p) l)
      = ix3 (n0 := 32) (n1 := 2048) (n2 := 512) b p l := funext fun a => Fin.ext (by
    match a with
    | ⟨0, _⟩ => show win0_16.index (point b p) 0 * 1 + 1 * 0 = b.val; rw [at16]; exact along_batch b p
    | ⟨1, _⟩ => show win0_16.index (point b p) 1 * 1024 + 1 * (p.val % 1024) = p.val; rw [at16]; exact along_rows b p
    | ⟨2, _⟩ => show win0_16.index (point b p) 2 * 512 + 1 * l.val = l.val; rw [at16]; show 0 * 512 + 1 * l.val = l.val; omega)
  have h' := block16 (loaded m c (point b p)) (row p) l
  rw [batch_point, position_point] at h'
  exact (congrArg ((dats m 0 c).arrAt 16 cfg0.N) e).symm.trans (h.trans h')

theorem array15 (b : Fin 32) (n : Fin 16) (d r : Fin 128) :
    ((dats m 0 c).arrAt 15 cfg0.N (ix4 (n0 := 32) (n1 := 16) (n2 := 128) (n3 := 128) b n d r) : EReal) = (args m c).out6 b n d r := by
  let t : Fin cfg0.N := ⟨2 * b.val + n.val / 8, by have h : cfg0.N = 64 := N_0; omega⟩
  have h := congrFun ((blocks15 m c t (flush0_15 _)).trans (flushed15 m c t))
    (ix4 (n0 := 1) (n1 := 8) (n2 := 128) (n3 := 128) 0 ⟨n.val % 8, by omega⟩ d r)
  have e : ((cfg0.win 15).blk t).view.emb (ix4 (n0 := 1) (n1 := 8) (n2 := 128) (n3 := 128) 0 ⟨n.val % 8, by omega⟩ d r)
      = ix4 (n0 := 32) (n1 := 16) (n2 := 128) (n3 := 128) b n d r := funext fun a => Fin.ext (by
    match a with
    | ⟨0, _⟩ => show win0_15.index t 0 * 1 + 1 * 0 = b.val; rw [at15]; show (2 * b.val + n.val / 8) / 2 * 1 + 1 * 0 = b.val; omega
    | ⟨1, _⟩ => show win0_15.index t 1 * 8 + 1 * (n.val % 8) = n.val; rw [at15]; show (2 * b.val + n.val / 8) % 2 * 8 + 1 * (n.val % 8) = n.val; omega
    | ⟨2, _⟩ => show win0_15.index t 2 * 128 + 1 * d.val = d.val; rw [at15]; show 0 * 128 + 1 * d.val = d.val; omega
    | ⟨3, _⟩ => show win0_15.index t 3 * 128 + 1 * r.val = r.val; rw [at15]; show 0 * 128 + 1 * r.val = r.val; omega)
  have h' := block15 (loaded m c t) ⟨n.val % 8, by omega⟩ d r
  have e0 : batch t = b := Fin.ext (by show (2 * b.val + n.val / 8) / 2 = b.val; omega)
  have e1 : position t ⟨128 * (n.val % 8) + r.val, by omega⟩ = ⟨128 * n.val + r.val, by omega⟩ :=
    Fin.ext (by show 1024 * ((2 * b.val + n.val / 8) % 2) + (128 * (n.val % 8) + r.val) = 128 * n.val + r.val; omega)
  rw [e0, e1] at h'
  exact (congrArg ((dats m 0 c).arrAt 15 cfg0.N) e).symm.trans (h.trans h')

end Cert.Projection

end
-- ==== Proof.Projection.Reference.lean ====
/- What the reference computes, at an index: the modulated norm, the projections, the rotation and the gates of the row. -/
module

public import proofs.«01_k».proof.Proof.Gen.Reference2Ideal.Read
public import proofs.«01_k».proof.Proof.Projection.Spec
public import proofs.«01_k».proof.Proof.Attention.Blocks
public import Idealize.ShloMosaic.Lib.IdealHost

@[expose] public section

noncomputable section

namespace Cert.Projection

open Cert.Reference2Ideal Cert.Reference2Ideal.Read Idealize.ShloMosaic Idealize.ShloMosaic.TcCoe Idealize.ShloMosaic.StableHlo
open Cert.Reference2Ideal.Facts₀

/-- Two indices with the same coordinates. -/
theorem ext2 {n0 n1 : ℕ} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)
theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)
theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

variable (x0 : (⟨S32x2048x1024, .f32⟩ : BufTy).Contents (Elt Ideal)) (x1 : (⟨S32x3072, .f32⟩ : BufTy).Contents (Elt Ideal))
  (x2 : (⟨S32x2048, .i32⟩ : BufTy).Contents (Elt Ideal)) (x3 : (⟨S1x1024, .f32⟩ : BufTy).Contents (Elt Ideal))
  (x4 : (⟨S1x1024x2464, .f32⟩ : BufTy).Contents (Elt Ideal)) (x5 : (⟨S1x384, .f32⟩ : BufTy).Contents (Elt Ideal))
  (x6 : (⟨S1x256, .f32⟩ : BufTy).Contents (Elt Ideal)) (x7 : (⟨S1x384x768, .f32⟩ : BufTy).Contents (Elt Ideal))
  (x8 : (⟨S1x256x1024, .f32⟩ : BufTy).Contents (Elt Ideal)) (b : Fin 32) (t : Fin 2048)

theorem root_hidden : (val_main_v29 (F := Ideal) x0 (ix3 b t 0) : EReal)
    = rms (Ideal.ofBits .f32 0x44800000#32) (fun k : Fin 1024 => (x0 (ix3 b t k) : EReal)) := by
  rw [val_main_v29_apply, val_main_v28_apply, val_main_v26_apply, val_main_v24_apply, val_main_v23_apply, val_main_v25_apply, val_main_v27_apply]
  show Ideal.rsqrt (Ideal.div (Ideal.ofBits .f32 0x00000000#32 + ∑ k : Fin 1024, _) _ + _) = _
  rw [Ideal.ofBits_zero, zero_add]
  unfold rms
  refine congrArg Ideal.rsqrt (congrArg (· + _) (congrArg (Ideal.div · _) (Finset.sum_congr rfl fun k _ => ?_)))
  rw [show idx_main_v23 (idx_main_v24 (ix3 b t 0)) k = ix3 b t k from ext3 rfl rfl rfl]
  rfl

theorem hidden_apply (k : Fin 1024) : (val_main_v42 (F := Ideal) x0 x1 x3 (ix3 b t k) : EReal)
    = hidden (fun k => x0 (ix3 b t k)) (fun k => x1 (ix2 b ⟨k.val, by omega⟩)) (fun k => x1 (ix2 b ⟨1024 + k.val, by omega⟩))
        (fun k => x3 (ix2 0 k)) k := by
  pointwise [val_main_v42, val_main_v41, val_main_v40, val_main_v39, val_main_v38, val_main_v37, val_main_v36, val_main_v35, val_main_v34,
    val_main_v33, val_main_v32, val_main_v31, val_main_v30, val_main_v21, val_main_v18, val_main_v19, val_main_cst_6]
  rw [root_hidden]
  unfold hidden normed
  try rfl

theorem proj_apply (j : Fin 2464) : (val_main_v44 (F := Ideal) x0 x1 x3 x4 (ix3 b t j) : EReal) = (argsOf x0 x1 x2 x3 x4 x5 x6 x7 x8).proj b t j := by
  rw [val_main_v44_apply]
  unfold Args.proj product
  refine Finset.sum_congr rfl fun k _ => ?_
  rw [show lidx_main_v44 (ix3 b t j) k = ix3 b t k from ext3 rfl rfl rfl, show ridx_main_v44 (ix3 b t j) k = ix2 k j from ext2 rfl rfl,
    hidden_apply, show val_main_v43 (F := Ideal) x4 (ix2 k j) = x4 (ix3 0 k j) by pointwise [val_main_v43]]
  rfl

theorem root_query : (val_main_v61 (F := Ideal) x0 x1 x3 x4 (ix3 b t 0) : EReal)
    = rms (Ideal.ofBits .f32 0x43C00000#32) (fun k : Fin 384 => (argsOf x0 x1 x2 x3 x4 x5 x6 x7 x8).proj b t ⟨k.val, by omega⟩) := by
  rw [val_main_v61_apply, val_main_v60_apply, val_main_v58_apply, val_main_v56_apply, val_main_v55_apply, val_main_v57_apply, val_main_v59_apply]
  show Ideal.rsqrt (Ideal.div (Ideal.ofBits .f32 0x00000000#32 + ∑ k : Fin 384, _) _ + _) = _
  rw [Ideal.ofBits_zero, zero_add]
  unfold rms
  refine congrArg Ideal.rsqrt (congrArg (· + _) (congrArg (Ideal.div · _) (Finset.sum_congr rfl fun k _ => ?_)))
  rw [show idx_main_v55 (idx_main_v56 (ix3 b t 0)) k = ix3 b t k from ext3 rfl rfl rfl]
  pointwise [val_main_v54, val_main_v45]
  rw [proj_apply x0 x1 x2 x3 x4 x5 x6 x7 x8]

theorem root_keyValue : (val_main_v95 (F := Ideal) x0 x1 x3 x4 (ix3 b t 0) : EReal)
    = rms (Ideal.ofBits .f32 0x43800000#32) (fun k : Fin 256 => (argsOf x0 x1 x2 x3 x4 x5 x6 x7 x8).proj b t ⟨384 + k.val, by omega⟩) := by
  rw [val_main_v95_apply, val_main_v94_apply, val_main_v92_apply, val_main_v90_apply, val_main_v89_apply, val_main_v91_apply, val_main_v93_apply]
  show Ideal.rsqrt (Ideal.div (Ideal.ofBits .f32 0x00000000#32 + ∑ k : Fin 256, _) _ + _) = _
  rw [Ideal.ofBits_zero, zero_add]
  unfold rms
  refine congrArg Ideal.rsqrt (congrArg (· + _) (congrArg (Ideal.div · _) (Finset.sum_congr rfl fun k _ => ?_)))
  rw [show idx_main_v89 (idx_main_v90 (ix3 b t 0)) k = ix3 b t k from ext3 rfl rfl rfl]
  pointwise [val_main_v88, val_main_v46]
  rw [proj_apply x0 x1 x2 x3 x4 x5 x6 x7 x8]

theorem queries_apply (j : Fin 768) : (val_main_v68 (F := Ideal) x0 x1 x3 x4 x5 x7 (ix3 b t j) : EReal) = (argsOf x0 x1 x2 x3 x4 x5 x6 x7 x8).queries b t j := by
  rw [val_main_v68_apply]
  unfold Args.queries product
  refine Finset.sum_congr rfl fun k _ => ?_
  rw [show lidx_main_v68 (ix3 b t j) k = ix3 b t k from ext3 rfl rfl rfl, show ridx_main_v68 (ix3 b t j) k = ix2 k j from ext2 rfl rfl,
    show val_main_v67 (F := Ideal) x7 (ix2 k j) = x7 (ix3 0 k j) by pointwise [val_main_v67]]
  refine congrArg (· * _) ?_
  pointwise [val_main_v66, val_main_v65, val_main_v64, val_main_v63, val_main_v62, val_main_v53, val_main_v45]
  rw [root_query x0 x1 x2 x3 x4 x5 x6 x7 x8, proj_apply x0 x1 x2 x3 x4 x5 x6 x7 x8]
  rfl

theorem keysValues_apply (j : Fin 1024) : (val_main_v102 (F := Ideal) x0 x1 x3 x4 x6 x8 (ix3 b t j) : EReal) = (argsOf x0 x1 x2 x3 x4 x5 x6 x7 x8).keysValues b t j := by
  rw [val_main_v102_apply]
  unfold Args.keysValues product
  refine Finset.sum_congr rfl fun k _ => ?_
  rw [show lidx_main_v102 (ix3 b t j) k = ix3 b t k from ext3 rfl rfl rfl, show ridx_main_v102 (ix3 b t j) k = ix2 k j from ext2 rfl rfl,
    show val_main_v101 (F := Ideal) x8 (ix2 k j) = x8 (ix3 0 k j) by pointwise [val_main_v101]]
  refine congrArg (· * _) ?_
  pointwise [val_main_v100, val_main_v99, val_main_v98, val_main_v97, val_main_v96, val_main_v87, val_main_v46]
  rw [root_keyValue x0 x1 x2 x3 x4 x5 x6 x7 x8, proj_apply x0 x1 x2 x3 x4 x5 x6 x7 x8]
  rfl

end Cert.Projection

end
-- ==== Proof.Projection.Rotation.lean ====
/- The reference's rotary positions: the angles, and the lanes turned by them. -/
module

public import proofs.«01_k».proof.Proof.Projection.Reference

@[expose] public section

noncomputable section

namespace Cert.Projection

open Cert.Reference2Ideal Cert.Reference2Ideal.Read Idealize.ShloMosaic Idealize.ShloMosaic.TcCoe Idealize.ShloMosaic.StableHlo
open Cert.Reference2Ideal.Facts₀

variable (x0 : (⟨S32x2048x1024, .f32⟩ : BufTy).Contents (Elt Ideal)) (x1 : (⟨S32x3072, .f32⟩ : BufTy).Contents (Elt Ideal))
  (x2 : (⟨S32x2048, .i32⟩ : BufTy).Contents (Elt Ideal)) (x3 : (⟨S1x1024, .f32⟩ : BufTy).Contents (Elt Ideal))
  (x4 : (⟨S1x1024x2464, .f32⟩ : BufTy).Contents (Elt Ideal)) (x5 : (⟨S1x384, .f32⟩ : BufTy).Contents (Elt Ideal))
  (x6 : (⟨S1x256, .f32⟩ : BufTy).Contents (Elt Ideal)) (x7 : (⟨S1x384x768, .f32⟩ : BufTy).Contents (Elt Ideal))
  (x8 : (⟨S1x256x1024, .f32⟩ : BufTy).Contents (Elt Ideal)) (b : Fin 32) (t : Fin 2048)

theorem angle_apply (i : Fin 16) : (val_main_v15 (F := Ideal) x2 (ix3 b t i) : EReal) = (angle (x2 (ix2 b t)) i : EReal) := by
  pointwise [val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2]
  have h2 : Ideal.ofBits .f32 0x40000000#32 = ((2 : ℝ) : EReal) := by
    simp [Ideal.ofBits, Ideal.ieee]; rw [← EReal.coe_mul]; norm_num
  have h32 : Ideal.ofBits .f32 0x42000000#32 = ((32 : ℝ) : EReal) := by
    simp [Ideal.ofBits, Ideal.ieee]; rw [← EReal.coe_mul]; norm_num
  have hbase : Ideal.ofBits .f32 0x461C4000#32 = ((10000 : ℝ) : EReal) := by
    simp [Ideal.ofBits, Ideal.ieee]; rw [← EReal.coe_mul]; norm_num
  have hi : (BitVec.ofNat 32 i.val).toInt = (i.val : ℤ) := (by decide : ∀ i : Fin 16, (BitVec.ofNat 32 i.val).toInt = (i.val : ℤ)) i
  show (((x2 (ix2 b t)).toInt : ℝ) : EReal) * Ideal.pow _ (Ideal.div (-(_ * (((BitVec.ofNat 32 i.val).toInt : ℝ) : EReal))) _) = _
  rw [h2, h32, hbase, hi, ← EReal.coe_mul, ← EReal.coe_neg, Ideal.div_coe (by norm_num), ← EReal.coe_mul, Ideal.pow_coe_coe, ← EReal.coe_mul]
  unfold angle
  rw [mul_one_div, Int.cast_natCast]

theorem cos_apply (i : Fin 16) : (val_main_v16 (F := Ideal) x2 (ix3 b t i) : EReal) = (Real.cos (angle (x2 (ix2 b t)) i) : EReal) := by
  rw [val_main_v16_apply, angle_apply]
  exact Ideal.cos_coe _

theorem sin_apply (i : Fin 16) : (val_main_v17 (F := Ideal) x2 (ix3 b t i) : EReal) = (Real.sin (angle (x2 (ix2 b t)) i) : EReal) := by
  rw [val_main_v17_apply, angle_apply]
  exact Ideal.sin_coe _

theorem turnedQuery_apply (h : Fin 8) (i : Fin 32) : (val_main_v86 (F := Ideal) x0 x1 x2 x3 x4 x5 x7 (ix4 b t h i) : EReal)
    = rot (angle (x2 (ix2 b t))) (fun i => (argsOf x0 x1 x2 x3 x4 x5 x6 x7 x8).queries b t ⟨96 * h.val + (64 + i.val), by omega⟩) i := by
  unfold rot
  pointwise [val_main_v86, val_main_v85, val_main_v84, val_main_v83, val_main_v82, val_main_v81, val_main_v80, val_main_v79, val_main_v78,
    val_main_v77, val_main_v76, val_main_v75, val_main_v74, val_main_v73, val_main_v72, val_main_v71, val_main_v69]
  simp only [cos_apply, sin_apply, queries_apply x0 x1 x2 x3 x4 x5 x6 x7 x8, Nat.mul_comm h.val 96]

theorem turnedKey_apply (i : Fin 32) : (val_main_v114 (F := Ideal) x0 x1 x2 x3 x4 (ix3 b t i) : EReal)
    = rot (angle (x2 (ix2 b t))) (fun i => (argsOf x0 x1 x2 x3 x4 x5 x6 x7 x8).proj b t ⟨640 + i.val, by omega⟩) i := by
  unfold rot
  pointwise [val_main_v114, val_main_v113, val_main_v112, val_main_v111, val_main_v110, val_main_v109, val_main_v108, val_main_v107,
    val_main_v106, val_main_v47]
  simp only [cos_apply, sin_apply, proj_apply x0 x1 x2 x3 x4 x5 x6 x7 x8]

end Cert.Projection

end
-- ==== Proof.Projection.Results.lean ====
/- The reference's eight results, at an index. -/
module

public import proofs.«01_k».proof.Proof.Projection.Rotation

@[expose] public section

noncomputable section

namespace Cert.Projection

open Cert.Reference2Ideal Cert.Reference2Ideal.Read Idealize.ShloMosaic Idealize.ShloMosaic.TcCoe Idealize.ShloMosaic.StableHlo
open Cert.Reference2Ideal.Facts₀

variable (x0 : (⟨S32x2048x1024, .f32⟩ : BufTy).Contents (Elt Ideal)) (x1 : (⟨S32x3072, .f32⟩ : BufTy).Contents (Elt Ideal))
  (x2 : (⟨S32x2048, .i32⟩ : BufTy).Contents (Elt Ideal)) (x3 : (⟨S1x1024, .f32⟩ : BufTy).Contents (Elt Ideal))
  (x4 : (⟨S1x1024x2464, .f32⟩ : BufTy).Contents (Elt Ideal)) (x5 : (⟨S1x384, .f32⟩ : BufTy).Contents (Elt Ideal))
  (x6 : (⟨S1x256, .f32⟩ : BufTy).Contents (Elt Ideal)) (x7 : (⟨S1x384x768, .f32⟩ : BufTy).Contents (Elt Ideal))
  (x8 : (⟨S1x256x1024, .f32⟩ : BufTy).Contents (Elt Ideal)) (b : Fin 32) (t : Fin 2048)

theorem scale_apply (i : S_.Idx) : (val_main_v121 (F := Ideal) i : EReal) = ((Real.sqrt 96 * Real.log 2 : ℝ) : EReal) :=
  Cert.Attention.scale_real

theorem windowScale_apply (i : S_.Idx) : (val_main_v138 (F := Ideal) i : EReal) = ((8 * Real.log 2 : ℝ) : EReal) := by
  show Ideal.sqrt (Ideal.ofBits .f32 0x42800000#32) * Ideal.log (Ideal.ofBits .f32 0x40000000#32) = _
  have h2 : Ideal.ofBits .f32 0x40000000#32 = ((2 : ℝ) : EReal) := by
    simp [Ideal.ofBits, Ideal.ieee]; rw [← EReal.coe_mul]; norm_num
  have h64 : Ideal.ofBits .f32 0x42800000#32 = ((64 : ℝ) : EReal) := by
    simp [Ideal.ofBits, Ideal.ieee]; rw [← EReal.coe_mul]; norm_num
  rw [h64, h2, Ideal.sqrt_coe, if_neg (by norm_num), Ideal.log_coe, if_neg (by norm_num), EReal.coe_mul,
    show (64 : ℝ) = 8 ^ 2 by norm_num, Real.sqrt_sq (by norm_num)]

theorem result0 (l : Fin 1024) : (val_main_v130 (F := Ideal) x0 x1 x2 x3 x4 x5 x7 (ix3 b t l) : EReal) = (argsOf x0 x1 x2 x3 x4 x5 x6 x7 x8).out0 b t l := by
  pointwise [val_main_v130, val_main_v129, val_main_v123, val_main_v122, val_main_v119, val_main_v116, val_main_v70, val_main_v69, val_main_cst_14]
  simp only [turnedQuery_apply x0 x1 x2 x3 x4 x5 x6 x7 x8, queries_apply x0 x1 x2 x3 x4 x5 x6 x7 x8, scale_apply]
  rw [Ideal.div_coe Cert.Attention.scale_pos.ne']
  unfold Args.out0 Args.query
  refine congrArg (· * _) ?_
  by_cases h : l.val % 128 < 64
  · rw [dif_pos h, dif_pos h]
    exact congrArg _ (Fin.ext (by dsimp only <;> omega))
  · rw [dif_neg h, dif_neg h]
    rfl

theorem result1 (l : Fin 1024) : (val_main_v132 (F := Ideal) x0 x1 x2 x3 x4 x6 x8 (ix3 b t l) : EReal) = (argsOf x0 x1 x2 x3 x4 x5 x6 x7 x8).out1 b t l := by
  pointwise [val_main_v132, val_main_v131, val_main_v124, val_main_v118, val_main_v117, val_main_v116, val_main_v104, val_main_v103, val_main_cst_14]
  simp only [turnedKey_apply x0 x1 x2 x3 x4 x5 x6 x7 x8, keysValues_apply x0 x1 x2 x3 x4 x5 x6 x7 x8]
  unfold Args.out1 Args.key
  by_cases h : l.val % 128 < 64
  · rw [dif_pos h, dif_pos h]
    exact congrArg _ (Fin.ext (by dsimp only <;> omega))
  · rw [dif_neg h, dif_neg h]
    rfl

theorem result2 (l : Fin 512) : (val_main_v134 (F := Ideal) x0 x1 x3 x4 x6 x8 (ix3 b t l) : EReal) = (argsOf x0 x1 x2 x3 x4 x5 x6 x7 x8).out2 b t l := by
  pointwise [val_main_v134, val_main_v133, val_main_v105, val_main_v103]
  simp only [keysValues_apply x0 x1 x2 x3 x4 x5 x6 x7 x8]
  exact congrArg _ (Fin.ext (by dsimp only <;> omega))

theorem result3 (l : Fin 512) : (val_main_v136 (F := Ideal) x0 x1 x3 x4 (ix3 b t l) : EReal) = (argsOf x0 x1 x2 x3 x4 x5 x6 x7 x8).out3 b t l := by
  pointwise [val_main_v136, val_main_v135, val_main_call0_v5, val_main_call0_v4, val_main_call0_v3, val_main_call0_v2, val_main_call0_v1,
    val_main_call0_v0, val_main_call0_cst, val_main_call0_cst_0, val_main_v48]
  simp only [proj_apply x0 x1 x2 x3 x4 x5 x6 x7 x8]
  rfl

theorem result4 (l : Fin 512) : (val_main_v141 (F := Ideal) x0 x1 x3 x4 (ix3 b t l) : EReal) = (argsOf x0 x1 x2 x3 x4 x5 x6 x7 x8).out4 b t l := by
  pointwise [val_main_v141, val_main_v140, val_main_v139, val_main_v49]
  simp only [proj_apply x0 x1 x2 x3 x4 x5 x6 x7 x8, windowScale_apply]
  rw [Ideal.div_coe (mul_pos (by norm_num) (Real.log_pos one_lt_two)).ne']
  rfl

theorem result5 (l : Fin 256) : (val_main_v143 (F := Ideal) x0 x1 x3 x4 (ix3 b t l) : EReal) = (argsOf x0 x1 x2 x3 x4 x5 x6 x7 x8).out5 b t l := by
  pointwise [val_main_v143, val_main_v142, val_main_v126, val_main_v125, val_main_v50]
  simp only [proj_apply x0 x1 x2 x3 x4 x5 x6 x7 x8]
  exact congrArg _ (Fin.ext (by dsimp only <;> omega))

theorem result6 (n : Fin 16) (d r : Fin 128) : (val_main_v144 (F := Ideal) x0 x1 x3 x4 (ix4 b n d r) : EReal) = (argsOf x0 x1 x2 x3 x4 x5 x6 x7 x8).out6 b n d r := by
  pointwise [val_main_v144, val_main_v128, val_main_v127, val_main_v51]
  simp only [proj_apply x0 x1 x2 x3 x4 x5 x6 x7 x8]
  exact congrArg (fun u => Args.proj _ b u _) (Fin.ext (by dsimp only <;> omega))

theorem result7 (l : Fin 512) : (val_main_v146 (F := Ideal) x0 x1 x3 x4 (ix3 b t l) : EReal) = (argsOf x0 x1 x2 x3 x4 x5 x6 x7 x8).out7 b t l := by
  pointwise [val_main_v146, val_main_v145, val_main_call1_v5, val_main_call1_v4, val_main_call1_v3, val_main_call1_v2, val_main_call1_v1,
    val_main_call1_v0, val_main_call1_cst, val_main_call1_cst_0, val_main_v52]
  simp only [proj_apply x0 x1 x2 x3 x4 x5 x6 x7 x8]
  rfl

end Cert.Projection

end
-- ==== Proof.Window.Finite.lean ====
/- What the window's precondition says: the sinks, the queries and the keys are real numbers, and no position is negative. -/
module

public import proofs.«01_k».proof.Pre_finite_window
public import proofs.«01_k».proof.Proof.Attention.Finite

@[expose] public section

noncomputable section

namespace Cert.Window

open Idealize.ShloMosaic Cert.Pre_finite_window Cert.Attention

/-- The shape relations the predicate's operations take. -/
instance windowFacts : Cert.Pre_finite_window.Facts where
  bcast_S_S1x8 := by decide
  reducesTo_S1x8_S_d0_1 := by decide
  h_S_ := by decide
  bcast_S_S32x2048x512 := by decide
  reducesTo_S32x2048x512_S_d0_1_2 := by decide
  bcast_S_S32x2048x128 := by decide
  reducesTo_S32x2048x128_S_d0_1_2 := by decide
  bcast_S_S32x2048 := by decide
  reducesTo_S32x2048_S_d0_1 := by decide

theorem nonneg_of_sge (x : BitVec 32) (h : IntOp.cmpi .sge x 0#32 = 1#1) : 0 ≤ x.toInt := by
  have h0 : (0#32).toInt = 0 := by decide
  have h' : BitVec.ofBool (decide ((0#32).toInt ≤ x.toInt)) = 1#1 := h
  rw [h0] at h'
  by_contra hx
  rw [decide_eq_false hx] at h'
  exact absurd h' (by decide)

theorem window_of_pre (x0 : FVec Ideal S1x8 .f32) (x1 : FVec Ideal S32x2048x512 .f32) (x2 x3 : FVec Ideal S32x2048x128 .f32)
    (x4 : FVec Ideal S32x2048x512 .f32) (x5 : IVec S32x2048 32) (x6 : FVec Ideal S32x2048x512 .f32) (x7 : FVec Ideal S32x2048x1024 .f32)
    (x8 : FVec Ideal S32x3072 .f32) (x9 : FVec Ideal S1x1024x1024 .f32) (x10 : FVec Ideal S1024 .f32)
    (h : fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal))
      ∧ ∀ i, 0 ≤ (x5 i).toInt := by
  have hs : Subsingleton S_.Idx := ⟨fun a b => funext fun k => k.elim0⟩
  have h := congrFun h (Shape.Idx.first Facts.h_S_)
  dsimp only [fn, fn_part1] at h
  obtain ⟨h, e3⟩ := and_one h
  obtain ⟨h, e2⟩ := and_one h
  obtain ⟨e0, e1⟩ := and_one h
  exact ⟨fun i => real_of_abs_lt _ (Host.reduce_andi_all _ _ _ _ _ e0 i), fun i => real_of_abs_lt _ (Host.reduce_andi_all _ _ _ _ _ e1 i),
    fun i => real_of_abs_lt _ (Host.reduce_andi_all _ _ _ _ _ e2 i),
    fun i => nonneg_of_sge _ (Host.reduce_andi_all _ _ _ _ _ e3 i)⟩

end Cert.Window

end
-- ==== Proof.Window.Column.lean ====
/- The softmax of a window of keys with a sink, summed the way a folded tile sums it, on extended reals.
   A block of 128 queries sees 256 keys, the 128 before the block and the block's own: query `q` of block `n` sees those numbered
   above `q` up to `128 + q`. So of the keys `r` and `128 + r` one exactly is in the window, and one row of 128 scores holds both.
   The sink is a further key, number 256, whose value is nought. -/
module

public import proofs.«01_k».proof.Proof.Attention.Online

@[expose] public section

noncomputable section

namespace Cert.Window

open Idealize.ShloMosaic Cert.Attention

/-- The keys that query `q` of block `n` sees, numbered from the block before. -/
def near (n q : ℕ) : Finset ℕ := (Finset.range 256).filter fun j => q < j ∧ j ≤ 128 + q ∧ (0 < n ∨ 128 ≤ j)

/-- The same with the sink. -/
def seen (n q : ℕ) : Finset ℕ := insert 256 (near n q)

theorem sink_not_near (n q : ℕ) : 256 ∉ near n q := by simp [near]

/-- The softmax weights depend on the scores up to one number for all keys. -/
theorem soft_add (z : ℕ → ℝ) (T : Finset ℕ) (c Z : ℝ) (k : ℕ) : soft (fun j => z j + c) T Z k = soft z T 0 k := by
  rw [soft_shift _ _ Z c]
  unfold soft
  simp only [add_sub_cancel_right, sub_zero]

/-- The row of scores of one query: the window's keys folded into 128 rows. -/
def foldedScore (σ : ℕ → ℝ) (n q r : ℕ) : EReal := if r ≤ q then (σ (128 + r) : EReal) else if 0 < n then (σ r : EReal) else ⊥

/-- Its powers of two. -/
def foldedWeight (σ : ℕ → ℝ) (n q : ℕ) (M : ℝ) (r : ℕ) : ℝ :=
  if r ≤ q then weight σ M (128 + r) else if 0 < n then weight σ M r else 0

theorem exp2_folded (σ : ℕ → ℝ) (n q r : ℕ) (M : ℝ) :
    Ideal.exp2 (foldedScore σ n q r - (M : EReal)) = (foldedWeight σ n q M r : EReal) := by
  unfold foldedScore foldedWeight
  split
  · rw [← EReal.coe_sub, Ideal.exp2_coe]; rfl
  · split
    · rw [← EReal.coe_sub, Ideal.exp2_coe]; rfl
    · rw [EReal.bot_sub, Ideal.exp2_bot]; rfl

theorem sum_folded (σ : ℕ → ℝ) (n q : ℕ) (hq : q < 128) (M : ℝ) :
    ∑ r : Fin 128, foldedWeight σ n q M r.val = ∑ j ∈ near n q, weight σ M j := by
  unfold near
  rw [Finset.sum_filter, show (256 : ℕ) = 128 + 128 from rfl, Finset.sum_range_add, ← Finset.sum_add_distrib,
    Fin.sum_univ_eq_sum_range (fun r => foldedWeight σ n q M r) 128]
  refine Finset.sum_congr rfl fun r hr => ?_
  have hr := Finset.mem_range.mp hr
  unfold foldedWeight
  by_cases h : r ≤ q
  · rw [if_pos h, if_neg (by omega), if_pos (by omega), zero_add]
  · rw [if_neg h, if_neg (c := q < 128 + r ∧ _) (by omega), add_zero]
    refine if_congr (by omega) rfl rfl

/-- A sum over 256 keys, the block before's and the block's own. -/
theorem sum_pair {α : Type*} [AddCommMonoid α] (f : ℕ → α) :
    ∑ j ∈ Finset.range 256, f j = ∑ r : Fin 128, f r.val + ∑ r : Fin 128, f (128 + r.val) := by
  rw [show (256 : ℕ) = 128 + 128 from rfl, Finset.sum_range_add, Fin.sum_univ_eq_sum_range (fun r => f r) 128,
    Fin.sum_univ_eq_sum_range (fun r => f (128 + r)) 128]

/-- What the product with the values sums: the rows put back where their keys are. -/
theorem sum_spread (σ : ℕ → ℝ) (v : ℕ → EReal) (n q : ℕ) (hq : q < 128) (M : ℝ) :
    (∑ r : Fin 128, (if r.val ≤ q then 0 else v r.val * (foldedWeight σ n q M r.val : EReal)))
      + (∑ r : Fin 128, (if r.val ≤ q then v (128 + r.val) * (foldedWeight σ n q M r.val : EReal) else 0))
    = weighted σ v (near n q) M := by
  unfold weighted near
  rw [Finset.sum_filter, sum_pair]
  congr 1
  · refine Finset.sum_congr rfl fun r _ => ?_
    unfold foldedWeight
    by_cases h' : r.val ≤ q
    · rw [if_pos h', if_neg (by omega)]
    · rw [if_neg h', if_neg h']
      by_cases hn : 0 < n
      · rw [if_pos hn, if_pos (by omega)]
      · rw [if_neg hn, if_neg (by omega)]; exact mul_zero _
  · refine Finset.sum_congr rfl fun r _ => ?_
    unfold foldedWeight
    by_cases h' : r.val ≤ q
    · rw [if_pos h', if_pos h', if_pos (by omega)]
    · rw [if_neg h', if_neg (by omega)]

/-- A folded column's quotient is the sum of the window's values, each times its softmax weight. -/
theorem column (σ z : ℕ → ℝ) (c : ℝ) (hσ : ∀ j, σ j * Real.log 2 = z j + c) (v : ℕ → EReal) (n q : ℕ) (hq : q < 128) (m : EReal)
    (hm : m = max ((Finset.univ : Finset (Fin 128)).fold max ⊥ fun r => foldedScore σ n q r.val) (σ 256 : EReal)) :
    ((∑ r : Fin 128, (if r.val ≤ q then 0 else v r.val * Ideal.exp2 (foldedScore σ n q r.val - m)))
        + (∑ r : Fin 128, (if r.val ≤ q then v (128 + r.val) * Ideal.exp2 (foldedScore σ n q r.val - m) else 0)))
      * Ideal.div 1 ((∑ r : Fin 128, Ideal.exp2 (foldedScore σ n q r.val - m)) + Ideal.exp2 ((σ 256 : EReal) - m))
    = ∑ k ∈ near n q, v k * (soft z (seen n q) 0 k : EReal) := by
  obtain ⟨T, hT⟩ := fold_max_real (Finset.univ : Finset (Fin 128)) (fun r => foldedScore σ n q r.val)
    (fun r _ => by
      show foldedScore σ n q r.val ≠ ⊤
      unfold foldedScore
      split
      · exact EReal.coe_ne_top _
      · split
        · exact EReal.coe_ne_top _
        · exact bot_ne_top)
    ⟨0, Finset.mem_univ _, by
      show foldedScore σ n q 0 ≠ ⊥
      unfold foldedScore; rw [if_pos (Nat.zero_le _)]; exact EReal.coe_ne_bot _⟩
  have hM : m = ((max T (σ 256) : ℝ) : EReal) := by
    rw [hm, hT]; exact (EReal.coe_strictMono.monotone.map_max).symm
  generalize max T (σ 256) = M at hM
  subst hM
  simp only [exp2_folded]
  have e2 : Ideal.exp2 ((σ 256 : EReal) - (M : EReal)) = (weight σ M 256 : EReal) := by
    rw [← EReal.coe_sub, Ideal.exp2_coe]; rfl
  rw [sum_spread σ v n q hq, e2, ← coe_sum, sum_folded σ n q hq, ← EReal.coe_add,
    show (∑ j ∈ near n q, weight σ M j) + weight σ M 256 = ∑ j ∈ seen n q, weight σ M j from by
      rw [seen, Finset.sum_insert (sink_not_near n q), add_comm]]
  have hD : 0 < ∑ k ∈ seen n q, weight σ M k := Finset.sum_pos (fun k _ => weight_pos σ M k) ⟨256, Finset.mem_insert_self _ _⟩
  rw [Ideal.div_coe hD.ne', one_mul]
  unfold weighted
  rw [sum_mul_coe _ _ _ (one_div_pos.mpr hD).le]
  refine Finset.sum_congr rfl fun k _ => ?_
  rw [mul_assoc, ← EReal.coe_mul, mul_one_div, weight_div_sum σ (fun j => z j + c) hσ (seen n q) M 0 k, soft_add]

end Cert.Window

end
-- ==== Proof.Window.Spec.lean ====
/- What the layer's sliding window attention computes, as mathematics: the score of a query against a key of its window, and the gated
   sum of the window's values. Of the 256 keys that block `n` of queries is set against, key `j` is row `keyOf n j`. -/
module

public import proofs.«01_k».proof.Proof.Window.Column

@[expose] public section

noncomputable section

namespace Cert.Window

open Idealize.ShloMosaic Cert.Attention

/-- The row of key `j` of block `n`: the block before, then the block. -/
def keyOf (n j : ℕ) : Fin 2048 := ⟨(if j < 128 then 128 * (n - 1) + j else 128 * n + (j - 128)) % 2048, Nat.mod_lt _ (by norm_num)⟩

/-- The row of query `q` of block `n`. -/
def rowOf (n : Fin 16) (q : Fin 128) : Fin 2048 := ⟨128 * n.val + q.val, by omega⟩

theorem keyOf_before (n : Fin 16) (j : ℕ) (hj : j < 128) : keyOf n.val j = ⟨128 * (n.val - 1) + j, by omega⟩ := by
  unfold keyOf
  exact Fin.ext (by dsimp only; rw [if_pos hj]; omega)

theorem keyOf_own (n : Fin 16) (j : ℕ) (hj : 128 ≤ j) (hj' : j < 256) : keyOf n.val j = ⟨128 * n.val + (j - 128), by omega⟩ := by
  unfold keyOf
  exact Fin.ext (by dsimp only; rw [if_neg (by omega)]; omega)

/-- Head `h`'s score of query `q` of block `n` against key `j`, less the head's slope times their distance; the sink is number 256. -/
def score (s : Fin 8 → ℝ) (q : Fin 2048 → Fin 512 → ℝ) (k : Fin 2048 → Fin 128 → ℝ) (p : Fin 2048 → ℝ)
    (n : Fin 16) (r : Fin 128) (h : Fin 8) (j : ℕ) : ℝ :=
  if j = 256 then s h
  else (∑ d : Fin 64, k (keyOf n.val j) ⟨64 * (h.val / 4) + d.val, by omega⟩ * q (rowOf n r) ⟨64 * h.val + d.val, by omega⟩) / 8
    - (2 ^ (h.val + 1))⁻¹ * (p (rowOf n r) - p (keyOf n.val j))

/-- The number of head `g` of key head `h`. -/
def headOf (h : Fin 2) (g : Fin 4) : Fin 8 := ⟨4 * h.val + g.val, by omega⟩

theorem sink_seen (n q : ℕ) : 256 ∈ seen n q := Finset.mem_insert_self _ _

theorem mem_seen (n q j : ℕ) (hj : j < 256) : j ∈ seen n q ↔ j ∈ near n q := by
  unfold seen; rw [Finset.mem_insert]; exact or_iff_right (by omega)

theorem near_lt (n q j : ℕ) (h : j ∈ near n q) : j < 256 := by
  unfold near at h
  exact Finset.mem_range.mp (Finset.mem_filter.mp h).1

theorem seen_lt (n q j : ℕ) (h : j ∈ seen n q) : j < 257 := by
  unfold seen at h
  rcases Finset.mem_insert.mp h with rfl | h
  · norm_num
  · have := near_lt n q j h; omega

/-- A sum over all numbers of which only those of a set count. -/
theorem sum_over (m : ℕ) (T : Finset ℕ) (hT : ∀ j ∈ T, j < m) (f : ℕ → EReal) :
    ∑ j : Fin m, (if j.val ∈ T then f j.val else 0) = ∑ j ∈ T, f j := by
  rw [Fin.sum_univ_eq_sum_range (fun j => if j ∈ T then f j else 0) m, ← Finset.sum_filter]
  refine Finset.sum_congr ?_ fun _ _ => rfl
  ext j; simp only [Finset.mem_filter, Finset.mem_range]
  exact ⟨fun h => h.2, fun h => ⟨hT j h, h⟩⟩

/-- The window's values, each times its softmax weight, summed. -/
def mixed (z : ℕ → ℝ) (v : Fin 2048 → EReal) (n q : ℕ) : EReal := ∑ j ∈ near n q, v (keyOf n j) * (soft z (seen n q) 0 j : EReal)

/-- The attention's result at row `t` and lane `l`, gated. -/
def gated (z : Fin 16 → Fin 128 → Fin 8 → ℕ → ℝ) (v : Fin 2048 → Fin 128 → EReal) (w : Fin 2048 → Fin 512 → EReal)
    (t : Fin 2048) (l : Fin 512) : EReal :=
  mixed (z ⟨t.val / 128, by omega⟩ ⟨t.val % 128, by omega⟩ ⟨l.val / 64, by omega⟩)
    (fun r => v r ⟨64 * (l.val / 256) + l.val % 64, by omega⟩) (t.val / 128) (t.val % 128) * w t l

/-- The layer's sum before its norm: the input, and the modulation times the product of both attentions with the output weights. -/
def summed (x m : Fin 1024 → EReal) (om g : Fin 512 → EReal) (wm ws : Fin 512 → Fin 1024 → EReal) (l : Fin 1024) : EReal :=
  x l + m l * (∑ d : Fin 512, om d * wm d l + ∑ d : Fin 512, g d * ws d l)

/-- Over the root of the mean square, times the gain. -/
def normed (y f : Fin 1024 → EReal) (l : Fin 1024) : EReal :=
  y l * Ideal.rsqrt (Ideal.div (∑ d : Fin 1024, y d * y d) (Ideal.ofBits .f32 1149239296#32) + Ideal.ofBits .f32 897988541#32) * f l

end Cert.Window

end
-- ==== Proof.Window.RefScore.lean ====
/- The scores the window's reference computes: a query against its band of keys, less the slope times the distance, masked. -/
module

public import proofs.«01_k».proof.Proof.Gen.Reference3Ideal.Read
public import proofs.«01_k».proof.Proof.Window.Spec
public import Idealize.ShloMosaic.Lib.Pointwise
public import Idealize.ShloMosaic.Lib.WordCmp
public import Idealize.ShloMosaic.Lib.IdealHost

@[expose] public section

noncomputable section

namespace Cert.Window

open Cert.Reference3Ideal Cert.Reference3Ideal.Read Idealize.ShloMosaic Cert.Attention
open Cert.Reference3Ideal.Facts₀

theorem ref_bot : Ideal.ofBits .f32 4286578688#32 = ⊥ := by
  simp [Ideal.ofBits, Ideal.ieee]

theorem ref_two : Ideal.ofBits .f32 1073741824#32 = ((2 : ℝ) : EReal) := by
  simp [Ideal.ofBits, Ideal.ieee]; rw [← EReal.coe_mul]; norm_num

theorem ref_eight : Ideal.ofBits .f32 1090519040#32 = ((8 : ℝ) : EReal) := by
  simp [Ideal.ofBits, Ideal.ieee]; rw [← EReal.coe_mul]; norm_num

theorem ref_neg_eight : Ideal.ofBits .f32 3238002688#32 = ((-8 : ℝ) : EReal) := by
  simp [Ideal.ofBits, Ideal.ieee]; rw [← EReal.coe_mul]; norm_num

theorem ref_64 : Ideal.ofBits .f32 0x42800000#32 = ((64 : ℝ) : EReal) := by
  simp [Ideal.ofBits, Ideal.ieee]; rw [← EReal.coe_mul]; norm_num

/-- Head `m`'s slope is a power of a half. -/
theorem ref_slope (m : ℕ) (hm : m < 8) :
    Ideal.pow (Ideal.ofBits .f32 1073741824#32) (Ideal.div (Ideal.ofBits .f32 3238002688#32
      * (1 + FloatOps.sitofp (F := Ideal) .f32 (BitVec.ofNat 32 m))) (Ideal.ofBits .f32 1090519040#32))
    = (((2 ^ (m + 1))⁻¹ : ℝ) : EReal) := by
  have hi : FloatOps.sitofp (F := Ideal) .f32 (BitVec.ofNat 32 m) = ((m : ℝ) : EReal) := by
    show (((BitVec.ofNat 32 m).toInt : ℝ) : EReal) = _
    rw [WordCmp.toInt_ofNat_of_lt (by omega), Int.cast_natCast]
  rw [hi, ref_two, ref_eight, ref_neg_eight, ← EReal.coe_one, ← EReal.coe_add, ← EReal.coe_mul, Ideal.div_coe (by norm_num),
    ← EReal.coe_mul]
  show ((Real.rpow 2 _ : ℝ) : EReal) = _
  congr 1
  show (2 : ℝ) ^ ((-8 : ℝ) * (1 + (m : ℝ)) * (1 / 8)) = _
  rw [show ((-8 : ℝ) * (1 + (m : ℝ)) * (1 / 8)) = -((m + 1 : ℕ) : ℝ) by push_cast; ring, Real.rpow_neg two_pos.le, Real.rpow_natCast]

/-- The difference of two words that are not negative does not wrap. -/
theorem toInt_sub_nonneg (a b : BitVec 32) (ha : 0 ≤ a.toInt) (hb : 0 ≤ b.toInt) :
    (a - b).toInt = a.toInt - b.toInt := by
  have ha' : a.toInt < 2 ^ 31 := BitVec.toInt_lt
  have hb' : b.toInt < 2 ^ 31 := BitVec.toInt_lt
  rw [BitVec.toInt_sub]
  unfold Int.bmod
  have h32 : ((2 ^ 32 : ℕ) : ℤ) = 4294967296 := by norm_num
  simp only [h32]
  split <;> omega

theorem subi_ofNat (a b : ℕ) (ha : a < 4096) (hb : b < 4096) :
    (BitVec.ofNat 32 a - BitVec.ofNat 32 b).toInt = (a : ℤ) - b := by
  have ha' : (BitVec.ofNat 32 a).toInt = a := WordCmp.toInt_ofNat_of_lt (by omega)
  have hb' : (BitVec.ofNat 32 b).toInt = b := WordCmp.toInt_ofNat_of_lt (by omega)
  rw [toInt_sub_nonneg _ _ (by omega) (by omega), ha', hb']

/-- The mask's word is one at the keys the query sees. -/
theorem ref_mask {α : Type} (n : Fin 16) (q : Fin 128) (j : Fin 256) (x y : α) :
    Scalar.select (IntOp.andi (IntOp.andi
      (IntOp.cmpi .sge (IntOp.subi (BitVec.ofNat 32 (128 + q.val)) (BitVec.ofNat 32 j.val)) 0#32)
      (IntOp.cmpi .slt (IntOp.subi (BitVec.ofNat 32 (128 + q.val)) (BitVec.ofNat 32 j.val)) 128#32))
      (IntOp.ori (IntOp.cmpi .sgt (BitVec.ofNat 32 n.val) 0#32) (IntOp.cmpi .sge (BitVec.ofNat 32 j.val) 128#32))) x y
    = if j.val ∈ near n.val q.val then x else y := by
  have hd : (IntOp.subi (BitVec.ofNat 32 (128 + q.val)) (BitVec.ofNat 32 j.val)).toInt = ((128 + q.val : ℕ) : ℤ) - j.val :=
    subi_ofNat _ _ (by omega) (by omega)
  have h128 : (128#32).toInt = 128 := by decide
  have h0 : (0#32).toInt = 0 := by decide
  have hn : (BitVec.ofNat 32 n.val).toInt = n.val := WordCmp.toInt_ofNat_of_lt (by omega)
  have hj : (BitVec.ofNat 32 j.val).toInt = j.val := WordCmp.toInt_ofNat_of_lt (by omega)
  rw [WordCmp.cmpi_sge_eq, WordCmp.cmpi_slt_eq, WordCmp.cmpi_sgt_eq, WordCmp.cmpi_sge_eq, hd, h128, h0, hn, hj, WordCmp.andi_ofBool,
    WordCmp.ori_ofBool, WordCmp.andi_ofBool]
  unfold Scalar.select
  refine if_congr ?_ rfl rfl
  rw [WordCmp.ofBool_eq_one_iff']
  simp only [Bool.and_eq_true, Bool.or_eq_true, decide_eq_true_eq, near, Finset.mem_filter, Finset.mem_range]
  omega

section
variable (x0 : (⟨S1x8, .f32⟩ : BufTy).Contents (Elt Ideal)) (x1 : (⟨S32x2048x512, .f32⟩ : BufTy).Contents (Elt Ideal))
  (x2 x3 : (⟨S32x2048x128, .f32⟩ : BufTy).Contents (Elt Ideal)) (x4 : (⟨S32x2048x512, .f32⟩ : BufTy).Contents (Elt Ideal))
  (x5 : (⟨S32x2048, .i32⟩ : BufTy).Contents (Elt Ideal)) (x6 : (⟨S32x2048x512, .f32⟩ : BufTy).Contents (Elt Ideal))
  (x7 : (⟨S32x2048x1024, .f32⟩ : BufTy).Contents (Elt Ideal)) (x8 : (⟨S32x3072, .f32⟩ : BufTy).Contents (Elt Ideal))
  (x9 : (⟨S1x1024x1024, .f32⟩ : BufTy).Contents (Elt Ideal)) (x10 : (⟨S1024, .f32⟩ : BufTy).Contents (Elt Ideal))

/-- A position as a real number. -/
def place (b : Fin 32) (t : Fin 2048) : ℝ := ((x5 (ix2 b t)).toInt : ℝ)

theorem band_keys (b : Fin 32) (n : Fin 16) (j : Fin 256) (h : Fin 2) (d : Fin 64) (hj : 0 < n.val ∨ 128 ≤ j.val) :
    val_main_v15 (F := Ideal) x2 (ix5 b n j h d) = x2 (ix3 b (keyOf n.val j.val) ⟨64 * h.val + d.val, by omega⟩) := by
  pointwise [val_main_v15, val_main_v14, val_main_v13, val_main_v12, val_main_v10]
  have el : (⟨h.val * 64 + d.val, by omega⟩ : Fin 128) = ⟨64 * h.val + d.val, by omega⟩ := Fin.ext (by dsimp only; omega)
  by_cases hlt : j.val < 128
  · rw [dif_pos hlt, dif_neg (by omega), keyOf_before n j.val hlt, el]
    exact congrArg (fun r => x2 (ix3 b r _)) (Fin.ext (by dsimp only; omega))
  · rw [dif_neg hlt, keyOf_own n j.val (by omega) j.isLt, el]
    exact congrArg (fun r => x2 (ix3 b r _)) (Fin.ext (by dsimp only; omega))

theorem band_values (b : Fin 32) (n : Fin 16) (j : Fin 256) (h : Fin 2) (d : Fin 64) (hj : 0 < n.val ∨ 128 ≤ j.val) :
    val_main_v21 (F := Ideal) x3 (ix5 b n j h d) = x3 (ix3 b (keyOf n.val j.val) ⟨64 * h.val + d.val, by omega⟩) :=
  band_keys x3 b n j h d hj

theorem band_dist (hp : ∀ b t, 0 ≤ (x5 (ix2 b t)).toInt)
    (b : Fin 32) (n : Fin 16) (j : Fin 256) (q : Fin 128) (hj : 0 < n.val ∨ 128 ≤ j.val) :
    val_main_v38 (F := Ideal) x5 (ix4 b n q j) = ((place x5 b (rowOf n q) - place x5 b (keyOf n.val j.val) : ℝ) : EReal) := by
  pointwise [val_main_v38, val_main_v37, val_main_v36, val_main_v35, val_main_v34, val_main_v33, val_main_v32, val_main_v31, val_main_v30,
    val_main_v28, val_main_v27, val_main_c]
  have er : (⟨n.val * 128 + q.val, by omega⟩ : Fin 2048) = rowOf n q := Fin.ext (by unfold rowOf; dsimp only; omega)
  have ek : (if h : j.val < 128 then if h : n.val < 1 then 0#32 else x5 (ix2 b ⟨(n.val - 1) * 128 + j.val, by omega⟩)
      else x5 (ix2 b ⟨n.val * 128 + (j.val - 128), by omega⟩)) = x5 (ix2 b (keyOf n.val j.val)) := by
    by_cases hlt : j.val < 128
    · rw [dif_pos hlt, dif_neg (by omega), keyOf_before n j.val hlt]
      exact congrArg (fun r => x5 (ix2 b r)) (Fin.ext (by dsimp only; omega))
    · rw [dif_neg hlt, keyOf_own n j.val (by omega) j.isLt]
      exact congrArg (fun r => x5 (ix2 b r)) (Fin.ext (by dsimp only; omega))
  rw [er, ek]
  show (((x5 (ix2 b (rowOf n q)) - x5 (ix2 b (keyOf n.val j.val))).toInt : ℝ) : EReal) = _
  have h1 := hp b (rowOf n q)
  have h2 := hp b (keyOf n.val j.val)
  rw [toInt_sub_nonneg _ _ (by omega) (by omega)]
  unfold place
  push_cast
  rfl

variable (s : Fin 8 → ℝ) (qr : Fin 32 → Fin 2048 → Fin 512 → ℝ) (kr : Fin 32 → Fin 2048 → Fin 128 → ℝ)
  (hs : ∀ h, x0 (ix2 0 h) = (s h : EReal)) (hq : ∀ b t l, x1 (ix3 b t l) = (qr b t l : EReal))
  (hk : ∀ b t l, x2 (ix3 b t l) = (kr b t l : EReal))
  (hp : ∀ b t, 0 ≤ (x5 (ix2 b t)).toInt)

include hq hk hp

/-- The scores are real. -/
theorem ref_score (b : Fin 32) (n : Fin 16) (h : Fin 2) (g : Fin 4) (q : Fin 128) (j : Fin 256) (hj : 0 < n.val ∨ 128 ≤ j.val) :
    val_main_v45 (F := Ideal) x1 x2 x5 (ix6 b n h g q j)
      = (score s (qr b) (kr b) (place x5 b) n q (headOf h g) j.val : EReal) := by
  have hdot : val_main_v26 (F := Ideal) x1 x2 (ix6 b n h g q j)
      = (((∑ d : Fin 64, kr b (keyOf n.val j.val) ⟨64 * ((headOf h g).val / 4) + d.val, by have := (headOf h g).isLt; omega⟩
        * qr b (rowOf n q) ⟨64 * (headOf h g).val + d.val, by have := (headOf h g).isLt; omega⟩) / 8 : ℝ) : EReal) := by
    pointwise [val_main_v26, val_main_v25, val_main_v24, val_main_v23, val_main_v22, val_main_v9]
    have h64 : val_main_cst_5 (F := Ideal) ix0 = ((64 : ℝ) : EReal) := ref_64
    have h8 : Real.sqrt 64 = 8 := by rw [show (64 : ℝ) = 8 ^ 2 by norm_num]; exact Real.sqrt_sq (by norm_num)
    have h1 : ∀ S : ℝ, ((S / 8 : ℝ) : EReal) = (S : EReal) * ((1 / 8 : ℝ) : EReal) := fun S => by rw [← EReal.coe_mul, mul_one_div]
    rw [h64, Ideal.sqrt_coe, if_neg (by norm_num), h8, Ideal.div_coe (by norm_num)]
    refine Eq.trans ?_ (h1 _).symm
    rw [coe_sum]
    congr 1
    refine Finset.sum_congr rfl fun d _ => ?_
    rw [band_keys x2 b n j h d hj, hq, hk, ← EReal.coe_mul]
    congr 2
    · exact congrArg (kr b _) (Fin.ext (by unfold headOf; dsimp only; omega))
    · exact congrArg₂ (qr b) (Fin.ext (by unfold rowOf; dsimp only; omega)) (Fin.ext (by unfold headOf; dsimp only; omega))
  have hslope : val_main_v42 (F := Ideal) (ix6 b n h g q j) = (((2 ^ ((headOf h g).val + 1))⁻¹ : ℝ) : EReal) := by
    pointwise [val_main_v42, val_main_v40, val_main_v39, val_main_v8, val_main_v7, val_main_v6, val_main_v5, val_main_v4, val_main_v3,
      val_main_v2, val_main_v1, val_main_v0, val_main_cst, val_main_cst_0, val_main_cst_1, val_main_cst_2]
    have e : h.val * 4 + g.val = (headOf h g).val := by unfold headOf; dsimp only; omega
    rw [e]
    exact ref_slope _ (headOf h g).isLt
  pointwise [val_main_v45, val_main_v44, val_main_v43, val_main_v41]
  rw [hdot, hslope, band_dist x5 hp b n j q hj, ← EReal.coe_mul, ← EReal.coe_sub]
  unfold score
  rw [if_neg (by omega)]

theorem ref_masked (b : Fin 32) (n : Fin 16) (h : Fin 2) (g : Fin 4) (q : Fin 128) (j : Fin 256) :
    val_main_v76 (F := Ideal) x1 x2 x5 (ix6 b n h g q j)
      = if j.val ∈ near n.val q.val then (score s (qr b) (kr b) (place x5 b) n q (headOf h g) j.val : EReal) else ⊥ := by
  pointwise [val_main_v76, val_main_call0_v2, val_main_call0_v1, val_main_call0_v0, val_main_cst_11, val_main_v75, val_main_v74,
    val_main_v73, val_main_v72, val_main_v71, val_main_v70, val_main_v69, val_main_v68, val_main_c_10, val_main_v67, val_main_v66,
    val_main_c_9, val_main_v65, val_main_v64, val_main_v63, val_main_v62, val_main_v61, val_main_c_8, val_main_v60, val_main_v59,
    val_main_v58, val_main_v57, val_main_c_7, val_main_v56, val_main_v55, val_main_v54, val_main_v53, val_main_v52, val_main_v51,
    val_main_v50]
  have hrow : val_main_v49 (F := Ideal) (ix2 q 0) = BitVec.ofNat 32 (128 + q.val) := by
    rw [BitVec.ofNat_add]
    rfl
  rw [hrow, ref_mask]
  by_cases hm : j.val ∈ near n.val q.val
  · rw [if_pos hm, if_pos hm, ref_score x1 x2 x5 s qr kr hq hk hp b n h g q j]
    simp only [near, Finset.mem_filter] at hm; omega
  · rw [if_neg hm, if_neg hm]; exact ref_bot

end

end Cert.Window

end
-- ==== Proof.Window.Reference.lean ====
/- What the window's reference computes, at an index: the masked softmax of the scores with the sink,
   the values times it, the gate, the product with the output weights, the residual and its norm. -/
module

public import proofs.«01_k».proof.Proof.Window.RefScore
public import Idealize.ShloMosaic.Lib.Pointwise
public import Idealize.ShloMosaic.Lib.WordCmp
public import Idealize.ShloMosaic.Lib.IdealHost

@[expose] public section

noncomputable section

namespace Cert.Window

open Cert.Reference3Ideal Cert.Reference3Ideal.Read Idealize.ShloMosaic Cert.Attention
open Cert.Reference3Ideal.Facts₀

theorem reduces_band : S32x16x2x4x128x257.Reduces [5] S32x16x2x4x128 := by decide

section
variable (x0 : (⟨S1x8, .f32⟩ : BufTy).Contents (Elt Ideal)) (x1 : (⟨S32x2048x512, .f32⟩ : BufTy).Contents (Elt Ideal))
  (x2 x3 : (⟨S32x2048x128, .f32⟩ : BufTy).Contents (Elt Ideal)) (x4 : (⟨S32x2048x512, .f32⟩ : BufTy).Contents (Elt Ideal))
  (x5 : (⟨S32x2048, .i32⟩ : BufTy).Contents (Elt Ideal)) (x6 : (⟨S32x2048x512, .f32⟩ : BufTy).Contents (Elt Ideal))
  (x7 : (⟨S32x2048x1024, .f32⟩ : BufTy).Contents (Elt Ideal)) (x8 : (⟨S32x3072, .f32⟩ : BufTy).Contents (Elt Ideal))
  (x9 : (⟨S1x1024x1024, .f32⟩ : BufTy).Contents (Elt Ideal)) (x10 : (⟨S1024, .f32⟩ : BufTy).Contents (Elt Ideal))

variable (s : Fin 8 → ℝ) (qr : Fin 32 → Fin 2048 → Fin 512 → ℝ) (kr : Fin 32 → Fin 2048 → Fin 128 → ℝ)
  (hs : ∀ h, x0 (ix2 0 h) = (s h : EReal)) (hq : ∀ b t l, x1 (ix3 b t l) = (qr b t l : EReal))
  (hk : ∀ b t l, x2 (ix3 b t l) = (kr b t l : EReal))
  (hp : ∀ b t, 0 ≤ (x5 (ix2 b t)).toInt)

include hq hk hp

include hs

theorem ref_sinks (b : Fin 32) (n : Fin 16) (h : Fin 2) (g : Fin 4) (q : Fin 128) (j : Fin 257) :
    val_main_v81 (F := Ideal) x0 x1 x2 x5 (ix6 b n h g q j)
      = if j.val ∈ seen n.val q.val then (score s (qr b) (kr b) (place x5 b) n q (headOf h g) j.val : EReal) else ⊥ := by
  pointwise [val_main_v81, val_main_v80, val_main_v79, val_main_v78, val_main_v77]
  by_cases hj : j.val < 256
  · rw [dif_pos hj, ref_masked x1 x2 x5 s qr kr hq hk hp]
    exact if_congr (mem_seen _ _ _ hj).symm rfl rfl
  · have e : j.val = 256 := by omega
    rw [dif_neg hj, e, if_pos (sink_seen _ _), show (⟨h.val * 4 + g.val, by omega⟩ : Fin 8) = headOf h g from
      Fin.ext (by unfold headOf; dsimp only; omega), hs]
    unfold score; rw [if_pos rfl]

theorem ref_max (b : Fin 32) (n : Fin 16) (h : Fin 2) (g : Fin 4) (q : Fin 128) :
    ∃ Z : ℝ, val_main_v84 (F := Ideal) x0 x1 x2 x5 (ix5 b n h g q) = (Z : EReal) := by
  have hfold : val_main_v82 (F := Ideal) x0 x1 x2 x5 (ix5 b n h g q)
      = (Finset.univ : Finset (Fin 257)).fold max ⊥ fun j => val_main_v81 (F := Ideal) x0 x1 x2 x5 (ix6 b n h g q j) := by
    unfold val_main_v82
    generalize val_main_v81 (F := Ideal) x0 x1 x2 x5 = y
    have := Host.reduce_eq_fold_single (FloatOps.maximumf (F := Ideal) (φ := .f32)) y (val_main_cst_12 (F := Ideal))
      reducesTo_S32x16x2x4x128x257_S32x16x2x4x128_d5 reduces_band h_S_ (ix5 b n h g q)
    rw [this]
    have e : (y ∘ reduces_band.lift (ix5 b n h g q)) = fun j : Fin 257 => y (ix6 b n h g q j) :=
      funext fun j => congrArg y (funext fun a =>
        match a with | ⟨0, _⟩ => rfl | ⟨1, _⟩ => rfl | ⟨2, _⟩ => rfl | ⟨3, _⟩ => rfl | ⟨4, _⟩ => rfl | ⟨5, _⟩ => rfl)
    rw [e]
    show Finset.fold max (Ideal.ofBits .f32 4286578688#32) _ _ = _
    rw [ref_bot]
    rfl
  obtain ⟨Z, hZ⟩ := fold_max_real (Finset.univ : Finset (Fin 257)) (fun j => val_main_v81 (F := Ideal) x0 x1 x2 x5 (ix6 b n h g q j))
    (fun j _ => by
      show val_main_v81 (F := Ideal) x0 x1 x2 x5 (ix6 b n h g q j) ≠ ⊤
      rw [ref_sinks x0 x1 x2 x5 s qr kr hs hq hk hp]; split
      · exact EReal.coe_ne_top _
      · exact bot_ne_top)
    ⟨⟨256, by norm_num⟩, Finset.mem_univ _, by
      show val_main_v81 (F := Ideal) x0 x1 x2 x5 (ix6 b n h g q ⟨256, by norm_num⟩) ≠ ⊥
      rw [ref_sinks x0 x1 x2 x5 s qr kr hs hq hk hp, if_pos (sink_seen _ _)]; exact EReal.coe_ne_bot _⟩
  refine ⟨Z, ?_⟩
  rw [val_main_v84_apply, hfold, hZ, val_main_v83_apply]
  show max (Ideal.ofBits .f32 4286578688#32) _ = _
  rw [ref_bot]; exact bot_sup_eq _

/-- The attention weights: the softmax over the window's keys and the sink. -/
theorem ref_weights (b : Fin 32) (n : Fin 16) (h : Fin 2) (g : Fin 4) (q : Fin 128) (j : Fin 256) :
    val_main_v93 (F := Ideal) x0 x1 x2 x5 (ix6 b n h g q j)
      = if j.val ∈ near n.val q.val then
          (soft (score s (qr b) (kr b) (place x5 b) n q (headOf h g)) (seen n.val q.val) 0 j.val : EReal) else 0 := by
  obtain ⟨Z, hZ⟩ := ref_max x0 x1 x2 x5 s qr kr hs hq hk hp b n h g q
  have hexp : ∀ j : Fin 257, val_main_v88 (F := Ideal) x0 x1 x2 x5 (ix6 b n h g q j)
      = if j.val ∈ seen n.val q.val then
          (Real.exp (score s (qr b) (kr b) (place x5 b) n q (headOf h g) j.val - Z) : EReal) else 0 := fun j => by
    rw [val_main_v88_apply, val_main_v87_apply, ref_sinks x0 x1 x2 x5 s qr kr hs hq hk hp, val_main_v86_apply, val_main_v85_apply]
    have e : idx_main_v85 (idx_main_v86 (ix6 b n h g q j)) = ix5 b n h g q :=
      funext fun a => match a with | ⟨0, _⟩ => rfl | ⟨1, _⟩ => rfl | ⟨2, _⟩ => rfl | ⟨3, _⟩ => rfl | ⟨4, _⟩ => rfl
    rw [e, hZ]
    generalize score s (qr b) (kr b) (place x5 b) n q (headOf h g) = z
    show Ideal.exp ((if j.val ∈ seen n.val q.val then (z j.val : EReal) else ⊥) - (Z : EReal)) = _
    by_cases hle : j.val ∈ seen n.val q.val
    · rw [if_pos hle, if_pos hle, ← EReal.coe_sub, Ideal.exp_coe]
    · rw [if_neg hle, if_neg hle, EReal.bot_sub, Ideal.exp_bot]
  have hsum : ∀ j : Fin 257, val_main_v91 (F := Ideal) x0 x1 x2 x5 (ix6 b n h g q j)
      = ((∑ i ∈ seen n.val q.val, Real.exp (score s (qr b) (kr b) (place x5 b) n q (headOf h g) i - Z) : ℝ) : EReal) := fun j => by
    rw [val_main_v91_apply, val_main_v90_apply, val_main_v89_apply]
    have e : ∀ i, idx_main_v89 (idx_main_v90 (idx_main_v91 (ix6 b n h g q j))) i = ix6 b n h g q i := fun i =>
      funext fun a => match a with
        | ⟨0, _⟩ => rfl | ⟨1, _⟩ => rfl | ⟨2, _⟩ => rfl | ⟨3, _⟩ => rfl | ⟨4, _⟩ => rfl | ⟨5, _⟩ => rfl
    simp only [e, hexp]
    have hz : val_main_cst_14 (F := Ideal) (Shape.Idx.first h_S_) = 0 := by
      show Ideal.ofBits .f32 0x00000000#32 = 0
      simp [Ideal.ofBits, Ideal.ieee]
    rw [hz, zero_add, coe_sum]
    exact sum_over 257 _ (seen_lt _ _)
      fun i => (Real.exp (score s (qr b) (kr b) (place x5 b) n q (headOf h g) i - Z) : EReal)
  have hpos : 0 < ∑ i ∈ seen n.val q.val, Real.exp (score s (qr b) (kr b) (place x5 b) n q (headOf h g) i - Z) :=
    Finset.sum_pos (fun _ _ => Real.exp_pos _) ⟨256, sink_seen _ _⟩
  have hcut : val_main_v93 (F := Ideal) x0 x1 x2 x5 (ix6 b n h g q j)
      = val_main_v92 (F := Ideal) x0 x1 x2 x5 (ix6 b n h g q ⟨j.val, by omega⟩) := by
    unfold val_main_v93
    generalize val_main_v92 (F := Ideal) x0 x1 x2 x5 = y
    pointwise [val_main_v93]
  rw [hcut, val_main_v92_apply, hexp, hsum]
  generalize score s (qr b) (kr b) (place x5 b) n q (headOf h g) = z at hpos ⊢
  show Ideal.div _ _ = _
  have hmem := mem_seen n.val q.val j.val j.isLt
  rw [Ideal.div_coe hpos.ne', soft_shift _ _ 0 Z]
  by_cases hle : j.val ∈ near n.val q.val
  · rw [if_pos (hmem.mpr hle), if_pos hle, ← EReal.coe_mul, mul_one_div]; rfl
  · rw [if_neg (fun h => hle (hmem.mp h)), if_neg hle, zero_mul]

omit hs hq hk hp in
/-- The heads' results side by side. -/
theorem ref_rows (b : Fin 32) (t : Fin 2048) (l : Fin 512) :
    val_main_v96 (F := Ideal) x0 x1 x2 x3 x5 (ix3 b t l)
      = val_main_v95 (F := Ideal) x0 x1 x2 x3 x5
          (ix6 b ⟨t.val / 128, by omega⟩ ⟨t.val % 128, by omega⟩ ⟨l.val / 256, by omega⟩ ⟨l.val / 64 % 4, by omega⟩ ⟨l.val % 64, by omega⟩) := by
  unfold val_main_v96
  generalize val_main_v95 (F := Ideal) x0 x1 x2 x3 x5 = y
  pointwise []

/-- The gated attention. -/
theorem ref_gated (b : Fin 32) (t : Fin 2048) (l : Fin 512) :
    val_main_v97 (F := Ideal) x0 x1 x2 x3 x4 x5 (ix3 b t l)
      = gated (score s (qr b) (kr b) (place x5 b)) (fun r d => x3 (ix3 b r d)) (fun r d => x4 (ix3 b r d)) t l := by
  rw [val_main_v97_apply, ref_rows, val_main_v95_apply, val_main_v94_apply]
  unfold gated mixed
  refine congrArg (· * x4 (ix3 b t l)) ?_
  refine Eq.trans (Finset.sum_congr rfl fun j _ => ?_) (sum_over 256 (near (t.val / 128) (t.val % 128)) (near_lt _ _)
    fun j => x3 (ix3 b (keyOf (t.val / 128) j) ⟨64 * (l.val / 256) + l.val % 64, by omega⟩)
      * (soft (score s (qr b) (kr b) (place x5 b) ⟨t.val / 128, by omega⟩ ⟨t.val % 128, by omega⟩ ⟨l.val / 64, by omega⟩)
          (seen (t.val / 128) (t.val % 128)) 0 j : EReal))
  have hhead : headOf ⟨l.val / 256, by omega⟩ ⟨l.val / 64 % 4, by omega⟩ = ⟨l.val / 64, by omega⟩ :=
    Fin.ext (by unfold headOf; dsimp only; omega)
  have el : lidx_main_v94 (idx_main_v95 (ix6 b ⟨t.val / 128, by omega⟩ ⟨t.val % 128, by omega⟩ ⟨l.val / 256, by omega⟩
      ⟨l.val / 64 % 4, by omega⟩ ⟨l.val % 64, by omega⟩)) j
      = ix5 b ⟨t.val / 128, by omega⟩ j ⟨l.val / 256, by omega⟩ ⟨l.val % 64, by omega⟩ :=
    funext fun a => match a with | ⟨0, _⟩ => rfl | ⟨1, _⟩ => rfl | ⟨2, _⟩ => rfl | ⟨3, _⟩ => rfl | ⟨4, _⟩ => rfl
  have er : ridx_main_v94 (idx_main_v95 (ix6 b ⟨t.val / 128, by omega⟩ ⟨t.val % 128, by omega⟩ ⟨l.val / 256, by omega⟩
      ⟨l.val / 64 % 4, by omega⟩ ⟨l.val % 64, by omega⟩)) j
      = ix6 b ⟨t.val / 128, by omega⟩ ⟨l.val / 256, by omega⟩ ⟨l.val / 64 % 4, by omega⟩ ⟨t.val % 128, by omega⟩ j :=
    funext fun a => match a with
      | ⟨0, _⟩ => rfl | ⟨1, _⟩ => rfl | ⟨2, _⟩ => rfl | ⟨3, _⟩ => rfl | ⟨4, _⟩ => rfl | ⟨5, _⟩ => rfl
  rw [el, er, ref_weights x0 x1 x2 x5 s qr kr hs hq hk hp, hhead]
  dsimp only
  by_cases hj : j.val ∈ near (t.val / 128) (t.val % 128)
  · rw [if_pos hj, if_pos hj, band_values x3]
    unfold near at hj; simp only [Finset.mem_filter] at hj; dsimp only; omega
  · rw [if_neg hj, if_neg hj, mul_zero]

/-- The layer before its norm. -/
theorem ref_sum (b : Fin 32) (t : Fin 2048) (l : Fin 1024) :
    val_main_v105 (F := Ideal) x0 x1 x2 x3 x4 x5 x6 x7 x8 x9 (ix3 b t l)
      = summed (fun l => x7 (ix3 b t l)) (fun l => x8 (ix2 b ⟨2048 + l.val, by omega⟩)) (fun d => x6 (ix3 b t d))
          (gated (score s (qr b) (kr b) (place x5 b)) (fun r d => x3 (ix3 b r d)) (fun r d => x4 (ix3 b r d)) t)
          (fun d l => x9 (ix3 0 ⟨d.val, by omega⟩ l)) (fun d l => x9 (ix3 0 ⟨512 + d.val, by omega⟩ l)) l := by
  unfold summed
  simp only [← ref_gated x0 x1 x2 x3 x4 x5 s qr kr hs hq hk hp b]
  unfold val_main_v105 val_main_v104 val_main_v103 val_main_v102 val_main_v101 val_main_v100 val_main_v99 val_main_v98
  generalize val_main_v97 (F := Ideal) x0 x1 x2 x3 x4 x5 = y
  pointwise [val_main_v105]

omit hq hk hp hs in
/-- The reference's result, of the layer before its norm. -/
theorem ref_norm (b : Fin 32) (t : Fin 2048) (l : Fin 1024) :
    val_main_v118 (F := Ideal) x0 x1 x2 x3 x4 x5 x6 x7 x8 x9 x10 (ix3 b t l)
      = normed (fun l => val_main_v105 (F := Ideal) x0 x1 x2 x3 x4 x5 x6 x7 x8 x9 (ix3 b t l)) (fun l => x10 (ix1 l)) l := by
  unfold normed
  pointwise [val_main_v118, val_main_v117, val_main_v116, val_main_v115, val_main_v114, val_main_v113, val_main_v112, val_main_v111,
    val_main_v110, val_main_v109, val_main_v108, val_main_v107, val_main_v106, val_main_cst_15, val_main_cst_16, val_main_cst_17]

/-- The reference's result, at an index. -/
theorem reference_apply (b : Fin 32) (t : Fin 2048) (l : Fin 1024) :
    val_main_v118 (F := Ideal) x0 x1 x2 x3 x4 x5 x6 x7 x8 x9 x10 (ix3 b t l)
      = normed (summed (fun l => x7 (ix3 b t l)) (fun l => x8 (ix2 b ⟨2048 + l.val, by omega⟩)) (fun d => x6 (ix3 b t d))
          (gated (score s (qr b) (kr b) (place x5 b)) (fun r d => x3 (ix3 b r d)) (fun r d => x4 (ix3 b r d)) t)
          (fun d l => x9 (ix3 0 ⟨d.val, by omega⟩ l)) (fun d l => x9 (ix3 0 ⟨512 + d.val, by omega⟩ l))) (fun l => x10 (ix1 l)) l := by
  rw [ref_norm]
  simp only [ref_sum x0 x1 x2 x3 x4 x5 x6 x7 x8 x9 s qr kr hs hq hk hp b]

end

end Cert.Window

end
-- ==== Proof.Window.Tile.lean ====
/- What the window's kernel does with one block of 128 queries and one key head, as named steps over any float semantics: the
   distances between positions and the heads' slopes, the sinks, the scores of four heads side by side, the window folded into 128
   rows, and the gated quotients. Then each step read at an index over the extended reals. -/
module

public import proofs.«01_k».proof.Proof.Gen.Kernel3Ideal.Skeleton
public import proofs.«01_k».proof.Proof.Window.Column
public import Idealize.ShloMosaic.Lib.Pointwise
public import Idealize.ShloMosaic.Lib.ValueIdx
public import Idealize.ShloMosaic.Lib.WordCmp

@[expose] public section

noncomputable section

namespace Cert.Window

open Cert.Kernel3Ideal Cert.Kernel3Ideal.Gen Idealize.ShloMosaic

variable {F : FTy → Type} [FloatOps F] [Named F]

/-- The positions' distances times the slopes of key head `h`'s four heads. -/
def slant (h : ℕ) (cur prev : Vec F S1x1x1x128 .f32) : FVec F S128x512 .f32 :=
  match h with
  | 0 => k0_pay9 cur prev
  | _ + 1 => k0_pay20 (k0_pay7 cur prev)

/-- The four heads' sinks in the same units, moved by the same distances. -/
def sinkRow (h : ℕ) (cur prev : Vec F S1x1x1x128 .f32) (s : ℕ → Elt F .f32) : FVec F S1x512 .f32 :=
  match h with
  | 0 => k0_pay10 (k0_pay8 cur prev) (s 0) (s 1) (s 2) (s 3)
  | _ + 1 => k0_pay23 (k0_pay8 cur prev) (k0_pay21 (k0_pay8 cur prev) (s 4)) (k0_pay22 (k0_pay8 cur prev) (s 5)) (s 6)
      (Named.named κ "log2e" 0x3FB8AA3B#32) (s 7)

/-- Scores of 256 keys (down) against 128 queries of four heads (across). -/
def scores (qa qb kp kc : Vec F S1x128x128 .bf16) : FVec F S256x512 .f32 := k0_pay26 (k0_pay24 k0_pay2 qa qb) (k0_pay25 kp kc)

/-- The window folded: the block's own keys up to the query, and the block before's beyond it, where there is one. -/
def folded (n : ℕ) (w : BitVec 32) (s : FVec F S256x512 .f32) : FVec F S128x512 .f32 :=
  match n with
  | 0 => k0_pay44 w k0_pay3 s
  | _ + 1 => select k0_pay3 (extractStridedSlice S128x512 ![128, 0] s slices_S256x512_o128_0_S128x512)
      (extractStridedSlice S128x512 ![0, 0] s slices_S256x512_o0_0_S128x512)

/-- The gated result of pair `p` of the four heads. -/
def finish (p : ℕ) (a : FVec F S128x512 .f32) (s : FVec F S1x512 .f32) (f : FVec F S128x512 .f32) (vp vc : Vec F S1x1x64x128 .bf16)
    (g : Vec F S1x128x128 .bf16) : FVec F S128x128 .bf16 :=
  match p with
  | 0 => k0_pay46 k0_pay3 a s f vp vc g
  | _ + 1 => k0_pay49 (k0_pay47 k0_pay3 a s f vp vc) (k0_pay48 k0_pay3 a s f vp vc) g

/-! ## Read at an index, over the extended reals -/

/-- The column of head `g` (of four) and query `q`. -/
def col (g : Fin 4) (q : Fin 128) : Fin 512 := ⟨128 * g.val + q.val, by omega⟩

/-- Head `h`'s slope in units of `log 2`. -/
def slope (h : ℕ) : ℝ := (2 ^ (h + 1) * Real.log 2)⁻¹

/-- Four arrays side by side, read at a column. -/
theorem four {α : Type*} (g : Fin 4) (q : Fin 128) (A B C D : Fin 128 → α) :
    (if h : 128 * g.val + q.val < 128 then A ⟨128 * g.val + q.val, h⟩
      else if h : 128 * g.val + q.val - 128 < 128 then B ⟨128 * g.val + q.val - 128, h⟩
      else if h : 128 * g.val + q.val - 128 - 128 < 128 then C ⟨128 * g.val + q.val - 128 - 128, h⟩
      else D ⟨128 * g.val + q.val - 128 - 128 - 128, by omega⟩) = ![A q, B q, C q, D q] g := by
  match g with
  | ⟨0, _⟩ => rw [dif_pos (show 128 * 0 + q.val < 128 by omega)]; exact congrArg A (Fin.ext (by dsimp only; omega))
  | ⟨1, _⟩ =>
    rw [dif_neg (show ¬ 128 * 1 + q.val < 128 by omega), dif_pos (show 128 * 1 + q.val - 128 < 128 by omega)]
    exact congrArg B (Fin.ext (by dsimp only; omega))
  | ⟨2, _⟩ =>
    rw [dif_neg (show ¬ 128 * 2 + q.val < 128 by omega), dif_neg (show ¬ 128 * 2 + q.val - 128 < 128 by omega),
      dif_pos (show 128 * 2 + q.val - 128 - 128 < 128 by omega)]
    exact congrArg C (Fin.ext (by dsimp only; omega))
  | ⟨3, _⟩ =>
    rw [dif_neg (show ¬ 128 * 3 + q.val < 128 by omega), dif_neg (show ¬ 128 * 3 + q.val - 128 < 128 by omega),
      dif_neg (show ¬ 128 * 3 + q.val - 128 - 128 < 128 by omega)]
    exact congrArg D (Fin.ext (by dsimp only; omega))

theorem select_le {α : Type} (r q : Fin 128) (a b : α) :
    Scalar.select (IntOp.cmpi .sle (BitVec.ofNat 32 r.val) (BitVec.ofNat 32 q.val)) a b = if r.val ≤ q.val then a else b := by
  rw [WordCmp.cmpi_sle_ofNat (by omega) (by omega)]
  by_cases h : r.val ≤ q.val <;> simp [h, Scalar.select]

theorem select_lt {α : Type} (x : Fin 128) (a b : α) :
    Scalar.select (IntOp.cmpi .slt (BitVec.ofNat 32 x.val) 64#32) a b = if x.val < 64 then a else b := by
  rw [WordCmp.cmpi_slt_ofNat (b := 64) (by omega) (by omega)]
  by_cases h : x.val < 64 <;> simp [h, Scalar.select]

theorem pay3_apply (r q : Fin 128) (g : Fin 4) {α : Type} (a b : α) :
    Scalar.select (k0_pay3 (ix2 r (col g q))) a b = if r.val ≤ q.val then a else b := by
  have h : k0_pay3 (ix2 r (col g q)) = IntOp.cmpi .sle (BitVec.ofNat 32 r.val) (BitVec.ofNat 32 q.val) := by
    pointwise [k0_pay3, col]
    refine (four g q (fun x => IntOp.cmpi .sle (BitVec.ofNat 32 r.val) (BitVec.ofNat 32 x.val))
      (fun x => IntOp.cmpi .sle (BitVec.ofNat 32 r.val) (BitVec.ofNat 32 x.val))
      (fun x => IntOp.cmpi .sle (BitVec.ofNat 32 r.val) (BitVec.ofNat 32 x.val))
      (fun x => IntOp.cmpi .sle (BitVec.ofNat 32 r.val) (BitVec.ofNat 32 x.val))).trans ?_
    match g with
    | ⟨0, _⟩ | ⟨1, _⟩ | ⟨2, _⟩ | ⟨3, _⟩ => rfl
  rw [h, select_le]

/-- The distance of folded row `r`'s key from the first key's position. -/
theorem pay7_apply (cur prev : Vec Ideal S1x1x1x128 .f32) (r q : Fin 128) :
    k0_pay7 cur prev (ix2 r q) = (if r.val ≤ q.val then cur (ix4 0 0 0 r) else prev (ix4 0 0 0 r)) - prev (ix4 0 0 0 0) := by
  pointwise [k0_pay7, k0_pay4, k0_pay5, k0_pay6]
  rw [select_le]

theorem pay8_apply (cur prev : Vec Ideal S1x1x1x128 .f32) (q : Fin 128) :
    k0_pay8 cur prev (ix2 0 q) = cur (ix4 0 0 0 q) - prev (ix4 0 0 0 0) := by
  pointwise [k0_pay8, k0_pay4, k0_pay6, k0_pay5]

theorem log2e_eq : Named.named (F := Ideal) κ (φ := .f32) "log2e" 0x3FB8AA3B#32 = (((Real.log 2)⁻¹ : ℝ) : EReal) :=
  IdealRules.named_const.ideal_named_scalar _ _ _ _ rfl
theorem mask_bot : Named.named (F := Ideal) κ (φ := .f32) "mask3" 0xF149F2CA#32 = ⊥ :=
  IdealRules.named_const.ideal_named_scalar _ _ _ _ rfl
theorem slope1_eq : Named.named (F := Ideal) κ (φ := .f32) "slope1" 0x3F38AA3B#32 = (slope 0 : EReal) :=
  (IdealRules.named_const.ideal_named_scalar _ _ _ _ rfl : _ = (((2 * Real.log 2)⁻¹ : ℝ) : EReal)).trans (by norm_num [slope])
theorem slope2_eq : Named.named (F := Ideal) κ (φ := .f32) "slope2" 0x3EB8AA3B#32 = (slope 1 : EReal) :=
  (IdealRules.named_const.ideal_named_scalar _ _ _ _ rfl : _ = (((4 * Real.log 2)⁻¹ : ℝ) : EReal)).trans (by norm_num [slope])
theorem slope3_eq : Named.named (F := Ideal) κ (φ := .f32) "slope3" 0x3E38AA3B#32 = (slope 2 : EReal) :=
  (IdealRules.named_const.ideal_named_scalar _ _ _ _ rfl : _ = (((8 * Real.log 2)⁻¹ : ℝ) : EReal)).trans (by norm_num [slope])
theorem slope4_eq : Named.named (F := Ideal) κ (φ := .f32) "slope4" 0x3DB8AA3B#32 = (slope 3 : EReal) :=
  (IdealRules.named_const.ideal_named_scalar _ _ _ _ rfl : _ = (((16 * Real.log 2)⁻¹ : ℝ) : EReal)).trans (by norm_num [slope])
theorem slope5_eq : Named.named (F := Ideal) κ (φ := .f32) "slope5" 0x3D38AA3B#32 = (slope 4 : EReal) :=
  (IdealRules.named_const.ideal_named_scalar _ _ _ _ rfl : _ = (((32 * Real.log 2)⁻¹ : ℝ) : EReal)).trans (by norm_num [slope])
theorem slope6_eq : Named.named (F := Ideal) κ (φ := .f32) "slope6" 0x3CB8AA3B#32 = (slope 5 : EReal) :=
  (IdealRules.named_const.ideal_named_scalar _ _ _ _ rfl : _ = (((64 * Real.log 2)⁻¹ : ℝ) : EReal)).trans (by norm_num [slope])
theorem slope7_eq : Named.named (F := Ideal) κ (φ := .f32) "slope7" 0x3C38AA3B#32 = (slope 6 : EReal) :=
  (IdealRules.named_const.ideal_named_scalar _ _ _ _ rfl : _ = (((128 * Real.log 2)⁻¹ : ℝ) : EReal)).trans (by norm_num [slope])
theorem slope8_eq : Named.named (F := Ideal) κ (φ := .f32) "slope8" 0x3BB8AA3B#32 = (slope 7 : EReal) :=
  (IdealRules.named_const.ideal_named_scalar _ _ _ _ rfl : _ = (((256 * Real.log 2)⁻¹ : ℝ) : EReal)).trans (by norm_num [slope])

theorem slant_apply (h : Fin 2) (cur prev : Vec Ideal S1x1x1x128 .f32) (r q : Fin 128) (g : Fin 4) :
    slant h.val cur prev (ix2 r (col g q)) = (slope (4 * h.val + g.val) : EReal) * k0_pay7 cur prev (ix2 r q) := by
  match h with
  | ⟨0, _⟩ =>
    show k0_pay9 cur prev (ix2 r (col g q)) = _
    pointwise [k0_pay9, col]
    simp only [slope1_eq, slope2_eq, slope3_eq, slope4_eq]
    refine (four g q (fun x => (slope 0 : EReal) * k0_pay7 cur prev (ix2 r x)) (fun x => (slope 1 : EReal) * k0_pay7 cur prev (ix2 r x))
      (fun x => (slope 2 : EReal) * k0_pay7 cur prev (ix2 r x)) (fun x => (slope 3 : EReal) * k0_pay7 cur prev (ix2 r x))).trans ?_
    match g with
    | ⟨0, _⟩ | ⟨1, _⟩ | ⟨2, _⟩ | ⟨3, _⟩ => rfl
  | ⟨1, _⟩ =>
    show k0_pay20 (k0_pay7 cur prev) (ix2 r (col g q)) = _
    pointwise [k0_pay20, col]
    simp only [slope5_eq, slope6_eq, slope7_eq, slope8_eq]
    refine (four g q (fun x => (slope 4 : EReal) * k0_pay7 cur prev (ix2 r x)) (fun x => (slope 5 : EReal) * k0_pay7 cur prev (ix2 r x))
      (fun x => (slope 6 : EReal) * k0_pay7 cur prev (ix2 r x)) (fun x => (slope 7 : EReal) * k0_pay7 cur prev (ix2 r x))).trans ?_
    match g with
    | ⟨0, _⟩ | ⟨1, _⟩ | ⟨2, _⟩ | ⟨3, _⟩ => rfl

theorem sinkRow_apply (h : Fin 2) (cur prev : Vec Ideal S1x1x1x128 .f32) (s : ℕ → EReal) (q : Fin 128) (g : Fin 4) :
    sinkRow (F := Ideal) h.val cur prev s (ix2 0 (col g q))
      = s (4 * h.val + g.val) * (((Real.log 2)⁻¹ : ℝ) : EReal)
        + (slope (4 * h.val + g.val) : EReal) * k0_pay8 cur prev (ix2 0 q) := by
  match h with
  | ⟨0, _⟩ =>
    show k0_pay10 (F := Ideal) (k0_pay8 cur prev) (s 0) (s 1) (s 2) (s 3) (ix2 0 (col g q)) = _
    pointwise [k0_pay10, col]
    simp only [slope1_eq, slope2_eq, slope3_eq, slope4_eq, log2e_eq]
    refine (four g q (fun x => s 0 * (((Real.log 2)⁻¹ : ℝ) : EReal) + (slope 0 : EReal) * k0_pay8 cur prev (ix2 0 x))
      (fun x => s 1 * (((Real.log 2)⁻¹ : ℝ) : EReal) + (slope 1 : EReal) * k0_pay8 cur prev (ix2 0 x))
      (fun x => s 2 * (((Real.log 2)⁻¹ : ℝ) : EReal) + (slope 2 : EReal) * k0_pay8 cur prev (ix2 0 x))
      (fun x => s 3 * (((Real.log 2)⁻¹ : ℝ) : EReal) + (slope 3 : EReal) * k0_pay8 cur prev (ix2 0 x))).trans ?_
    match g with
    | ⟨0, _⟩ | ⟨1, _⟩ | ⟨2, _⟩ | ⟨3, _⟩ => rfl
  | ⟨1, _⟩ =>
    show k0_pay23 (F := Ideal) (k0_pay8 cur prev) (k0_pay21 (k0_pay8 cur prev) (s 4)) (k0_pay22 (k0_pay8 cur prev) (s 5)) (s 6)
      (Named.named κ "log2e" 0x3FB8AA3B#32) (s 7) (ix2 0 (col g q)) = _
    pointwise [k0_pay21, k0_pay22, k0_pay23, col]
    simp only [slope5_eq, slope6_eq, slope7_eq, slope8_eq, log2e_eq]
    refine (four g q (fun x => s 4 * (((Real.log 2)⁻¹ : ℝ) : EReal) + (slope 4 : EReal) * k0_pay8 cur prev (ix2 0 x))
      (fun x => s 5 * (((Real.log 2)⁻¹ : ℝ) : EReal) + (slope 5 : EReal) * k0_pay8 cur prev (ix2 0 x))
      (fun x => s 6 * (((Real.log 2)⁻¹ : ℝ) : EReal) + (slope 6 : EReal) * k0_pay8 cur prev (ix2 0 x))
      (fun x => s 7 * (((Real.log 2)⁻¹ : ℝ) : EReal) + (slope 7 : EReal) * k0_pay8 cur prev (ix2 0 x))).trans ?_
    match g with
    | ⟨0, _⟩ | ⟨1, _⟩ | ⟨2, _⟩ | ⟨3, _⟩ => rfl

/-- A sum over 128 lanes, the two halves. -/
theorem sum_halves (f : Fin 128 → EReal) :
    ∑ x, f x = ∑ d : Fin 64, f ⟨d.val, by omega⟩ + ∑ d : Fin 64, f ⟨64 + d.val, by omega⟩ := Fin.sum_univ_add (a := 64) (b := 64) f

/-- A sum over lanes of which the lower or the upper half is nought. -/
theorem sum_low (f b : Fin 128 → EReal) :
    (∑ x, f x * if x.val < 64 then b x else 0) = ∑ d : Fin 64, f ⟨d.val, by omega⟩ * b ⟨d.val, by omega⟩ := by
  rw [sum_halves]
  have h : ∑ d : Fin 64, f ⟨64 + d.val, by omega⟩ * (if 64 + d.val < 64 then b ⟨64 + d.val, by omega⟩ else 0) = 0 :=
    Finset.sum_eq_zero fun d _ => by rw [if_neg (by omega), mul_zero]
  dsimp only
  rw [h, add_zero]
  exact Finset.sum_congr rfl fun d _ => by rw [if_pos d.isLt]

theorem sum_high (f b : Fin 128 → EReal) :
    (∑ x, f x * if x.val < 64 then 0 else b x) = ∑ d : Fin 64, f ⟨64 + d.val, by omega⟩ * b ⟨64 + d.val, by omega⟩ := by
  rw [sum_halves]
  have h : ∑ d : Fin 64, f ⟨d.val, by omega⟩ * (if d.val < 64 then 0 else b ⟨d.val, by omega⟩) = 0 :=
    Finset.sum_eq_zero fun d _ => by rw [if_pos d.isLt, mul_zero]
  dsimp only
  rw [h, zero_add]
  exact Finset.sum_congr rfl fun d _ => by rw [if_neg (by omega)]

/-- A head's scores: its half of the lanes. -/
theorem scores_apply (qa qb kp kc : Vec Ideal S1x128x128 .bf16) (j : Fin 256) (q : Fin 128) (g : Fin 4) :
    scores qa qb kp kc (ix2 j (col g q))
      = ∑ d : Fin 64, (if h : j.val < 128 then kp (ix3 0 ⟨j.val, h⟩ ⟨64 * (g.val % 2) + d.val, by omega⟩)
          else kc (ix3 0 ⟨j.val - 128, by omega⟩ ⟨64 * (g.val % 2) + d.val, by omega⟩))
        * (if g.val < 2 then qa else qb) (ix3 0 q ⟨64 * (g.val % 2) + d.val, by omega⟩) := by
  pointwise [scores, k0_pay26, k0_pay25, k0_pay24, k0_pay2, col]
  simp only [select_lt]
  have e : ∀ x : Fin 128, _ := fun x => four g q (fun y => if x.val < 64 then qa (ix3 0 y x) else 0) (fun y => if x.val < 64 then 0 else qa (ix3 0 y x))
    (fun y => if x.val < 64 then qb (ix3 0 y x) else 0) (fun y => if x.val < 64 then 0 else qb (ix3 0 y x))
  refine (Finset.sum_congr rfl fun x _ => congrArg _ (e x)).trans ?_
  match g with
  | ⟨0, _⟩ =>
    refine (sum_low (fun x => if h : j.val < 128 then kp (ix3 0 ⟨j.val, h⟩ x) else kc (ix3 0 ⟨j.val - 128, by omega⟩ x)) fun x => qa (ix3 0 q x)).trans ?_
    refine Finset.sum_congr rfl fun d _ => ?_
    have : (⟨64 * (0 % 2) + d.val, by omega⟩ : Fin 128) = ⟨d.val, by omega⟩ := Fin.ext (by dsimp only; omega)
    dsimp only; rw [this]; rfl
  | ⟨1, _⟩ =>
    exact sum_high (fun x => if h : j.val < 128 then kp (ix3 0 ⟨j.val, h⟩ x) else kc (ix3 0 ⟨j.val - 128, by omega⟩ x)) fun x => qa (ix3 0 q x)
  | ⟨2, _⟩ =>
    refine (sum_low (fun x => if h : j.val < 128 then kp (ix3 0 ⟨j.val, h⟩ x) else kc (ix3 0 ⟨j.val - 128, by omega⟩ x)) fun x => qb (ix3 0 q x)).trans ?_
    refine Finset.sum_congr rfl fun d _ => ?_
    have : (⟨64 * (2 % 2) + d.val, by omega⟩ : Fin 128) = ⟨d.val, by omega⟩ := Fin.ext (by dsimp only; omega)
    dsimp only; rw [this]; rfl
  | ⟨3, _⟩ =>
    refine (sum_high (fun x => if h : j.val < 128 then kp (ix3 0 ⟨j.val, h⟩ x) else kc (ix3 0 ⟨j.val - 128, by omega⟩ x)) fun x => qb (ix3 0 q x)).trans ?_
    refine Finset.sum_congr rfl fun d _ => ?_
    rw [if_neg (show ¬ (3 : ℕ) < 2 by omega)]
    dsimp only

theorem folded_apply (n : ℕ) (s : FVec Ideal S256x512 .f32) (r q : Fin 128) (g : Fin 4) :
    folded n 0#32 s (ix2 r (col g q))
      = if r.val ≤ q.val then s (ix2 ⟨128 + r.val, by omega⟩ (col g q)) else if 0 < n then s (ix2 ⟨r.val, by omega⟩ (col g q)) else ⊥ := by
  match n with
  | 0 =>
    show k0_pay44 0#32 k0_pay3 s (ix2 r (col g q)) = _
    pointwise [k0_pay44]
    rw [pay3_apply, mask_bot]
    rfl
  | n + 1 =>
    show select k0_pay3 (extractStridedSlice S128x512 ![128, 0] s slices_S256x512_o128_0_S128x512)
      (extractStridedSlice S128x512 ![0, 0] s slices_S256x512_o0_0_S128x512) (ix2 r (col g q)) = _
    pointwise []
    rw [pay3_apply, if_pos (Nat.succ_pos n)]

theorem ofBits_bot : Ideal.ofBits .f32 0xFF800000#32 = ⊥ := by
  simp [Ideal.ofBits, Ideal.ieee]

/-- A column's quotient, of folded scores `x` and sink `t`: the window's values, each times its softmax weight. -/
theorem pay45_apply (a : FVec Ideal S128x512 .f32) (s : FVec Ideal S1x512 .f32) (f : FVec Ideal S128x512 .f32)
    (vp vc : Vec Ideal S1x1x64x128 .bf16) (d : Fin 64) (g : Fin 4) (q : Fin 128) (σ z : ℕ → ℝ) (c : ℝ)
    (hσ : ∀ j, σ j * Real.log 2 = z j + c) (v : ℕ → EReal) (n : ℕ)
    (hf : ∀ r : Fin 128, f (ix2 r (col g q)) + a (ix2 r (col g q)) = foldedScore σ n q.val r.val)
    (hs : s (ix2 0 (col g q)) = (σ 256 : EReal))
    (hp : ∀ r : Fin 128, vp (ix4 0 0 d r) = v r.val) (hc : ∀ r : Fin 128, vc (ix4 0 0 d r) = v (128 + r.val)) :
    k0_pay45 k0_pay3 a s f vp vc (ix2 d (col g q))
      = ∑ k ∈ near n q.val, v k * (Attention.soft z (seen n q.val) 0 k : EReal) := by
  refine Eq.trans ?_ (column σ z c hσ v n q.val q.isLt _ rfl)
  pointwise [k0_pay45]
  simp only [pay3_apply, hf, hs, hp, hc, ofBits_bot]
  rfl

theorem finish_apply (p : Fin 2) (a : FVec Ideal S128x512 .f32) (s : FVec Ideal S1x512 .f32) (f : FVec Ideal S128x512 .f32)
    (vp vc : Vec Ideal S1x1x64x128 .bf16) (w : Vec Ideal S1x128x128 .bf16) (q l : Fin 128) :
    finish p.val a s f vp vc w (ix2 q l)
      = k0_pay45 k0_pay3 a s f vp vc (ix2 ⟨l.val % 64, by omega⟩ (col ⟨2 * p.val + l.val / 64, by omega⟩ q)) * w (ix3 0 q l) := by
  have e : ∀ (c c' : Fin 512) (d d' : Fin 64), c = c' → d = d' →
      k0_pay45 k0_pay3 a s f vp vc (ix2 d c) = k0_pay45 k0_pay3 a s f vp vc (ix2 d' c') := by
    rintro c _ d _ rfl rfl; rfl
  match p with
  | ⟨0, _⟩ =>
    show k0_pay46 k0_pay3 a s f vp vc w (ix2 q l) = _
    pointwise [k0_pay46]
    by_cases h : l.val < 64
    · rw [dif_pos h]
      exact congrArg (· * _) (e _ _ _ _ (Fin.ext (by dsimp only [col]; omega)) (Fin.ext (by dsimp only; omega)))
    · rw [dif_neg h]
      exact congrArg (· * _) (e _ _ _ _ (Fin.ext (by dsimp only [col]; omega)) (Fin.ext (by dsimp only; omega)))
  | ⟨1, _⟩ =>
    show k0_pay49 (k0_pay47 k0_pay3 a s f vp vc) (k0_pay48 k0_pay3 a s f vp vc) w (ix2 q l) = _
    pointwise [k0_pay47, k0_pay48, k0_pay49]
    by_cases h : l.val < 64
    · rw [dif_pos h]
      exact congrArg (· * _) (e _ _ _ _ (Fin.ext (by dsimp only [col]; omega)) (Fin.ext (by dsimp only; omega)))
    · rw [dif_neg h]
      exact congrArg (· * _) (e _ _ _ _ (Fin.ext (by dsimp only [col]; omega)) (Fin.ext (by dsimp only; omega)))

end Cert.Window

end
-- ==== Proof.Window.Pieces.lean ====
/- What one grid point writes. Into its scratch: 64 tiles of 128 rows by 128 lanes, four pairs of heads for each of sixteen blocks of
   queries. Into its output: eight chunks of 256 rows. The lists the run found are these lists. -/
module

public import proofs.«01_k».proof.Proof.Gen.Kernel3Ideal.Value
public import proofs.«01_k».proof.Proof.Window.Tile

@[expose] public section

noncomputable section

namespace Cert.Window

open Cert.Kernel3Ideal Cert.Kernel3Ideal.Gen Idealize.ShloMosaic

variable {F : FTy → Type} [FloatOps F] [Named F]

/-- Where block `n`'s positions start, and the block before's (of the first block, its own). -/
def posOff (i : grid0.Coords) (n : ℕ) : Fin 4 → ℕ := k0_off1 i (BitVec.ofNat 32 (n % 16))
def posOffBefore (i : grid0.Coords) (n : ℕ) : Fin 4 → ℕ :=
  match n with
  | 0 => k0_off2 i
  | n + 1 => k0_off7 i (BitVec.ofNat 32 ((n + 1) % 16))

/-- Where block `n`'s keys of key head `h` start, and the block before's. -/
def keyOff (i : grid0.Coords) (n h : ℕ) : Fin 3 → ℕ :=
  match h with
  | 0 => k0_off4 i (BitVec.ofNat 32 (n % 16))
  | _ + 1 => k0_off6 i (BitVec.ofNat 32 (n % 16))
def keyOffBefore (i : grid0.Coords) (n h : ℕ) : Fin 3 → ℕ :=
  match n, h with
  | 0, 0 => k0_off3 i
  | 0, _ + 1 => k0_off5 i
  | n + 1, 0 => k0_off8 i (BitVec.ofNat 32 ((n + 1) % 16))
  | n + 1, _ + 1 => k0_off9 i (BitVec.ofNat 32 ((n + 1) % 16))

/-- Where block `n`'s values of key head `h` start, and the block before's. -/
def valOff (i : grid0.Coords) (n h : ℕ) : Fin 4 → ℕ :=
  match h with
  | 0 => k0_off11 i (BitVec.ofNat 32 (n % 16))
  | _ + 1 => k0_off13 i (BitVec.ofNat 32 (n % 16))
def valOffBefore (i : grid0.Coords) (n h : ℕ) : Fin 4 → ℕ :=
  match n, h with
  | 0, 0 => k0_off10 i
  | 0, _ + 1 => k0_off12 i
  | n + 1, 0 => k0_off14 i (BitVec.ofNat 32 ((n + 1) % 16))
  | n + 1, _ + 1 => k0_off15 i (BitVec.ofNat 32 ((n + 1) % 16))

theorem second_zero (i : grid0.Coords) : BitVec.ofNat 32 (i 1).val = 0#32 := by
  have h : (i 1).val < 1 := (i 1).isLt
  rw [show (i 1).val = 0 by omega]

theorem posOff_eq (i : grid0.Coords) (n : ℕ) : posOff i n = ![0, n % 16, 0, 0] := by
  have h : ∀ m : Fin 16, k0_off1 i (BitVec.ofNat 32 m.val) = ![0, m.val, 0, 0] := by
    simp only [k0_off1, second_zero]; decide +kernel
  exact h ⟨n % 16, Nat.mod_lt _ (by norm_num)⟩

theorem posOffBefore_eq (i : grid0.Coords) (n : ℕ) (hn : n < 16) : posOffBefore i n = ![0, n - 1, 0, 0] := by
  match n with
  | 0 => simp only [posOffBefore, k0_off2, second_zero]; decide +kernel
  | n + 1 =>
    have h : ∀ m : Fin 15, k0_off7 i (BitVec.ofNat 32 (m.val + 1)) = ![0, m.val, 0, 0] := by
      simp only [k0_off7, second_zero]; decide +kernel
    have := h ⟨n, by omega⟩
    show k0_off7 i (BitVec.ofNat 32 ((n + 1) % 16)) = _
    rw [Nat.mod_eq_of_lt hn]; exact this

theorem keyOff_eq (i : grid0.Coords) (n : ℕ) (h : Fin 2) : keyOff i n h.val = ![0, 128 * (n % 16), 128 * h.val] := by
  match h with
  | ⟨0, _⟩ =>
    have h : ∀ m : Fin 16, k0_off4 i (BitVec.ofNat 32 m.val) = ![0, 128 * m.val, 0] := by
      simp only [k0_off4, second_zero]; decide +kernel
    exact h ⟨n % 16, Nat.mod_lt _ (by norm_num)⟩
  | ⟨1, _⟩ =>
    have h : ∀ m : Fin 16, k0_off6 i (BitVec.ofNat 32 m.val) = ![0, 128 * m.val, 128] := by
      simp only [k0_off6, second_zero]; decide +kernel
    exact h ⟨n % 16, Nat.mod_lt _ (by norm_num)⟩

theorem keyOffBefore_eq (i : grid0.Coords) (n : ℕ) (hn : n < 16) (h : Fin 2) :
    keyOffBefore i n h.val = ![0, 128 * (n - 1), 128 * h.val] := by
  match n, h with
  | 0, ⟨0, _⟩ => simp only [keyOffBefore, k0_off3, second_zero]; decide +kernel
  | 0, ⟨1, _⟩ => simp only [keyOffBefore, k0_off5, second_zero]; decide +kernel
  | n + 1, ⟨0, _⟩ =>
    have h : ∀ m : Fin 15, k0_off8 i (BitVec.ofNat 32 (m.val + 1)) = ![0, 128 * m.val, 0] := by
      simp only [k0_off8, second_zero]; decide +kernel
    have := h ⟨n, by omega⟩
    show k0_off8 i (BitVec.ofNat 32 ((n + 1) % 16)) = _
    rw [Nat.mod_eq_of_lt hn]; exact this
  | n + 1, ⟨1, _⟩ =>
    have h : ∀ m : Fin 15, k0_off9 i (BitVec.ofNat 32 (m.val + 1)) = ![0, 128 * m.val, 128] := by
      simp only [k0_off9, second_zero]; decide +kernel
    have := h ⟨n, by omega⟩
    show k0_off9 i (BitVec.ofNat 32 ((n + 1) % 16)) = _
    rw [Nat.mod_eq_of_lt hn]; exact this

theorem valOff_eq (i : grid0.Coords) (n : ℕ) (h : Fin 2) : valOff i n h.val = ![0, n % 16, 64 * h.val, 0] := by
  match h with
  | ⟨0, _⟩ =>
    have h : ∀ m : Fin 16, k0_off11 i (BitVec.ofNat 32 m.val) = ![0, m.val, 0, 0] := by
      simp only [k0_off11, second_zero]; decide +kernel
    exact h ⟨n % 16, Nat.mod_lt _ (by norm_num)⟩
  | ⟨1, _⟩ =>
    have h : ∀ m : Fin 16, k0_off13 i (BitVec.ofNat 32 m.val) = ![0, m.val, 64, 0] := by
      simp only [k0_off13, second_zero]; decide +kernel
    exact h ⟨n % 16, Nat.mod_lt _ (by norm_num)⟩

theorem valOffBefore_eq (i : grid0.Coords) (n : ℕ) (hn : n < 16) (h : Fin 2) :
    valOffBefore i n h.val = ![0, n - 1, 64 * h.val, 0] := by
  match n, h with
  | 0, ⟨0, _⟩ => simp only [valOffBefore, k0_off10, second_zero]; decide +kernel
  | 0, ⟨1, _⟩ => simp only [valOffBefore, k0_off12, second_zero]; decide +kernel
  | n + 1, ⟨0, _⟩ =>
    have h : ∀ m : Fin 15, k0_off14 i (BitVec.ofNat 32 (m.val + 1)) = ![0, m.val, 0, 0] := by
      simp only [k0_off14, second_zero]; decide +kernel
    have := h ⟨n, by omega⟩
    show k0_off14 i (BitVec.ofNat 32 ((n + 1) % 16)) = _
    rw [Nat.mod_eq_of_lt hn]; exact this
  | n + 1, ⟨1, _⟩ =>
    have h : ∀ m : Fin 15, k0_off15 i (BitVec.ofNat 32 (m.val + 1)) = ![0, m.val, 64, 0] := by
      simp only [k0_off15, second_zero]; decide +kernel
    have := h ⟨n, by omega⟩
    show k0_off15 i (BitVec.ofNat 32 ((n + 1) % 16)) = _
    rw [Nat.mod_eq_of_lt hn]; exact this

theorem rows_inb (n u : ℕ) : ∀ a, ![0, 128 * (n % 16), 128 * (u % 4)] a + S1x128x128.size a ≤ S1x2048x512.size a := by
  intro a
  match a with
  | ⟨0, _⟩ => exact Nat.le_refl 1
  | ⟨1, _⟩ => show 128 * (n % 16) + 128 ≤ 2048; omega
  | ⟨2, _⟩ => show 128 * (u % 4) + 128 ≤ 512; omega

theorem scratch_inb (n u : ℕ) : ∀ a, ![128 * (n % 16), 128 * (u % 4)] a + S128x128.size a ≤ S2048x512.size a := by
  intro a
  match a with
  | ⟨0, _⟩ => show 128 * (n % 16) + 128 ≤ 2048; omega
  | ⟨1, _⟩ => show 128 * (u % 4) + 128 ≤ 512; omega

theorem chunk_inb (r : ℕ) : ∀ a, ![256 * (r % 8), 0] a + S256x512.size a ≤ S2048x512.size a := by
  intro a
  match a with
  | ⟨0, _⟩ => show 256 * (r % 8) + 256 ≤ 2048; omega
  | ⟨1, _⟩ => exact Nat.le_refl 512

theorem chunkRows_inb (r : ℕ) : ∀ a, ![0, 256 * (r % 8), 0] a + S1x256x512.size a ≤ S1x2048x512.size a := by
  intro a
  match a with
  | ⟨0, _⟩ => exact Nat.le_refl 1
  | ⟨1, _⟩ => show 256 * (r % 8) + 256 ≤ 2048; omega
  | ⟨2, _⟩ => exact Nat.le_refl 512

theorem chunkOut_inb (r : ℕ) : ∀ a, ![0, 256 * (r % 8), 0] a + S1x256x1024.size a ≤ S1x2048x1024.size a := by
  intro a
  match a with
  | ⟨0, _⟩ => exact Nat.le_refl 1
  | ⟨1, _⟩ => show 256 * (r % 8) + 256 ≤ 2048; omega
  | ⟨2, _⟩ => exact Nat.le_refl 1024

theorem sink_inb (h : ℕ) : ∀ a, ![h % 8] a + S1.size a ≤ S8.size a := by
  intro a
  match a with
  | ⟨0, _⟩ => show h % 8 + 1 ≤ 8; omega

theorem pos_inb (i : grid0.Coords) (n : ℕ) : ∀ a, posOff i n a + S1x1x1x128.size a ≤ S1x16x1x128.size a := by
  rw [posOff_eq]
  intro a
  match a with
  | ⟨0, _⟩ => exact Nat.le_refl 1
  | ⟨1, _⟩ => show n % 16 + 1 ≤ 16; omega
  | ⟨2, _⟩ => exact Nat.le_refl 1
  | ⟨3, _⟩ => exact Nat.le_refl 128

theorem posBefore_inb (i : grid0.Coords) (n : ℕ) : ∀ a, posOffBefore i (n % 16) a + S1x1x1x128.size a ≤ S1x16x1x128.size a := by
  rw [posOffBefore_eq _ _ (Nat.mod_lt _ (by norm_num))]
  intro a
  match a with
  | ⟨0, _⟩ => exact Nat.le_refl 1
  | ⟨1, _⟩ => show n % 16 - 1 + 1 ≤ 16; omega
  | ⟨2, _⟩ => exact Nat.le_refl 1
  | ⟨3, _⟩ => exact Nat.le_refl 128

theorem key_inb (i : grid0.Coords) (n h : ℕ) : ∀ a, keyOff i n (h % 2) a + S1x128x128.size a ≤ S1x2048x256.size a := by
  rw [keyOff_eq i n ⟨h % 2, Nat.mod_lt _ (by norm_num)⟩]
  intro a
  match a with
  | ⟨0, _⟩ => exact Nat.le_refl 1
  | ⟨1, _⟩ => show 128 * (n % 16) + 128 ≤ 2048; omega
  | ⟨2, _⟩ => show 128 * (h % 2) + 128 ≤ 256; omega

theorem keyBefore_inb (i : grid0.Coords) (n h : ℕ) : ∀ a, keyOffBefore i (n % 16) (h % 2) a + S1x128x128.size a ≤ S1x2048x256.size a := by
  rw [keyOffBefore_eq i _ (Nat.mod_lt _ (by norm_num)) ⟨h % 2, Nat.mod_lt _ (by norm_num)⟩]
  intro a
  match a with
  | ⟨0, _⟩ => exact Nat.le_refl 1
  | ⟨1, _⟩ => show 128 * (n % 16 - 1) + 128 ≤ 2048; omega
  | ⟨2, _⟩ => show 128 * (h % 2) + 128 ≤ 256; omega

theorem val_inb (i : grid0.Coords) (n h : ℕ) : ∀ a, valOff i n (h % 2) a + S1x1x64x128.size a ≤ S1x16x128x128.size a := by
  rw [valOff_eq i n ⟨h % 2, Nat.mod_lt _ (by norm_num)⟩]
  intro a
  match a with
  | ⟨0, _⟩ => exact Nat.le_refl 1
  | ⟨1, _⟩ => show n % 16 + 1 ≤ 16; omega
  | ⟨2, _⟩ => show 64 * (h % 2) + 64 ≤ 128; omega
  | ⟨3, _⟩ => exact Nat.le_refl 128

theorem valBefore_inb (i : grid0.Coords) (n h : ℕ) : ∀ a, valOffBefore i (n % 16) (h % 2) a + S1x1x64x128.size a ≤ S1x16x128x128.size a := by
  rw [valOffBefore_eq i _ (Nat.mod_lt _ (by norm_num)) ⟨h % 2, Nat.mod_lt _ (by norm_num)⟩]
  intro a
  match a with
  | ⟨0, _⟩ => exact Nat.le_refl 1
  | ⟨1, _⟩ => show n % 16 - 1 + 1 ≤ 16; omega
  | ⟨2, _⟩ => show 64 * (h % 2) + 64 ≤ 128; omega
  | ⟨3, _⟩ => exact Nat.le_refl 128

/-- Head `h`'s sink. -/
def sinkAt (M : Memref sig .tc .smem S8 .f32) (hM : M.IsWhole) (x : Vec F S8 .f32) (h : ℕ) : Elt F .f32 :=
  View.readAt (Elt F) M.view (Rect.unit (s := S8) ![h % 8] S1.size (sink_inb h)).toLoadRect (hM.unread x)
    (Shape.Idx.first (numel1_S1.symm ▸ Nat.one_pos))

/-- Block `n`'s positions, and the block before's. -/
def posAt (i : grid0.Coords) (M : Memref sig .tc .vmem S1x16x1x128 .f32) (hM : M.IsWhole) (x : Vec F S1x16x1x128 .f32) (n : ℕ) :
    Vec F S1x1x1x128 .f32 :=
  View.readAt (Elt F) M.view (Rect.unit (s := S1x16x1x128) (posOff i n) S1x1x1x128.size (pos_inb i n)).toLoadRect (hM.unread x)
def posBefore (i : grid0.Coords) (M : Memref sig .tc .vmem S1x16x1x128 .f32) (hM : M.IsWhole) (x : Vec F S1x16x1x128 .f32) (n : ℕ) :
    Vec F S1x1x1x128 .f32 :=
  View.readAt (Elt F) M.view (Rect.unit (s := S1x16x1x128) (posOffBefore i (n % 16)) S1x1x1x128.size (posBefore_inb i n)).toLoadRect
    (hM.unread x)

/-- Block `n`'s keys, and the block before's. -/
def keyAt (i : grid0.Coords) (M : Memref sig .tc .vmem S1x2048x256 .bf16) (hM : M.IsWhole) (x : Vec F S1x2048x256 .bf16) (n h : ℕ) :
    Vec F S1x128x128 .bf16 :=
  View.readAt (Elt F) M.view (Rect.unit (s := S1x2048x256) (keyOff i n (h % 2)) S1x128x128.size (key_inb i n h)).toLoadRect (hM.unread x)
def keyBefore (i : grid0.Coords) (M : Memref sig .tc .vmem S1x2048x256 .bf16) (hM : M.IsWhole) (x : Vec F S1x2048x256 .bf16) (n h : ℕ) :
    Vec F S1x128x128 .bf16 :=
  View.readAt (Elt F) M.view
    (Rect.unit (s := S1x2048x256) (keyOffBefore i (n % 16) (h % 2)) S1x128x128.size (keyBefore_inb i n h)).toLoadRect (hM.unread x)

/-- Block `n`'s values, and the block before's. -/
def valAt (i : grid0.Coords) (M : Memref sig .tc .vmem S1x16x128x128 .bf16) (hM : M.IsWhole) (x : Vec F S1x16x128x128 .bf16) (n h : ℕ) :
    Vec F S1x1x64x128 .bf16 :=
  View.readAt (Elt F) M.view (Rect.unit (s := S1x16x128x128) (valOff i n (h % 2)) S1x1x64x128.size (val_inb i n h)).toLoadRect (hM.unread x)
def valBefore (i : grid0.Coords) (M : Memref sig .tc .vmem S1x16x128x128 .bf16) (hM : M.IsWhole) (x : Vec F S1x16x128x128 .bf16) (n h : ℕ) :
    Vec F S1x1x64x128 .bf16 :=
  View.readAt (Elt F) M.view
    (Rect.unit (s := S1x16x128x128) (valOffBefore i (n % 16) (h % 2)) S1x1x64x128.size (valBefore_inb i n h)).toLoadRect (hM.unread x)

/-- Block `n`'s rows of queries or gates, the lanes of pair `u`. -/
def rowsAt (M : Memref sig .tc .vmem S1x2048x512 .bf16) (hM : M.IsWhole) (x : Vec F S1x2048x512 .bf16) (n u : ℕ) : Vec F S1x128x128 .bf16 :=
  View.readAt (Elt F) M.view (Rect.unit (s := S1x2048x512) ![0, 128 * (n % 16), 128 * (u % 4)] S1x128x128.size (rows_inb n u)).toLoadRect
    (hM.unread x)

section
variable (c : Dev nD) (i : grid0.Coords)
  (arg2 : Memref sig .tc .smem S8 .f32) (harg2 : arg2.IsWhole) (arg3 : Memref sig .tc .vmem S1x2048x512 .bf16) (harg3 : arg3.IsWhole) (arg4
    : Memref sig .tc .vmem S1x2048x256 .bf16) (harg4 : arg4.IsWhole) (arg5 : Memref sig .tc .vmem S1x16x128x128 .bf16) (harg5 :
    arg5.IsWhole) (arg6 : Memref sig .tc .vmem S1x2048x512 .bf16) (harg6 : arg6.IsWhole) (arg7 : Memref sig .tc .vmem S1x16x1x128 .f32)
    (harg7 : arg7.IsWhole) (arg8 : Memref sig .tc .vmem S1x2048x512 .bf16) (harg8 : arg8.IsWhole) (arg9 : Memref sig .tc .vmem S1x2048x1024
    .f32) (harg9 : arg9.IsWhole) (arg10 : Memref sig .tc .vmem S1x3x1024 .f32) (harg10 : arg10.IsWhole) (arg11 : Memref sig .tc .vmem
    S512x1024 .bf16) (harg11 : arg11.IsWhole) (arg12 : Memref sig .tc .vmem S512x1024 .bf16) (harg12 : arg12.IsWhole) (arg13 : Memref sig
    .tc .vmem S1x1024 .f32) (harg13 : arg13.IsWhole) (arg14 : Memref sig .tc .vmem S1x2048x1024 .f32) (harg14 : arg14.IsWhole) (arg15 :
    Memref sig .tc .vmem S2048x512 .bf16) (harg15 : arg15.IsWhole)
  (x0 : Vec F S8 .f32) (x1 : Vec F S1x2048x512 .bf16) (x2 : Vec F S1x2048x256 .bf16) (x3 : Vec F S1x16x128x128 .bf16) (x4 : Vec F
    S1x2048x512 .bf16) (x5 : Vec F S1x16x1x128 .f32) (x6 : Vec F S1x2048x512 .bf16) (x7 : Vec F S1x2048x1024 .f32) (x8 : Vec F S1x3x1024
    .f32) (x9 : Vec F S512x1024 .bf16) (x10 : Vec F S512x1024 .bf16) (x11 : Vec F S1x1024 .f32)

/-- The tile of block `n` and pair `u` of heads. -/
def tile (n u : ℕ) : FVec F S128x128 .bf16 :=
  finish (u % 2) (slant (u / 2) (posAt i arg7 harg7 x5 n) (posBefore i arg7 harg7 x5 n))
    (sinkRow (u / 2) (posAt i arg7 harg7 x5 n) (posBefore i arg7 harg7 x5 n) (sinkAt arg2 harg2 x0))
    (folded n (BitVec.ofNat 32 (i 1).val)
      (scores (rowsAt arg3 harg3 x1 n (2 * (u / 2))) (rowsAt arg3 harg3 x1 n (2 * (u / 2) + 1)) (keyBefore i arg4 harg4 x2 n (u / 2))
        (keyAt i arg4 harg4 x2 n (u / 2))))
    (valBefore i arg5 harg5 x3 n (u / 2)) (valAt i arg5 harg5 x3 n (u / 2)) (rowsAt arg6 harg6 x4 n u)

/-- The tile with where it is written. -/
def piece (n u : ℕ) : View.Piece (Elt F) S2048x512 .bf16 :=
  ⟨Rect.unit (s := S2048x512) ![128 * (n % 16), 128 * (u % 4)] S128x128.size (scratch_inb n u),
    tile i arg2 harg2 arg3 harg3 arg4 harg4 arg5 harg5 arg6 harg6 arg7 harg7 x0 x1 x2 x3 x4 x5 n u⟩

/-- All tiles' numbers, the last written first. -/
def tiles : List (ℕ × ℕ) :=
  [(15, 3), (15, 2), (15, 1), (15, 0), (14, 3), (14, 2), (14, 1), (14, 0), (13, 3), (13, 2), (13, 1), (13, 0), (12, 3), (12, 2), (12, 1), (12, 0), (11, 3), (11, 2), (11, 1), (11, 0), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

set_option maxRecDepth 100000 in
set_option maxHeartbeats 8000000 in
/-- The writes into the scratch that the run found are the 64 tiles. -/
theorem scratch_pieces : (kernelRun0_A c i
  arg2 harg2 arg3 harg3 arg4 harg4 arg5 harg5 arg6 harg6 arg7 harg7 arg8 harg8 arg9 harg9 arg10 harg10 arg11 harg11 arg12 harg12 arg13
    harg13 arg14 harg14 arg15 harg15 x0 x1 x2 x3 x4 x5 x6 x7 x8 x9 x10 x11).2.1
    = tiles.map fun p => piece i arg2 harg2 arg3 harg3 arg4 harg4 arg5 harg5 arg6 harg6 arg7 harg7 x0 x1 x2 x3 x4 x5 p.1 p.2 := by
  rfl

/-- Chunk `r` of 256 rows of the scratch, after all tiles. -/
def scratchRows (r : ℕ) : Vec F S256x512 .bf16 :=
  arg15.view.readCov (kernelRun0_A c i
    arg2 harg2 arg3 harg3 arg4 harg4 arg5 harg5 arg6 harg6 arg7 harg7 arg8 harg8 arg9 harg9 arg10 harg10 arg11 harg11 arg12 harg12 arg13
      harg13 arg14 harg14 arg15 harg15 x0 x1 x2 x3 x4 x5 x6 x7 x8 x9 x10 x11).2.1
    (Rect.unit (s := S2048x512) ![256 * (r % 8), 0] S256x512.size (chunk_inb r)).toLoadRect

/-- The result's chunk `r`. -/
def chunk (r : ℕ) : Vec F S1x256x1024 .f32 :=
  k0_pay538
    (k0_pay537 (View.readAt (Elt F) arg10.view
      (Rect.unit (s := S1x3x1024) ![0, 0, 0] S1x3x1024.size inb_S1x3x1024_S1x3x1024_0_0_0).toLoadRect (harg10.unread x8)))
    (View.readAt (Elt F) arg8.view (Rect.unit (s := S1x2048x512) ![0, 256 * (r % 8), 0] S1x256x512.size (chunkRows_inb r)).toLoadRect
      (harg8.unread x6))
    (View.readAt (Elt F) arg11.view (Rect.unit (s := S512x1024) ![0, 0] S512x1024.size inb_S512x1024_S512x1024_0_0).toLoadRect
      (harg11.unread x9))
    (scratchRows c i
    arg2 harg2 arg3 harg3 arg4 harg4 arg5 harg5 arg6 harg6 arg7 harg7 arg8 harg8 arg9 harg9 arg10 harg10 arg11 harg11 arg12 harg12 arg13
      harg13 arg14 harg14 arg15 harg15 x0 x1 x2 x3 x4 x5 x6 x7 x8 x9 x10 x11 r)
    (View.readAt (Elt F) arg12.view (Rect.unit (s := S512x1024) ![0, 0] S512x1024.size inb_S512x1024_S512x1024_0_0).toLoadRect
      (harg12.unread x10))
    (View.readAt (Elt F) arg9.view (Rect.unit (s := S1x2048x1024) ![0, 256 * (r % 8), 0] S1x256x1024.size (chunkOut_inb r)).toLoadRect
      (harg9.unread x7))
    (View.readAt (Elt F) arg13.view (Rect.unit (s := S1x1024) ![0, 0] S1x1024.size inb_S1x1024_S1x1024_0_0).toLoadRect
      (harg13.unread x11))

/-- The chunk with where it is written. -/
def chunkPiece (r : ℕ) : View.Piece (Elt F) S1x2048x1024 .f32 :=
  ⟨Rect.unit (s := S1x2048x1024) ![0, 256 * (r % 8), 0] S1x256x1024.size (chunkOut_inb r),
    chunk c i
    arg2 harg2 arg3 harg3 arg4 harg4 arg5 harg5 arg6 harg6 arg7 harg7 arg8 harg8 arg9 harg9 arg10 harg10 arg11 harg11 arg12 harg12 arg13
      harg13 arg14 harg14 arg15 harg15 x0 x1 x2 x3 x4 x5 x6 x7 x8 x9 x10 x11 r⟩

set_option maxRecDepth 100000 in
set_option maxHeartbeats 8000000 in
/-- The writes into the output that the run found are the eight chunks. -/
theorem out_pieces : (kernelRun0_A c i
    arg2 harg2 arg3 harg3 arg4 harg4 arg5 harg5 arg6 harg6 arg7 harg7 arg8 harg8 arg9 harg9 arg10 harg10 arg11 harg11 arg12 harg12 arg13
      harg13 arg14 harg14 arg15 harg15 x0 x1 x2 x3 x4 x5 x6 x7 x8 x9 x10 x11).1
    = [7, 6, 5, 4, 3, 2, 1, 0].map fun r => chunkPiece c i
    arg2 harg2 arg3 harg3 arg4 harg4 arg5 harg5 arg6 harg6 arg7 harg7 arg8 harg8 arg9 harg9 arg10 harg10 arg11 harg11 arg12 harg12 arg13
      harg13 arg14 harg14 arg15 harg15 x0 x1 x2 x3 x4 x5 x6 x7 x8 x9 x10 x11 r := by
  rfl

end

end Cert.Window

end
-- ==== Proof.Window.Block.lean ====
/- What one tile of the window's grid point holds, at an index: the gated attention of one block of queries and one pair of heads. -/
module

public import proofs.«01_k».proof.Proof.Window.Pieces
public import proofs.«01_k».proof.Proof.Window.Spec
public import Idealize.ShloMosaic.Lib.WholeRead
public import Idealize.ShloMosaic.Lib.IdealHost
public import Idealize.ShloMosaic.Lib.Pointwise

@[expose] public section

noncomputable section

namespace Cert.Window

open Cert.Kernel3Ideal Cert.Kernel3Ideal.Gen Idealize.ShloMosaic Cert.Attention

/-- The lane of the keys at lane `l` of the array that holds every key head twice. -/
def keyLane (l : Fin 256) : Fin 128 := ⟨64 * (l.val / 128) + l.val % 64, by omega⟩

/-- The lane of a row of 512 at lane `l` of pair `u` of heads. -/
def pairLane (u : Fin 4) (l : Fin 128) : Fin 512 := ⟨128 * u.val + l.val, by omega⟩

section loads
variable (i : grid0.Coords)

theorem sinkAt_apply (M : Memref sig .tc .smem S8 .f32) (hM : M.IsWhole) (x : Vec Ideal S8 .f32) (h : Fin 8) :
    sinkAt M hM x h.val = x (ix1 h) := by
  unfold sinkAt
  rw [Memref.IsWhole.readAt_unread]
  refine congrArg x (funext fun a => Fin.ext ?_)
  match a with
  | ⟨0, _⟩ => show h.val % 8 + 1 * 0 = h.val; omega

theorem posAt_apply (M : Memref sig .tc .vmem S1x16x1x128 .f32) (hM : M.IsWhole) (x : Vec Ideal S1x16x1x128 .f32) (n : Fin 16) (r : Fin 128) :
    posAt i M hM x n.val (ix4 0 0 0 r) = x (ix4 0 n 0 r) := by
  unfold posAt
  rw [Memref.IsWhole.readAt_unread]
  have h := fun a => congrFun (posOff_eq i n.val) a
  refine congrArg x (funext fun a => Fin.ext ?_)
  match a with
  | ⟨0, _⟩ => show posOff i n.val 0 + 1 * 0 = 0; rw [h 0]; rfl
  | ⟨1, _⟩ => show posOff i n.val 1 + 1 * 0 = n.val; rw [h 1]; show n.val % 16 + 1 * 0 = n.val; omega
  | ⟨2, _⟩ => show posOff i n.val 2 + 1 * 0 = 0; rw [h 2]; rfl
  | ⟨3, _⟩ => show posOff i n.val 3 + 1 * r.val = r.val; rw [h 3]; show 0 + 1 * r.val = r.val; omega

theorem posBefore_apply (M : Memref sig .tc .vmem S1x16x1x128 .f32) (hM : M.IsWhole) (x : Vec Ideal S1x16x1x128 .f32) (n : Fin 16)
    (r : Fin 128) : posBefore i M hM x n.val (ix4 0 0 0 r) = x (ix4 0 ⟨n.val - 1, by omega⟩ 0 r) := by
  unfold posBefore
  rw [Memref.IsWhole.readAt_unread]
  have h := fun a => congrFun (posOffBefore_eq i (n.val % 16) (Nat.mod_lt _ (by norm_num))) a
  refine congrArg x (funext fun a => Fin.ext ?_)
  match a with
  | ⟨0, _⟩ => show posOffBefore i (n.val % 16) 0 + 1 * 0 = 0; rw [h 0]; rfl
  | ⟨1, _⟩ =>
    show posOffBefore i (n.val % 16) 1 + 1 * 0 = n.val - 1
    rw [h 1]; show n.val % 16 - 1 + 1 * 0 = n.val - 1; omega
  | ⟨2, _⟩ => show posOffBefore i (n.val % 16) 2 + 1 * 0 = 0; rw [h 2]; rfl
  | ⟨3, _⟩ => show posOffBefore i (n.val % 16) 3 + 1 * r.val = r.val; rw [h 3]; show 0 + 1 * r.val = r.val; omega

theorem keyAt_apply (M : Memref sig .tc .vmem S1x2048x256 .bf16) (hM : M.IsWhole) (x : Vec Ideal S1x2048x256 .bf16) (n : Fin 16)
    (h : Fin 2) (r l : Fin 128) :
    keyAt i M hM x n.val h.val (ix3 0 r l) = x (ix3 0 ⟨128 * n.val + r.val, by omega⟩ ⟨128 * h.val + l.val, by omega⟩) := by
  unfold keyAt
  rw [Memref.IsWhole.readAt_unread]
  have e := fun a => congrFun (keyOff_eq i n.val ⟨h.val % 2, Nat.mod_lt _ (by norm_num)⟩) a
  refine congrArg x (funext fun a => Fin.ext ?_)
  match a with
  | ⟨0, _⟩ => show keyOff i n.val (h.val % 2) 0 + 1 * 0 = 0; rw [e 0]; rfl
  | ⟨1, _⟩ =>
    show keyOff i n.val (h.val % 2) 1 + 1 * r.val = 128 * n.val + r.val
    rw [e 1]; show 128 * (n.val % 16) + 1 * r.val = 128 * n.val + r.val; omega
  | ⟨2, _⟩ =>
    show keyOff i n.val (h.val % 2) 2 + 1 * l.val = 128 * h.val + l.val
    rw [e 2]; show 128 * (h.val % 2) + 1 * l.val = 128 * h.val + l.val; omega

theorem keyBefore_apply (M : Memref sig .tc .vmem S1x2048x256 .bf16) (hM : M.IsWhole) (x : Vec Ideal S1x2048x256 .bf16) (n : Fin 16)
    (h : Fin 2) (r l : Fin 128) :
    keyBefore i M hM x n.val h.val (ix3 0 r l)
      = x (ix3 0 ⟨128 * (n.val - 1) + r.val, by omega⟩ ⟨128 * h.val + l.val, by omega⟩) := by
  unfold keyBefore
  rw [Memref.IsWhole.readAt_unread]
  have e := fun a => congrFun (keyOffBefore_eq i (n.val % 16) (Nat.mod_lt _ (by norm_num)) ⟨h.val % 2, Nat.mod_lt _ (by norm_num)⟩) a
  refine congrArg x (funext fun a => Fin.ext ?_)
  match a with
  | ⟨0, _⟩ => show keyOffBefore i (n.val % 16) (h.val % 2) 0 + 1 * 0 = 0; rw [e 0]; rfl
  | ⟨1, _⟩ =>
    show keyOffBefore i (n.val % 16) (h.val % 2) 1 + 1 * r.val = 128 * (n.val - 1) + r.val
    rw [e 1]; show 128 * (n.val % 16 - 1) + 1 * r.val = 128 * (n.val - 1) + r.val; omega
  | ⟨2, _⟩ =>
    show keyOffBefore i (n.val % 16) (h.val % 2) 2 + 1 * l.val = 128 * h.val + l.val
    rw [e 2]; show 128 * (h.val % 2) + 1 * l.val = 128 * h.val + l.val; omega

theorem valAt_apply (M : Memref sig .tc .vmem S1x16x128x128 .bf16) (hM : M.IsWhole) (x : Vec Ideal S1x16x128x128 .bf16) (n : Fin 16)
    (h : Fin 2) (d : Fin 64) (r : Fin 128) :
    valAt i M hM x n.val h.val (ix4 0 0 d r) = x (ix4 0 n ⟨64 * h.val + d.val, by omega⟩ r) := by
  unfold valAt
  rw [Memref.IsWhole.readAt_unread]
  have e := fun a => congrFun (valOff_eq i n.val ⟨h.val % 2, Nat.mod_lt _ (by norm_num)⟩) a
  refine congrArg x (funext fun a => Fin.ext ?_)
  match a with
  | ⟨0, _⟩ => show valOff i n.val (h.val % 2) 0 + 1 * 0 = 0; rw [e 0]; rfl
  | ⟨1, _⟩ => show valOff i n.val (h.val % 2) 1 + 1 * 0 = n.val; rw [e 1]; show n.val % 16 + 1 * 0 = n.val; omega
  | ⟨2, _⟩ =>
    show valOff i n.val (h.val % 2) 2 + 1 * d.val = 64 * h.val + d.val
    rw [e 2]; show 64 * (h.val % 2) + 1 * d.val = 64 * h.val + d.val; omega
  | ⟨3, _⟩ => show valOff i n.val (h.val % 2) 3 + 1 * r.val = r.val; rw [e 3]; show 0 + 1 * r.val = r.val; omega

theorem valBefore_apply (M : Memref sig .tc .vmem S1x16x128x128 .bf16) (hM : M.IsWhole) (x : Vec Ideal S1x16x128x128 .bf16) (n : Fin 16)
    (h : Fin 2) (d : Fin 64) (r : Fin 128) :
    valBefore i M hM x n.val h.val (ix4 0 0 d r) = x (ix4 0 ⟨n.val - 1, by omega⟩ ⟨64 * h.val + d.val, by omega⟩ r) := by
  unfold valBefore
  rw [Memref.IsWhole.readAt_unread]
  have e := fun a => congrFun (valOffBefore_eq i (n.val % 16) (Nat.mod_lt _ (by norm_num)) ⟨h.val % 2, Nat.mod_lt _ (by norm_num)⟩) a
  refine congrArg x (funext fun a => Fin.ext ?_)
  match a with
  | ⟨0, _⟩ => show valOffBefore i (n.val % 16) (h.val % 2) 0 + 1 * 0 = 0; rw [e 0]; rfl
  | ⟨1, _⟩ =>
    show valOffBefore i (n.val % 16) (h.val % 2) 1 + 1 * 0 = n.val - 1
    rw [e 1]; show n.val % 16 - 1 + 1 * 0 = n.val - 1; omega
  | ⟨2, _⟩ =>
    show valOffBefore i (n.val % 16) (h.val % 2) 2 + 1 * d.val = 64 * h.val + d.val
    rw [e 2]; show 64 * (h.val % 2) + 1 * d.val = 64 * h.val + d.val; omega
  | ⟨3, _⟩ => show valOffBefore i (n.val % 16) (h.val % 2) 3 + 1 * r.val = r.val; rw [e 3]; show 0 + 1 * r.val = r.val; omega

theorem rowsAt_apply (M : Memref sig .tc .vmem S1x2048x512 .bf16) (hM : M.IsWhole) (x : Vec Ideal S1x2048x512 .bf16) (n : Fin 16) (u : ℕ)
    (hu : u < 4) (r l : Fin 128) :
    rowsAt M hM x n.val u (ix3 0 r l) = x (ix3 0 (rowOf n r) ⟨128 * u + l.val, by omega⟩) := by
  unfold rowsAt
  rw [Memref.IsWhole.readAt_unread]
  refine congrArg x (funext fun a => Fin.ext ?_)
  match a with
  | ⟨0, _⟩ => rfl
  | ⟨1, _⟩ => show 128 * (n.val % 16) + 1 * r.val = 128 * n.val + r.val; omega
  | ⟨2, _⟩ => show 128 * (u % 4) + 1 * l.val = 128 * u + l.val; omega

end loads

section
variable (i : grid0.Coords) (arg2 : Memref sig .tc .smem S8 .f32) (harg2 : arg2.IsWhole)
  (arg3 : Memref sig .tc .vmem S1x2048x512 .bf16) (harg3 : arg3.IsWhole) (arg4 : Memref sig .tc .vmem S1x2048x256 .bf16) (harg4 : arg4.IsWhole)
  (arg5 : Memref sig .tc .vmem S1x16x128x128 .bf16) (harg5 : arg5.IsWhole) (arg6 : Memref sig .tc .vmem S1x2048x512 .bf16)
  (harg6 : arg6.IsWhole) (arg7 : Memref sig .tc .vmem S1x16x1x128 .f32) (harg7 : arg7.IsWhole)
  (x0 : Vec Ideal S8 .f32) (x1 : Vec Ideal S1x2048x512 .bf16) (x2 : Vec Ideal S1x2048x256 .bf16) (x3 : Vec Ideal S1x16x128x128 .bf16)
  (x4 : Vec Ideal S1x2048x512 .bf16) (x5 : Vec Ideal S1x16x1x128 .f32)
  (s : Fin 8 → ℝ) (q : Fin 2048 → Fin 512 → ℝ) (k : Fin 2048 → Fin 128 → ℝ) (p : Fin 2048 → ℝ)
  (v : Fin 2048 → Fin 128 → EReal) (w : Fin 2048 → Fin 512 → EReal)
  (h0 : ∀ h, x0 (ix1 h) = (s h : EReal)) (h1 : ∀ t l, x1 (ix3 0 t l) = ((q t l / (8 * Real.log 2) : ℝ) : EReal))
  (h2 : ∀ t (l : Fin 256), x2 (ix3 0 t l) = (k t (keyLane l) : EReal))
  (h3 : ∀ n d r, x3 (ix4 0 n d r) = v (rowOf n r) d) (h4 : ∀ t l, x4 (ix3 0 t l) = w t l)
  (h5 : ∀ n r, x5 (ix4 0 n 0 r) = (p (rowOf n r) : EReal))

/-- The kernel's score, in units of `log 2`, moved by the query's distance from the band's first key. -/
def moved (n : Fin 16) (r : Fin 128) (h : Fin 8) (j : ℕ) : ℝ :=
  if j = 256 then s h * (Real.log 2)⁻¹ + slope h.val * (p (rowOf n r) - p (keyOf n.val 0))
  else (∑ d : Fin 64, k (keyOf n.val j) ⟨64 * (h.val / 4) + d.val, by omega⟩
      * (q (rowOf n r) ⟨64 * h.val + d.val, by omega⟩ / (8 * Real.log 2))) + slope h.val * (p (keyOf n.val j) - p (keyOf n.val 0))

theorem moved_eq (n : Fin 16) (r : Fin 128) (h : Fin 8) (j : ℕ) :
    moved s q k p n r h j * Real.log 2
      = score s q k p n r h j + (2 ^ (h.val + 1))⁻¹ * (p (rowOf n r) - p (keyOf n.val 0)) := by
  have hl : Real.log 2 ≠ 0 := (Real.log_pos one_lt_two).ne'
  have hw : (2 : ℝ) ^ (h.val + 1) ≠ 0 := by positivity
  unfold moved score slope
  by_cases hj : j = 256
  · rw [if_pos hj, if_pos hj]
    field_simp
  · rw [if_neg hj, if_neg hj]
    simp only [mul_div_assoc', ← Finset.sum_div]
    generalize (∑ d : Fin 64, k (keyOf n.val j) ⟨64 * (h.val / 4) + d.val, _⟩ * q (rowOf n r) ⟨64 * h.val + d.val, _⟩) = S
    field_simp
    ring

include h1 h2

theorem scores_eq (n : Fin 16) (kv : Fin 2) (g : Fin 4) (j : Fin 256) (r : Fin 128) :
    scores (rowsAt arg3 harg3 x1 n.val (2 * kv.val)) (rowsAt arg3 harg3 x1 n.val (2 * kv.val + 1))
        (keyBefore i arg4 harg4 x2 n.val kv.val) (keyAt i arg4 harg4 x2 n.val kv.val) (ix2 j (col g r))
      = ((∑ d : Fin 64, k (keyOf n.val j.val) ⟨64 * ((headOf kv g).val / 4) + d.val, by have := (headOf kv g).isLt; omega⟩
          * (q (rowOf n r) ⟨64 * (headOf kv g).val + d.val, by have := (headOf kv g).isLt; omega⟩ / (8 * Real.log 2)) : ℝ) : EReal) := by
  rw [scores_apply, coe_sum]
  refine Finset.sum_congr rfl fun d _ => ?_
  rw [EReal.coe_mul]
  have hh : (headOf kv g).val = 4 * kv.val + g.val := rfl
  refine congrArg₂ (· * ·) ?_ ?_
  · by_cases hj : j.val < 128
    · rw [dif_pos hj, keyBefore_apply, h2, keyOf_before n j.val hj]
      exact congrArg (fun l => (k _ l : EReal)) (Fin.ext (by unfold keyLane; dsimp only; omega))
    · rw [dif_neg hj, keyAt_apply, h2, keyOf_own n j.val (by omega) j.isLt]
      exact congrArg (fun l => (k _ l : EReal)) (Fin.ext (by unfold keyLane; dsimp only; omega))
  · by_cases hg : g.val < 2
    · rw [if_pos hg, rowsAt_apply _ _ _ _ _ (by omega), h1]
      exact congrArg (fun l => ((q _ l / (8 * Real.log 2) : ℝ) : EReal)) (Fin.ext (by dsimp only; omega))
    · rw [if_neg hg, rowsAt_apply _ _ _ _ _ (by omega), h1]
      exact congrArg (fun l => ((q _ l / (8 * Real.log 2) : ℝ) : EReal)) (Fin.ext (by dsimp only; omega))

include h5

omit h1 h2 in
theorem pos_first (n : Fin 16) : posBefore i arg7 harg7 x5 n.val (ix4 0 0 0 0) = (p (keyOf n.val 0) : EReal) := by
  rw [posBefore_apply, h5, keyOf_before n 0 (by norm_num)]
  rfl

/-- The folded row of scores with the distances added. -/
theorem folded_eq (n : Fin 16) (kv : Fin 2) (g : Fin 4) (r c : Fin 128) :
    folded n.val 0#32 (scores (rowsAt arg3 harg3 x1 n.val (2 * kv.val)) (rowsAt arg3 harg3 x1 n.val (2 * kv.val + 1))
        (keyBefore i arg4 harg4 x2 n.val kv.val) (keyAt i arg4 harg4 x2 n.val kv.val)) (ix2 r (col g c))
      + slant kv.val (posAt i arg7 harg7 x5 n.val) (posBefore i arg7 harg7 x5 n.val) (ix2 r (col g c))
    = foldedScore (moved s q k p n c (headOf kv g)) n.val c.val r.val := by
  have hh : (headOf kv g).val = 4 * kv.val + g.val := rfl
  rw [folded_apply, slant_apply, pay7_apply, pos_first i arg7 harg7 x5 p h5]
  unfold foldedScore
  by_cases hr : r.val ≤ c.val
  · rw [if_pos hr, if_pos hr, if_pos hr, scores_eq i arg3 harg3 arg4 harg4 x1 x2 q k h1 h2, posAt_apply, h5, ← EReal.coe_sub,
      ← EReal.coe_mul, ← EReal.coe_add]
    unfold moved
    rw [if_neg (by omega)]
    dsimp only
    have e : rowOf n r = keyOf n.val (128 + r.val) := by
      rw [keyOf_own n _ (by omega) (by omega)]; exact Fin.ext (by unfold rowOf; dsimp only; omega)
    rw [e, ← hh]
  · rw [if_neg hr, if_neg hr, if_neg hr]
    by_cases hn : 0 < n.val
    · rw [if_pos hn, if_pos hn, scores_eq i arg3 harg3 arg4 harg4 x1 x2 q k h1 h2, posBefore_apply, h5, ← EReal.coe_sub,
        ← EReal.coe_mul, ← EReal.coe_add]
      unfold moved
      rw [if_neg (by omega)]
      dsimp only
      have e : rowOf ⟨n.val - 1, by omega⟩ r = keyOf n.val r.val := by rw [keyOf_before n _ r.isLt]; rfl
      rw [e, ← hh]
    · rw [if_neg hn, if_neg hn, EReal.bot_add]

include h0 h3 h4

/-- The tile of block `n` and pair `u` of heads, at an index. -/
theorem tile_apply (n : Fin 16) (u : Fin 4) (c l : Fin 128) :
    tile i arg2 harg2 arg3 harg3 arg4 harg4 arg5 harg5 arg6 harg6 arg7 harg7 x0 x1 x2 x3 x4 x5 n.val u.val (ix2 c l)
      = gated (score s q k p) v w (rowOf n c) (pairLane u l) := by
  show _ = gated (score s q k p) v w (rowOf n c) ⟨128 * u.val + l.val, by omega⟩
  unfold tile
  rw [second_zero]
  refine (finish_apply ⟨u.val % 2, Nat.mod_lt _ (by norm_num)⟩ _ _ _ _ _ _ c l).trans ?_
  obtain ⟨kv, hkv⟩ : ∃ kv : Fin 2, kv.val = u.val / 2 := ⟨⟨u.val / 2, by omega⟩, rfl⟩
  obtain ⟨g, hg⟩ : ∃ g : Fin 4, g = ⟨2 * (u.val % 2) + l.val / 64, by omega⟩ := ⟨_, rfl⟩
  have hgv : g.val = 2 * (u.val % 2) + l.val / 64 := congrArg Fin.val hg
  have hh : (headOf kv g).val = 4 * kv.val + g.val := rfl
  unfold gated
  refine congrArg₂ (· * ·) ?_ ?_
  · have e1 : (⟨(rowOf n c).val / 128, by have := (rowOf n c).isLt; omega⟩ : Fin 16) = n :=
      Fin.ext (show (128 * n.val + c.val) / 128 = n.val by omega)
    have e2 : (⟨(rowOf n c).val % 128, by omega⟩ : Fin 128) = c := Fin.ext (show (128 * n.val + c.val) % 128 = c.val by omega)
    have e3 : (⟨(128 * u.val + l.val) / 64, by omega⟩ : Fin 8) = headOf kv g := Fin.ext (by rw [hh]; dsimp only; omega)
    have e4 : (rowOf n c).val / 128 = n.val := show (128 * n.val + c.val) / 128 = n.val by omega
    have e5 : (rowOf n c).val % 128 = c.val := show (128 * n.val + c.val) % 128 = c.val by omega
    dsimp only
    rw [e1, e2, e3, e4, e5, ← hg, ← hkv]
    unfold mixed
    refine pay45_apply _ _ _ _ _ ⟨l.val % 64, by omega⟩ g c (moved s q k p n c (headOf kv g)) (score s q k p n c (headOf kv g)) _
      (moved_eq s q k p n c (headOf kv g))
      (fun j => v (keyOf n.val j) ⟨64 * ((128 * u.val + l.val) / 256) + (128 * u.val + l.val) % 64, by omega⟩) n.val
      (fun r => folded_eq i arg3 harg3 arg4 harg4 arg7 harg7 x1 x2 x5 s q k p h1 h2 h5 n kv g r c) ?_ ?_ ?_
    · rw [sinkRow_apply, pay8_apply, pos_first i arg7 harg7 x5 p h5, posAt_apply, h5, ← hh, sinkAt_apply, h0, ← EReal.coe_sub,
        ← EReal.coe_mul, ← EReal.coe_mul, ← EReal.coe_add]
      unfold moved
      rw [if_pos rfl]
    · intro r
      rw [valBefore_apply, h3, keyOf_before n _ r.isLt]
      exact congrArg (v _) (Fin.ext (by dsimp only; omega))
    · intro r
      rw [valAt_apply, h3, keyOf_own n _ (by omega) (by omega)]
      exact congrArg₂ v (Fin.ext (by unfold rowOf; dsimp only; omega)) (Fin.ext (by dsimp only; omega))
  · rw [rowsAt_apply _ _ _ _ _ u.isLt, h4]

end

end Cert.Window

end
-- ==== Proof.Window.Output.lean ====
/- What one grid point of the window's kernel leaves, at an index: its scratch holds the gated attention of every row, and its output
   that array and the other attention's, each times its output weights, added to the input through the modulation and normed. -/
module

public import proofs.«01_k».proof.Proof.Window.Block

@[expose] public section

noncomputable section

namespace Cert.Window

open Cert.Kernel3Ideal Cert.Kernel3Ideal.Gen Idealize.ShloMosaic

/-- The last step's arithmetic, at an index. -/
theorem last_apply (a : Vec Ideal S1x3x1024 .f32) (b : Vec Ideal S1x256x512 .bf16) (c : Vec Ideal S512x1024 .bf16)
    (d : Vec Ideal S256x512 .bf16) (e : Vec Ideal S512x1024 .bf16) (f : Vec Ideal S1x256x1024 .f32) (g : Vec Ideal S1x1024 .f32)
    (t : Fin 256) (l : Fin 1024) :
    k0_pay538 (k0_pay537 a) b c d e f g (ix3 0 t l)
      = normed (summed (fun l => f (ix3 0 t l)) (fun l => a (ix3 0 2 l)) (fun j => b (ix3 0 t j)) (fun j => d (ix2 t j))
          (fun j l => c (ix2 j l)) (fun j l => e (ix2 j l))) (fun l => g (ix2 0 l)) l := by
  pointwise [k0_pay538, k0_pay537]
  rfl

theorem tiles_lt : ∀ p ∈ tiles, p.1 < 16 ∧ p.2 < 4 := by decide +kernel

theorem tiles_all : ∀ (n : Fin 16) (u : Fin 4), (n.val, u.val) ∈ tiles := by decide +kernel

section
variable (c : Dev nD) (i : grid0.Coords)
  (arg2 : Memref sig .tc .smem S8 .f32) (harg2 : arg2.IsWhole) (arg3 : Memref sig .tc .vmem S1x2048x512 .bf16) (harg3 : arg3.IsWhole)
  (arg4 : Memref sig .tc .vmem S1x2048x256 .bf16) (harg4 : arg4.IsWhole) (arg5 : Memref sig .tc .vmem S1x16x128x128 .bf16)
  (harg5 : arg5.IsWhole) (arg6 : Memref sig .tc .vmem S1x2048x512 .bf16) (harg6 : arg6.IsWhole)
  (arg7 : Memref sig .tc .vmem S1x16x1x128 .f32) (harg7 : arg7.IsWhole) (arg8 : Memref sig .tc .vmem S1x2048x512 .bf16)
  (harg8 : arg8.IsWhole) (arg9 : Memref sig .tc .vmem S1x2048x1024 .f32) (harg9 : arg9.IsWhole)
  (arg10 : Memref sig .tc .vmem S1x3x1024 .f32) (harg10 : arg10.IsWhole) (arg11 : Memref sig .tc .vmem S512x1024 .bf16)
  (harg11 : arg11.IsWhole) (arg12 : Memref sig .tc .vmem S512x1024 .bf16) (harg12 : arg12.IsWhole)
  (arg13 : Memref sig .tc .vmem S1x1024 .f32) (harg13 : arg13.IsWhole) (arg14 : Memref sig .tc .vmem S1x2048x1024 .f32)
  (harg14 : arg14.IsWhole) (arg15 : Memref sig .tc .vmem S2048x512 .bf16) (harg15 : arg15.IsWhole)
  (x0 : Vec Ideal S8 .f32) (x1 : Vec Ideal S1x2048x512 .bf16) (x2 : Vec Ideal S1x2048x256 .bf16) (x3 : Vec Ideal S1x16x128x128 .bf16)
  (x4 : Vec Ideal S1x2048x512 .bf16) (x5 : Vec Ideal S1x16x1x128 .f32) (x6 : Vec Ideal S1x2048x512 .bf16)
  (x7 : Vec Ideal S1x2048x1024 .f32) (x8 : Vec Ideal S1x3x1024 .f32) (x9 : Vec Ideal S512x1024 .bf16)
  (x10 : Vec Ideal S512x1024 .bf16) (x11 : Vec Ideal S1x1024 .f32)
  (s : Fin 8 → ℝ) (q : Fin 2048 → Fin 512 → ℝ) (k : Fin 2048 → Fin 128 → ℝ) (p : Fin 2048 → ℝ)
  (v : Fin 2048 → Fin 128 → EReal) (w : Fin 2048 → Fin 512 → EReal)
  (h0 : ∀ h, x0 (ix1 h) = (s h : EReal)) (h1 : ∀ t l, x1 (ix3 0 t l) = ((q t l / (8 * Real.log 2) : ℝ) : EReal))
  (h2 : ∀ t (l : Fin 256), x2 (ix3 0 t l) = (k t (keyLane l) : EReal))
  (h3 : ∀ n d r, x3 (ix4 0 n d r) = v (rowOf n r) d) (h4 : ∀ t l, x4 (ix3 0 t l) = w t l)
  (h5 : ∀ n r, x5 (ix4 0 n 0 r) = (p (rowOf n r) : EReal))

include h0 h1 h2 h3 h4 h5

theorem piece_apply (n : Fin 16) (u : Fin 4) (y : S128x128.Idx) :
    tile i arg2 harg2 arg3 harg3 arg4 harg4 arg5 harg5 arg6 harg6 arg7 harg7
          x0 x1 x2 x3 x4 x5 n.val u.val y
      = (fun y : S2048x512.Idx => gated (score s q k p) v w (y 0) (y 1))
          ((Rect.unit (s := S2048x512) ![128 * (n.val % 16), 128 * (u.val % 4)] S128x128.size (scratch_inb n.val u.val)).emb y) := by
  have l0 : (y 0).val < 128 := (y 0).isLt
  have l1 : (y 1).val < 128 := (y 1).isLt
  refine (congrArg (tile i arg2 harg2 arg3 harg3 arg4 harg4 arg5 harg5 arg6 harg6 arg7 harg7
          x0 x1 x2 x3 x4 x5 n.val u.val)
    (eq_ix2 (n0 := 128) (n1 := 128) y)).trans ((tile_apply i arg2 harg2 arg3 harg3 arg4 harg4 arg5 harg5 arg6 harg6 arg7 harg7
          x0 x1 x2 x3 x4 x5
          s q k p v w h0 h1 h2 h3 h4 h5 n u (y 0) (y 1)).trans ?_)
  refine congrArg₂ (gated (score s q k p) v w) (Fin.ext ?_) (Fin.ext ?_)
  · show 128 * n.val + (y 0).val = 128 * (n.val % 16) + 1 * (y 0).val; omega
  · show 128 * u.val + (y 1).val = 128 * (u.val % 4) + 1 * (y 1).val; omega

/-- A chunk of the scratch, at an index. -/
theorem scratchRows_apply (r : ℕ) (hr : r < 8) (t : Fin 256) (l : Fin 512) :
    scratchRows c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11 r (ix2 t l)
      = gated (score s q k p) v w ⟨256 * r + t.val, by omega⟩ l := by
  unfold scratchRows
  rw [View.readCov_eq_canon', scratch_pieces]
  have key := View.canon_apply_of_pieces (Val := Elt Ideal) (e := .bf16)
    (fun y : S2048x512.Idx => gated (score s q k p) v w (y 0) (y 1))
    (tiles.map fun a => piece i arg2 harg2 arg3 harg3 arg4 harg4 arg5 harg5 arg6 harg6 arg7 harg7
          x0 x1 x2 x3 x4 x5 a.1 a.2)
    (by
      intro P hP y
      obtain ⟨⟨n, u⟩, hmem, rfl⟩ := List.mem_map.mp hP
      obtain ⟨hn, hu⟩ := tiles_lt _ hmem
      exact piece_apply i arg2 harg2 arg3 harg3 arg4 harg4 arg5 harg5 arg6 harg6 arg7 harg7
          x0 x1 x2 x3 x4 x5
            s q k p v w h0 h1 h2 h3 h4 h5 ⟨n, hn⟩ ⟨u, hu⟩ y)
    (ix2 ⟨256 * r + t.val, by omega⟩ l)
    (by
      refine ⟨_, List.mem_map_of_mem (tiles_all ⟨(256 * r + t.val) / 128, by omega⟩ ⟨l.val / 128, by omega⟩), ?_⟩
      show _ ∈ (Rect.unit (s := S2048x512) ![128 * ((256 * r + t.val) / 128 % 16), 128 * (l.val / 128 % 4)] S128x128.size
        (scratch_inb _ _)).set
      rw [Rect.mem_set_unit]
      intro a
      match a with
      | ⟨0, _⟩ =>
        show 128 * ((256 * r + t.val) / 128 % 16) ≤ 256 * r + t.val ∧ 256 * r + t.val < 128 * ((256 * r + t.val) / 128 % 16) + 128
        omega
      | ⟨1, _⟩ => show 128 * (l.val / 128 % 4) ≤ l.val ∧ l.val < 128 * (l.val / 128 % 4) + 128; omega)
  refine Eq.trans (congrArg _ ?_) key
  refine funext fun a => Fin.ext ?_
  match a with
  | ⟨0, _⟩ => show 256 * (r % 8) + 1 * t.val = 256 * r + t.val; omega
  | ⟨1, _⟩ => show 0 + 1 * l.val = l.val; omega

/-- A chunk of the output, at an index. -/
theorem chunk_apply (r : ℕ) (hr : r < 8) (t : Fin 256) (l : Fin 1024) :
    chunk c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11 r (ix3 0 t l)
      = normed (summed (fun l => x7 (ix3 0 ⟨256 * r + t.val, by omega⟩ l)) (fun l => x8 (ix3 0 2 l))
          (fun j => x6 (ix3 0 ⟨256 * r + t.val, by omega⟩ j)) (gated (score s q k p) v w ⟨256 * r + t.val, by omega⟩)
          (fun j l => x9 (ix2 j l)) (fun j l => x10 (ix2 j l))) (fun l => x11 (ix2 0 l)) l := by
  unfold chunk
  rw [last_apply]
  have e7 : ∀ l : Fin 1024, View.readAt (Elt Ideal) arg9.view (Rect.unit (s := S1x2048x1024) ![0, 256 * (r % 8), 0] S1x256x1024.size
      (chunkOut_inb r)).toLoadRect (harg9.unread x7) (ix3 0 t l) = x7 (ix3 0 ⟨256 * r + t.val, by omega⟩ l) := fun l => by
    rw [Memref.IsWhole.readAt_unread]
    refine congrArg x7 (funext fun a => Fin.ext ?_)
    match a with
    | ⟨0, _⟩ => rfl
    | ⟨1, _⟩ => show 256 * (r % 8) + 1 * t.val = 256 * r + t.val; omega
    | ⟨2, _⟩ => show 0 + 1 * l.val = l.val; omega
  have e6 : ∀ l : Fin 512, View.readAt (Elt Ideal) arg8.view (Rect.unit (s := S1x2048x512) ![0, 256 * (r % 8), 0] S1x256x512.size
      (chunkRows_inb r)).toLoadRect (harg8.unread x6) (ix3 0 t l) = x6 (ix3 0 ⟨256 * r + t.val, by omega⟩ l) := fun l => by
    rw [Memref.IsWhole.readAt_unread]
    refine congrArg x6 (funext fun a => Fin.ext ?_)
    match a with
    | ⟨0, _⟩ => rfl
    | ⟨1, _⟩ => show 256 * (r % 8) + 1 * t.val = 256 * r + t.val; omega
    | ⟨2, _⟩ => show 0 + 1 * l.val = l.val; omega
  have e8 : ∀ l : Fin 1024, View.readAt (Elt Ideal) arg10.view (Rect.unit (s := S1x3x1024) ![0, 0, 0] S1x3x1024.size
      inb_S1x3x1024_S1x3x1024_0_0_0).toLoadRect (harg10.unread x8) (ix3 0 2 l) = x8 (ix3 0 2 l) := fun l => by
    rw [Memref.IsWhole.readAt_unread]
    refine congrArg x8 (funext fun a => Fin.ext ?_)
    match a with
    | ⟨0, _⟩ => rfl
    | ⟨1, _⟩ => rfl
    | ⟨2, _⟩ => show 0 + 1 * l.val = l.val; omega
  have whole : ∀ (M : Memref sig .tc .vmem S512x1024 .bf16) (hM : M.IsWhole) (x : Vec Ideal S512x1024 .bf16) (j : Fin 512) (l : Fin 1024),
      View.readAt (Elt Ideal) M.view (Rect.unit (s := S512x1024) ![0, 0] S512x1024.size inb_S512x1024_S512x1024_0_0).toLoadRect
        (hM.unread x) (ix2 j l) = x (ix2 j l) := fun M hM x j l => by
    rw [Memref.IsWhole.readAt_unread]
    refine congrArg x (funext fun a => Fin.ext ?_)
    match a with
    | ⟨0, _⟩ => show 0 + 1 * j.val = j.val; omega
    | ⟨1, _⟩ => show 0 + 1 * l.val = l.val; omega
  have e11 : ∀ l : Fin 1024, View.readAt (Elt Ideal) arg13.view (Rect.unit (s := S1x1024) ![0, 0] S1x1024.size
      inb_S1x1024_S1x1024_0_0).toLoadRect (harg13.unread x11) (ix2 0 l) = x11 (ix2 0 l) := fun l => by
    rw [Memref.IsWhole.readAt_unread]
    refine congrArg x11 (funext fun a => Fin.ext ?_)
    match a with
    | ⟨0, _⟩ => rfl
    | ⟨1, _⟩ => show 0 + 1 * l.val = l.val; omega
  have eg : ∀ j : Fin 512, scratchRows c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11 r (ix2 t j)
      = gated (score s q k p) v w ⟨256 * r + t.val, by omega⟩ j := fun j =>
    scratchRows_apply c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11
          s q k p v w h0 h1 h2 h3 h4 h5 r hr t j
  simp only [e7, e6, e8, whole, e11, eg]

/-- The block a grid point leaves, at an index. -/
theorem out_apply (t : Fin 2048) (l : Fin 1024) :
    out0_A_12 c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11 (ix3 0 t l)
      = normed (summed (fun l => x7 (ix3 0 t l)) (fun l => x8 (ix3 0 2 l))
          (fun j => x6 (ix3 0 t j)) (gated (score s q k p) v w t)
          (fun j l => x9 (ix2 j l)) (fun j l => x10 (ix2 j l))) (fun l => x11 (ix2 0 l)) l := by
  unfold out0_A_12
  rw [View.read_writes_junk_eq_canon, out_pieces]
  refine View.canon_apply_of_pieces (Val := Elt Ideal) (e := .f32)
    (fun y : S1x2048x1024.Idx => normed (summed (fun l => x7 (ix3 0 (y 1) l)) (fun l => x8 (ix3 0 2 l))
          (fun j => x6 (ix3 0 (y 1) j)) (gated (score s q k p) v w (y 1))
          (fun j l => x9 (ix2 j l)) (fun j l => x10 (ix2 j l))) (fun l => x11 (ix2 0 l)) (y 2)) _ ?_ (ix3 0 t l) ?_
  · intro P hP y
    obtain ⟨r, hmem, rfl⟩ := List.mem_map.mp hP
    have hr : r < 8 := by
      have hb : ∀ r ∈ [7, 6, 5, 4, 3, 2, 1, 0], r < 8 := by decide
      exact hb r hmem
    have y0 : (y 0).val = 0 := by have := (y 0).isLt; change (y 0).val < 1 at this; omega
    have l1 : (y 1).val < 256 := (y 1).isLt
    have e : y = ix3 (n0 := 1) (n1 := 256) (n2 := 1024) 0 (y 1) (y 2) :=
      (eq_ix3 (n0 := 1) (n1 := 256) (n2 := 1024) y).trans (by congr 1; exact Fin.ext y0)
    refine (congrArg (chunk c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11 r) e).trans ((chunk_apply
      c i arg2 harg2 arg3 harg3 arg4 harg4 arg5 harg5 arg6 harg6 arg7 harg7 arg8 harg8 arg9 harg9 arg10 harg10 arg11 harg11
          arg12 harg12 arg13 harg13 arg14 harg14 arg15 harg15 x0 x1 x2 x3 x4 x5 x6 x7 x8 x9 x10 x11
          s q k p v w h0 h1 h2 h3 h4 h5 r hr (y 1) (y 2)).trans ?_)
    have e1 : (⟨256 * r + (y 1).val, by omega⟩ : Fin 2048) = ((Rect.unit (s := S1x2048x1024) ![0, 256 * (r % 8), 0] S1x256x1024.size
        (chunkOut_inb r)).emb y 1) := Fin.ext (by show 256 * r + (y 1).val = 256 * (r % 8) + 1 * (y 1).val; omega)
    have e2 : (y 2 : Fin 1024) = ((Rect.unit (s := S1x2048x1024) ![0, 256 * (r % 8), 0] S1x256x1024.size
        (chunkOut_inb r)).emb y 2) := Fin.ext (by show (y 2).val = 0 + 1 * (y 2).val; omega)
    exact congrArg₂ (fun (t : Fin 2048) (l : Fin 1024) => normed (summed (fun l => x7 (ix3 0 t l)) (fun l => x8 (ix3 0 2 l))
          (fun j => x6 (ix3 0 t j)) (gated (score s q k p) v w t)
          (fun j l => x9 (ix2 j l)) (fun j l => x10 (ix2 j l))) (fun l => x11 (ix2 0 l)) l) e1 e2
  · have ha : ∀ r : Fin 8, r.val ∈ [7, 6, 5, 4, 3, 2, 1, 0] := by decide
    refine ⟨_, List.mem_map_of_mem (ha ⟨t.val / 256, by omega⟩), ?_⟩
    show _ ∈ (Rect.unit (s := S1x2048x1024) ![0, 256 * (t.val / 256 % 8), 0] S1x256x1024.size (chunkOut_inb _)).set
    rw [Rect.mem_set_unit]
    intro a
    match a with
    | ⟨0, _⟩ => exact ⟨Nat.le_refl 0, Nat.one_pos⟩
    | ⟨1, _⟩ => show 256 * (t.val / 256 % 8) ≤ t.val ∧ t.val < 256 * (t.val / 256 % 8) + 256; omega
    | ⟨2, _⟩ => show 0 ≤ l.val ∧ l.val < 0 + 1024; omega

end

end Cert.Window

end
-- ==== Proof.Window.Host.lean ====
/- What the host lines before the window's kernel hand to it, and the blocks a grid point reads of it, at an index. -/
module

public import proofs.«01_k».proof.Proof.Gen.Kernel3Ideal.Value
public import proofs.«01_k».proof.Proof.Window.Spec
public import Idealize.ShloMosaic.Lib.StableHlo.ReadAt
public import Idealize.ShloMosaic.Lib.Pointwise

@[expose] public section

noncomputable section

namespace Cert.Window

open Cert.Kernel3Ideal Cert.Kernel3Ideal.Gen Idealize.ShloMosaic Idealize.ShloMosaic.TcCoe Idealize.ShloMosaic.StableHlo Idealize.SL.Sem
open Cert.Kernel3Ideal.Facts₀

variable (m : (ℓ : Loc nD τ sig) → Buf (Elt Ideal) ℓ) (c : Dev nD)

theorem sinks_read (h : Fin 8) : V m c main_v10 (ix1 h) = m ((c : Thread nD τ).loc main_arg0) (ix2 0 h) := by
  unfold V
  after_reads_at

theorem queries_read (b : Fin 32) (t : Fin 2048) (l : Fin 512) : V m c main_v13 (ix3 b t l)
    = Ideal.div (m ((c : Thread nD τ).loc main_arg1) (ix3 b t l))
      (Ideal.sqrt (Ideal.ofBits .f32 0x42800000#32) * Ideal.log (Ideal.ofBits .f32 0x40000000#32)) := by
  unfold V
  after_reads_at
  repeat after_reads_at

theorem keys_read (b : Fin 32) (t : Fin 2048) (l : Fin 256) : V m c main_v15 (ix3 b t l)
    = m ((c : Thread nD τ).loc main_arg2) (ix3 b t ⟨64 * (l.val / 128) + l.val % 64, by omega⟩) := by
  unfold V
  after_reads_at
  repeat after_reads_at
  refine congrArg (m ((c : Thread nD τ).loc main_arg2)) ?_
  first
    | rfl
    | exact congrArg (ix3 b t) (Fin.ext (by dsimp only; omega))

theorem values_read (b : Fin 32) (n : Fin 16) (d r : Fin 128) : V m c main_v16 (ix4 b n d r)
    = m ((c : Thread nD τ).loc main_arg3) (ix3 b (rowOf n r) d) := by
  unfold V
  after_reads_at
  repeat after_reads_at
  refine congrArg (m ((c : Thread nD τ).loc main_arg3)) ?_
  exact congrArg (fun t => ix3 b t d) (Fin.ext (by unfold rowOf; dsimp only; omega))

theorem gates_read (b : Fin 32) (t : Fin 2048) (l : Fin 512) :
    V m c main_v17 (ix3 b t l) = m ((c : Thread nD τ).loc main_arg4) (ix3 b t l) := by
  unfold V
  after_reads_at

theorem positions_read (b : Fin 32) (n : Fin 16) (r : Fin 128) : V m c main_v18 (ix4 b n 0 r)
    = (((m ((c : Thread nD τ).loc main_arg5) (ix2 b (rowOf n r)) : BitVec 32).toInt : ℝ) : EReal) := by
  unfold V
  after_reads_at
  repeat after_reads_at
  refine congrArg (fun w : BitVec 32 => ((w.toInt : ℝ) : EReal)) (congrArg (m ((c : Thread nD τ).loc main_arg5)) ?_)
  exact congrArg (ix2 b) (Fin.ext (by unfold rowOf; dsimp only; omega))

theorem attention_read (b : Fin 32) (t : Fin 2048) (l : Fin 512) :
    V m c main_v19 (ix3 b t l) = m ((c : Thread nD τ).loc main_arg6) (ix3 b t l) := by
  unfold V
  after_reads_at

theorem input_read (j : S32x2048x1024.Idx) : V m c main_arg7 j = m ((c : Thread nD τ).loc main_arg7) j := by
  unfold V
  after_reads_at

theorem modulation_read (b : Fin 32) (r : Fin 3) (l : Fin 1024) : V m c main_v20 (ix3 b r l)
    = m ((c : Thread nD τ).loc main_arg8) (ix2 b ⟨1024 * r.val + l.val, by omega⟩) := by
  unfold V
  after_reads_at
  repeat after_reads_at
  refine congrArg (m ((c : Thread nD τ).loc main_arg8)) ?_
  exact congrArg (ix2 b) (Fin.ext (by dsimp only; omega))

theorem upper_read (d : Fin 512) (l : Fin 1024) : V m c main_v21 (ix2 d l)
    = m ((c : Thread nD τ).loc main_arg9) (ix3 0 ⟨d.val, by omega⟩ l) := by
  unfold V
  after_reads_at
  repeat after_reads_at

theorem lower_read (d : Fin 512) (l : Fin 1024) : V m c main_v22 (ix2 d l)
    = m ((c : Thread nD τ).loc main_arg9) (ix3 0 ⟨512 + d.val, by omega⟩ l) := by
  unfold V
  after_reads_at
  repeat after_reads_at

theorem gain_read (l : Fin 1024) : V m c main_v23 (ix2 0 l) = m ((c : Thread nD τ).loc main_arg10) (ix1 l) := by
  unfold V
  after_reads_at

end Cert.Window

end
-- ==== Proof.Window.Result.lean ====
/- The window kernel's result array, at every index: the layer's result at that batch, row and lane. -/
module

public import proofs.«01_k».proof.Proof.Window.Output
public import proofs.«01_k».proof.Proof.Window.Host
public import proofs.«01_k».proof.Proof.Window.RefScore

@[expose] public section

noncomputable section

namespace Cert.Window

open Cert.Kernel3Ideal Cert.Kernel3Ideal.Gen Idealize.ShloMosaic Idealize.ShloMosaic.TcCoe Idealize.SL.Sem

/-- The root of the heads' width, 64, times `log 2`. -/
theorem scale_real : Ideal.sqrt (Ideal.ofBits .f32 0x42800000#32) * Ideal.log (Ideal.ofBits .f32 0x40000000#32)
    = ((8 * Real.log 2 : ℝ) : EReal) := by
  have h2 : Ideal.ofBits .f32 0x40000000#32 = ((2 : ℝ) : EReal) := by
    simp [Ideal.ofBits, Ideal.ieee]; rw [← EReal.coe_mul]; norm_num
  have h64 : Ideal.ofBits .f32 0x42800000#32 = ((64 : ℝ) : EReal) := by
    simp [Ideal.ofBits, Ideal.ieee]; rw [← EReal.coe_mul]; norm_num
  have h8 : Real.sqrt 64 = 8 := by rw [show (64 : ℝ) = 8 ^ 2 by norm_num]; exact Real.sqrt_sq (by norm_num)
  rw [h64, h2, Ideal.sqrt_coe, if_neg (by norm_num), Ideal.log_coe, if_neg (by norm_num), h8, EReal.coe_mul]

theorem scale_pos : 0 < 8 * Real.log 2 := mul_pos (by norm_num) (Real.log_pos one_lt_two)

/-! ## The blocks of a grid point -/

theorem index0 : ∀ t : Fin cfg0.N, win0_0.index t = ![0] :=
  (by decide +kernel : ∀ t : Fin grid0.N, win0_0.index t = ![0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![t.val, 0, 0] :=
  (by decide +kernel : ∀ t : Fin grid0.N, win0_2.index t = ![t.val, 0, 0])
theorem index3 : ∀ t : Fin cfg0.N, win0_3.index t = ![t.val, 0, 0, 0] :=
  (by decide +kernel : ∀ t : Fin grid0.N, win0_3.index t = ![t.val, 0, 0, 0])
theorem index4 : ∀ t : Fin cfg0.N, win0_4.index t = ![t.val, 0, 0] :=
  (by decide +kernel : ∀ t : Fin grid0.N, win0_4.index t = ![t.val, 0, 0])
theorem index5 : ∀ t : Fin cfg0.N, win0_5.index t = ![t.val, 0, 0, 0] :=
  (by decide +kernel : ∀ t : Fin grid0.N, win0_5.index t = ![t.val, 0, 0, 0])
theorem index6 : ∀ t : Fin cfg0.N, win0_6.index t = ![t.val, 0, 0] :=
  (by decide +kernel : ∀ t : Fin grid0.N, win0_6.index t = ![t.val, 0, 0])
theorem index7 : ∀ t : Fin cfg0.N, win0_7.index t = ![t.val, 0, 0] :=
  (by decide +kernel : ∀ t : Fin grid0.N, win0_7.index t = ![t.val, 0, 0])
theorem index8 : ∀ t : Fin cfg0.N, win0_8.index t = ![t.val, 0, 0] :=
  (by decide +kernel : ∀ t : Fin grid0.N, win0_8.index t = ![t.val, 0, 0])
theorem index9 : ∀ t : Fin cfg0.N, win0_9.index t = ![0, 0] :=
  (by decide +kernel : ∀ t : Fin grid0.N, win0_9.index t = ![0, 0])
theorem index10 : ∀ t : Fin cfg0.N, win0_10.index t = ![0, 0] :=
  (by decide +kernel : ∀ t : Fin grid0.N, win0_10.index t = ![0, 0])
theorem index11 : ∀ t : Fin cfg0.N, win0_11.index t = ![0, 0] :=
  (by decide +kernel : ∀ t : Fin grid0.N, win0_11.index t = ![0, 0])
theorem index12 : ∀ t : Fin cfg0.N, win0_12.index t = ![t.val, 0, 0] :=
  (by decide +kernel : ∀ t : Fin grid0.N, win0_12.index t = ![t.val, 0, 0])

theorem point_lt (t : Fin cfg0.N) : t.val < 32 := by have := t.isLt; have h : cfg0.N = 32 := N_0; omega

section
variable (m : (ℓ : Loc nD τ sig) → Buf (Elt Ideal) ℓ) (c : Dev nD) (t : Fin cfg0.N)

theorem block0 (h : Fin 8) : iblk m c 0 t (ix1 h) = V m c main_v10 (ix1 h) := by
  refine congrArg (V m c main_v10) (funext fun a => Fin.ext ?_)
  match a with
  | ⟨0, _⟩ => show win0_0.index t 0 * 8 + 1 * h.val = h.val; rw [index0]; show 0 * 8 + 1 * h.val = _; omega

theorem block1 (r : Fin 2048) (l : Fin 512) : iblk m c 1 t (ix3 0 r l) = V m c main_v13 (ix3 ⟨t.val, point_lt t⟩ r l) := by
  refine congrArg (V m c main_v13) (funext fun a => Fin.ext ?_)
  match a with
  | ⟨0, _⟩ => show win0_1.index t 0 * 1 + 1 * 0 = t.val; rw [index1]; show t.val * 1 + 1 * 0 = _; omega
  | ⟨1, _⟩ => show win0_1.index t 1 * 2048 + 1 * r.val = r.val; rw [index1]; show 0 * 2048 + 1 * r.val = _; omega
  | ⟨2, _⟩ => show win0_1.index t 2 * 512 + 1 * l.val = l.val; rw [index1]; show 0 * 512 + 1 * l.val = _; omega

theorem block2 (r : Fin 2048) (l : Fin 256) : iblk m c 2 t (ix3 0 r l) = V m c main_v15 (ix3 ⟨t.val, point_lt t⟩ r l) := by
  refine congrArg (V m c main_v15) (funext fun a => Fin.ext ?_)
  match a with
  | ⟨0, _⟩ => show win0_2.index t 0 * 1 + 1 * 0 = t.val; rw [index2]; show t.val * 1 + 1 * 0 = _; omega
  | ⟨1, _⟩ => show win0_2.index t 1 * 2048 + 1 * r.val = r.val; rw [index2]; show 0 * 2048 + 1 * r.val = _; omega
  | ⟨2, _⟩ => show win0_2.index t 2 * 256 + 1 * l.val = l.val; rw [index2]; show 0 * 256 + 1 * l.val = _; omega

theorem block3 (n : Fin 16) (d : Fin 128) (r : Fin 128) : iblk m c 3 t (ix4 0 n d r) = V m c main_v16 (ix4 ⟨t.val, point_lt t⟩ n d r) := by
  refine congrArg (V m c main_v16) (funext fun a => Fin.ext ?_)
  match a with
  | ⟨0, _⟩ => show win0_3.index t 0 * 1 + 1 * 0 = t.val; rw [index3]; show t.val * 1 + 1 * 0 = _; omega
  | ⟨1, _⟩ => show win0_3.index t 1 * 16 + 1 * n.val = n.val; rw [index3]; show 0 * 16 + 1 * n.val = _; omega
  | ⟨2, _⟩ => show win0_3.index t 2 * 128 + 1 * d.val = d.val; rw [index3]; show 0 * 128 + 1 * d.val = _; omega
  | ⟨3, _⟩ => show win0_3.index t 3 * 128 + 1 * r.val = r.val; rw [index3]; show 0 * 128 + 1 * r.val = _; omega

theorem block4 (r : Fin 2048) (l : Fin 512) : iblk m c 4 t (ix3 0 r l) = V m c main_v17 (ix3 ⟨t.val, point_lt t⟩ r l) := by
  refine congrArg (V m c main_v17) (funext fun a => Fin.ext ?_)
  match a with
  | ⟨0, _⟩ => show win0_4.index t 0 * 1 + 1 * 0 = t.val; rw [index4]; show t.val * 1 + 1 * 0 = _; omega
  | ⟨1, _⟩ => show win0_4.index t 1 * 2048 + 1 * r.val = r.val; rw [index4]; show 0 * 2048 + 1 * r.val = _; omega
  | ⟨2, _⟩ => show win0_4.index t 2 * 512 + 1 * l.val = l.val; rw [index4]; show 0 * 512 + 1 * l.val = _; omega

theorem block5 (n : Fin 16) (r : Fin 128) : iblk m c 5 t (ix4 0 n 0 r) = V m c main_v18 (ix4 ⟨t.val, point_lt t⟩ n 0 r) := by
  refine congrArg (V m c main_v18) (funext fun a => Fin.ext ?_)
  match a with
  | ⟨0, _⟩ => show win0_5.index t 0 * 1 + 1 * 0 = t.val; rw [index5]; show t.val * 1 + 1 * 0 = _; omega
  | ⟨1, _⟩ => show win0_5.index t 1 * 16 + 1 * n.val = n.val; rw [index5]; show 0 * 16 + 1 * n.val = _; omega
  | ⟨2, _⟩ => show win0_5.index t 2 * 1 + 1 * 0 = 0; rw [index5]; show 0 * 1 + 1 * 0 = _; omega
  | ⟨3, _⟩ => show win0_5.index t 3 * 128 + 1 * r.val = r.val; rw [index5]; show 0 * 128 + 1 * r.val = _; omega

theorem block6 (r : Fin 2048) (l : Fin 512) : iblk m c 6 t (ix3 0 r l) = V m c main_v19 (ix3 ⟨t.val, point_lt t⟩ r l) := by
  refine congrArg (V m c main_v19) (funext fun a => Fin.ext ?_)
  match a with
  | ⟨0, _⟩ => show win0_6.index t 0 * 1 + 1 * 0 = t.val; rw [index6]; show t.val * 1 + 1 * 0 = _; omega
  | ⟨1, _⟩ => show win0_6.index t 1 * 2048 + 1 * r.val = r.val; rw [index6]; show 0 * 2048 + 1 * r.val = _; omega
  | ⟨2, _⟩ => show win0_6.index t 2 * 512 + 1 * l.val = l.val; rw [index6]; show 0 * 512 + 1 * l.val = _; omega

theorem block7 (r : Fin 2048) (l : Fin 1024) : iblk m c 7 t (ix3 0 r l) = V m c main_arg7 (ix3 ⟨t.val, point_lt t⟩ r l) := by
  refine congrArg (V m c main_arg7) (funext fun a => Fin.ext ?_)
  match a with
  | ⟨0, _⟩ => show win0_7.index t 0 * 1 + 1 * 0 = t.val; rw [index7]; show t.val * 1 + 1 * 0 = _; omega
  | ⟨1, _⟩ => show win0_7.index t 1 * 2048 + 1 * r.val = r.val; rw [index7]; show 0 * 2048 + 1 * r.val = _; omega
  | ⟨2, _⟩ => show win0_7.index t 2 * 1024 + 1 * l.val = l.val; rw [index7]; show 0 * 1024 + 1 * l.val = _; omega

theorem block8 (r : Fin 3) (l : Fin 1024) : iblk m c 8 t (ix3 0 r l) = V m c main_v20 (ix3 ⟨t.val, point_lt t⟩ r l) := by
  refine congrArg (V m c main_v20) (funext fun a => Fin.ext ?_)
  match a with
  | ⟨0, _⟩ => show win0_8.index t 0 * 1 + 1 * 0 = t.val; rw [index8]; show t.val * 1 + 1 * 0 = _; omega
  | ⟨1, _⟩ => show win0_8.index t 1 * 3 + 1 * r.val = r.val; rw [index8]; show 0 * 3 + 1 * r.val = _; omega
  | ⟨2, _⟩ => show win0_8.index t 2 * 1024 + 1 * l.val = l.val; rw [index8]; show 0 * 1024 + 1 * l.val = _; omega

theorem block9 (d : Fin 512) (l : Fin 1024) : iblk m c 9 t (ix2 d l) = V m c main_v21 (ix2 d l) := by
  refine congrArg (V m c main_v21) (funext fun a => Fin.ext ?_)
  match a with
  | ⟨0, _⟩ => show win0_9.index t 0 * 512 + 1 * d.val = d.val; rw [index9]; show 0 * 512 + 1 * d.val = _; omega
  | ⟨1, _⟩ => show win0_9.index t 1 * 1024 + 1 * l.val = l.val; rw [index9]; show 0 * 1024 + 1 * l.val = _; omega

theorem block10 (d : Fin 512) (l : Fin 1024) : iblk m c 10 t (ix2 d l) = V m c main_v22 (ix2 d l) := by
  refine congrArg (V m c main_v22) (funext fun a => Fin.ext ?_)
  match a with
  | ⟨0, _⟩ => show win0_10.index t 0 * 512 + 1 * d.val = d.val; rw [index10]; show 0 * 512 + 1 * d.val = _; omega
  | ⟨1, _⟩ => show win0_10.index t 1 * 1024 + 1 * l.val = l.val; rw [index10]; show 0 * 1024 + 1 * l.val = _; omega

theorem block11 (l : Fin 1024) : iblk m c 11 t (ix2 0 l) = V m c main_v23 (ix2 0 l) := by
  refine congrArg (V m c main_v23) (funext fun a => Fin.ext ?_)
  match a with
  | ⟨0, _⟩ => show win0_11.index t 0 * 1 + 1 * 0 = 0; rw [index11]; show 0 * 1 + 1 * 0 = _; omega
  | ⟨1, _⟩ => show win0_11.index t 1 * 1024 + 1 * l.val = l.val; rw [index11]; show 0 * 1024 + 1 * l.val = _; omega

end

/-- The array the layer's last call leaves, from what it is given. -/
def result (s : Fin 8 → ℝ) (qr : Fin 32 → Fin 2048 → Fin 512 → ℝ) (kr : Fin 32 → Fin 2048 → Fin 128 → ℝ)
    (x3 : S32x2048x128.Idx → EReal) (x4 : S32x2048x512.Idx → EReal) (x5 : S32x2048.Idx → BitVec 32) (x6 : S32x2048x512.Idx → EReal)
    (x7 : S32x2048x1024.Idx → EReal) (x8 : S32x3072.Idx → EReal) (x9 : S1x1024x1024.Idx → EReal) (x10 : S1024.Idx → EReal)
    (b : Fin 32) (t : Fin 2048) (l : Fin 1024) : EReal :=
  normed (summed (fun l => x7 (ix3 b t l)) (fun l => x8 (ix2 b ⟨2048 + l.val, by omega⟩)) (fun d => x6 (ix3 b t d))
    (gated (score s (qr b) (kr b) (place x5 b)) (fun r d => x3 (ix3 b r d)) (fun r d => x4 (ix3 b r d)) t)
    (fun d l => x9 (ix3 0 ⟨d.val, by omega⟩ l)) (fun d l => x9 (ix3 0 ⟨512 + d.val, by omega⟩ l))) (fun l => x10 (ix1 l)) l

section
variable (m : (ℓ : Loc nD τ sig) → Buf (Elt Ideal) ℓ) (c : Dev nD)
variable (s : Fin 8 → ℝ) (qr : Fin 32 → Fin 2048 → Fin 512 → ℝ) (kr : Fin 32 → Fin 2048 → Fin 128 → ℝ)
  (hs : ∀ h, m ((c : Thread nD τ).loc main_arg0) (ix2 0 h) = (s h : EReal))
  (hq : ∀ b t l, m ((c : Thread nD τ).loc main_arg1) (ix3 b t l) = (qr b t l : EReal))
  (hk : ∀ b t l, m ((c : Thread nD τ).loc main_arg2) (ix3 b t l) = (kr b t l : EReal))

include hs hq hk

/-- What a grid point writes, at an index. -/
theorem flushed_apply (t : Fin cfg0.N) (r : Fin 2048) (l : Fin 1024) :
    (dats m 0 c).flushed 12 t (ix3 0 r l)
      = result s qr kr (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) ⟨t.val, point_lt t⟩ r l := by
  rw [Cert.Kernel3Ideal.Value.flushed12_A]
  have hb := out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    s (qr ⟨t.val, point_lt t⟩) (kr ⟨t.val, point_lt t⟩) (place (m ((c : Thread nD τ).loc main_arg5)) ⟨t.val, point_lt t⟩)
    (fun r d => m ((c : Thread nD τ).loc main_arg3) (ix3 ⟨t.val, point_lt t⟩ r d))
    (fun r d => m ((c : Thread nD τ).loc main_arg4) (ix3 ⟨t.val, point_lt t⟩ r d))
    (fun h => by rw [block0, sinks_read, hs])
    (fun r l => by
      rw [block1, queries_read, scale_real, Ideal.div_coe scale_pos.ne', hq, ← EReal.coe_mul, mul_one_div])
    (fun r l => by rw [block2, keys_read, hk]; rfl)
    (fun n d r => by rw [block3, values_read])
    (fun r l => by rw [block4, gates_read])
    (fun n r => by rw [block5, positions_read]; rfl)
    r l
  refine Eq.trans ?_ (hb.trans ?_)
  · rfl
  · unfold result
    have e6 : (fun j : Fin 512 => iblk m c 6 t (ix3 0 r j)) = fun j => m ((c : Thread nD τ).loc main_arg6) (ix3 ⟨t.val, point_lt t⟩ r j) :=
      funext fun j => by rw [block6, attention_read]
    have e7 : (fun j : Fin 1024 => iblk m c 7 t (ix3 0 r j)) = fun j => m ((c : Thread nD τ).loc main_arg7) (ix3 ⟨t.val, point_lt t⟩ r j) :=
      funext fun j => by rw [block7, input_read]
    have e8 : (fun j : Fin 1024 => iblk m c 8 t (ix3 0 2 j))
        = fun j => m ((c : Thread nD τ).loc main_arg8) (ix2 ⟨t.val, point_lt t⟩ ⟨2048 + j.val, by omega⟩) :=
      funext fun j => by
        rw [block8, modulation_read]
        exact congrArg (fun k => m ((c : Thread nD τ).loc main_arg8) (ix2 ⟨t.val, point_lt t⟩ k))
          (Fin.ext (by show 1024 * 2 + j.val = 2048 + j.val; omega))
    have e9 : (fun (d : Fin 512) (j : Fin 1024) => iblk m c 9 t (ix2 d j))
        = fun d j => m ((c : Thread nD τ).loc main_arg9) (ix3 0 ⟨d.val, by omega⟩ j) :=
      funext fun d => funext fun j => by rw [block9, upper_read]
    have e10 : (fun (d : Fin 512) (j : Fin 1024) => iblk m c 10 t (ix2 d j))
        = fun d j => m ((c : Thread nD τ).loc main_arg9) (ix3 0 ⟨512 + d.val, by omega⟩ j) :=
      funext fun d => funext fun j => by rw [block10, lower_read]
    have e11 : (fun j : Fin 1024 => iblk m c 11 t (ix2 0 j)) = fun j => m ((c : Thread nD τ).loc main_arg10) (ix1 j) :=
      funext fun j => by rw [block11, gain_read]
    rw [e6, e7, e8, e9, e10, e11]

omit hs hq hk in
theorem mem_block (t : Fin cfg0.N) (i : S32x2048x1024.Idx) (e0 : (i 0).val = t.val) :
    i ∈ ((cfg0.win 12).blk t).view.set := by
  have l1 : (i 1).val < 2048 := (i 1).isLt
  have l2 : (i 2).val < 1024 := (i 2).isLt
  show i ∈ ((View.whole main_v24).slice (win0_12.rect t)).set
  rw [View.set_slice_whole, Rect.mem_set_unit]
  intro a
  match a with
  | ⟨0, _⟩ =>
    show win0_12.index t 0 * 1 ≤ (i 0).val ∧ (i 0).val < win0_12.index t 0 * 1 + 1
    rw [index12]; show t.val * 1 ≤ (i 0).val ∧ (i 0).val < t.val * 1 + 1; omega
  | ⟨1, _⟩ =>
    show win0_12.index t 1 * 2048 ≤ (i 1).val ∧ (i 1).val < win0_12.index t 1 * 2048 + 2048
    rw [index12]; show 0 * 2048 ≤ (i 1).val ∧ (i 1).val < 0 * 2048 + 2048; omega
  | ⟨2, _⟩ =>
    show win0_12.index t 2 * 1024 ≤ (i 2).val ∧ (i 2).val < win0_12.index t 2 * 1024 + 1024
    rw [index12]; show 0 * 1024 ≤ (i 2).val ∧ (i 2).val < 0 * 1024 + 1024; omega

omit hs hq hk in
theorem covered (i : S32x2048x1024.Idx) : ∃ t : Fin cfg0.N, (cfg0.win 12).flush t = true ∧ i ∈ ((cfg0.win 12).blk t).view.set := by
  have l0 : (i 0).val < 32 := (i 0).isLt
  have hN : cfg0.N = 32 := N_0
  exact ⟨⟨(i 0).val, by omega⟩, flush0_12 _, mem_block _ i rfl⟩

theorem kernel_array : (dats m 0 c).arrAt 12 cfg0.N
    = fun i : S32x2048x1024.Idx => result s qr kr (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (i 0) (i 1) (i 2) := by
  refine (dats m 0 c).arrAt_eq_of_cover 12 _ (fun t _ => funext fun y => ?_) covered
  obtain ⟨r, l, rfl⟩ : ∃ (r : Fin 2048) (l : Fin 1024), y = ix3 (n0 := 1) (n1 := 2048) (n2 := 1024) 0 r l :=
    ⟨y 1, y 2, (eq_ix3 (n0 := 1) (n1 := 2048) (n2 := 1024) y).trans (congrArg (fun u => ix3 (n0 := 1) (n1 := 2048) (n2 := 1024) u (y 1) (y 2))
      (Fin.ext (by have := (y 0).isLt; change (y 0).val < 1 at this; show (y 0).val = 0; omega)))⟩
  refine (flushed_apply m c s qr kr hs hq hk t r l).trans ?_
  show _ = result s qr kr _ _ _ _ _ _ _ _ _ _ _
  congr 1
  · exact Fin.ext (by show t.val = win0_12.index t 0 * 1 + 1 * 0; rw [index12]; show _ = t.val * 1 + 1 * 0; omega)
  · exact Fin.ext (by show r.val = win0_12.index t 1 * 2048 + 1 * r.val; rw [index12]; show _ = 0 * 2048 + 1 * r.val; omega)
  · exact Fin.ext (by show l.val = win0_12.index t 2 * 1024 + 1 * l.val; rw [index12]; show _ = 0 * 1024 + 1 * l.val; omega)

end

end Cert.Window

end
-- ==== Proof.lean ====
/- The certificate, for three calls of the layer: each kernel and each reference runs and leaves its arguments as they were; each
   idealized kernel is the kernel with its constants named; the queries and keys being finite, the first kernel and its reference
   leave the same array, the causal attention of every head, gated (Proof/Attention/); the second kernel and its reference leave
   the same eight arrays, the queries, keys, values and gates of both attentions (Proof/Projection/); and, its queries, keys and sinks
   being finite and its positions in their range, the third kernel and its reference leave the same array, the layer's result
   (Proof/Window/). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Attention.Finite
public import proofs.«01_k».proof.Proof.Attention.Result
public import proofs.«01_k».proof.Proof.Projection.Array
public import proofs.«01_k».proof.Proof.Projection.Results
public import proofs.«01_k».proof.Proof.Window.Finite
public import proofs.«01_k».proof.Proof.Window.Reference
public import proofs.«01_k».proof.Proof.Window.Result
public import Idealize.ShloMosaic.Adequacy
public import Idealize.ShloMosaic.Init

@[expose] public section

noncomputable section

namespace Cert.Proof

open Idealize.ShloMosaic Idealize.SL.Sem Cert.Attention

theorem frame_r : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_finite_heads := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3⟩ := finite_of_pre _ _ _ _ _ _ (hpre c)
  choose a0 h0 using f0
  choose a1 h1 using f1
  choose a2 h2 using f2
  choose a3 h3 using f3
  obtain ⟨e0, e1, e2, e3, e4, e5⟩ := hagree c
  rw [Cert.ReferenceIdeal.Read.val_main_v29_eq, e0, e1, e2, e3, e4, e5]
  refine Eq.trans ?_ (kernel_array m c a0 a1 a2 a3 h0 h1 h2 h3).symm
  funext i
  rw [eq_ix3 (n0 := 32) (n1 := 2048) (n2 := 512) i]
  exact reference_apply _ _ _ _ _ _ a0 a1 a2 a3 h0 h1 h2 h3 (i 0) (i 1) (i 2)

theorem frame_r2 : Cert.quiescent_Reference2Ideal := fun m ρ _ =>
  (θ_run Cert.Reference2Ideal.defs _ _).mono
    (fun r h => ⟨fun c => (h c).2.2.2.2.2.2.2.2, Idealize.ShloMosaic.sem_eq_zero_of_no_sems (by decide) r.2⟩)
    (Cert.Reference2Ideal.Value.run (F := Ideal) m ρ)

set_option maxHeartbeats 2000000 in
theorem algebraic2 : Cert.algebraic_Kernel2Ideal_Reference2Ideal := by
  intro m ρ m' ρ' _ hagree
  refine ⟨_, _, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨h0, h1, h2, h3, h4, h5, h6, h7, hargs⟩ := h c
  obtain ⟨e0, e1, e2, e3, e4, e5, e6, e7, e8⟩ := hagree c
  refine ⟨h0.trans ?_, h1.trans ?_, h2.trans ?_, h3.trans ?_, h4.trans ?_, h5.trans ?_, h6.trans ?_, h7.trans ?_, hargs⟩
  · refine (Cert.Reference2Ideal.Read.val_main_v130_eq (F := Ideal) _).trans ?_
    refine Eq.trans (?_ : _ = Cert.Reference2Ideal.Read.val_main_v130 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5))
        (m ((c.tc : Thread Cert.Kernel2Ideal.nD Cert.Kernel2Ideal.τ).loc Cert.Kernel2Ideal.main_arg7))) ?_
    · rw [← e0, ← e1, ← e2, ← e3, ← e4, ← e5, ← e7]
    · funext i
      rw [eq_ix3 (n0 := 32) (n1 := 2048) (n2 := 1024) i]
      exact (Cert.Projection.result0 _ _ _ _ _ _ _ _ _ (i 0) (i 1) (i 2)).trans (Cert.Projection.array9 m c (i 0) (i 1) (i 2)).symm
  · refine (Cert.Reference2Ideal.Read.val_main_v132_eq (F := Ideal) _).trans ?_
    refine Eq.trans (?_ : _ = Cert.Reference2Ideal.Read.val_main_v132 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg6))
        (m ((c.tc : Thread Cert.Kernel2Ideal.nD Cert.Kernel2Ideal.τ).loc Cert.Kernel2Ideal.main_arg8))) ?_
    · rw [← e0, ← e1, ← e2, ← e3, ← e4, ← e6, ← e8]
    · funext i
      rw [eq_ix3 (n0 := 32) (n1 := 2048) (n2 := 1024) i]
      exact (Cert.Projection.result1 _ _ _ _ _ _ _ _ _ (i 0) (i 1) (i 2)).trans (Cert.Projection.array10 m c (i 0) (i 1) (i 2)).symm
  · refine (Cert.Reference2Ideal.Read.val_main_v134_eq (F := Ideal) _).trans ?_
    refine Eq.trans (?_ : _ = Cert.Reference2Ideal.Read.val_main_v134 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg6))
        (m ((c.tc : Thread Cert.Kernel2Ideal.nD Cert.Kernel2Ideal.τ).loc Cert.Kernel2Ideal.main_arg8))) ?_
    · rw [← e0, ← e1, ← e3, ← e4, ← e6, ← e8]
    · funext i
      rw [eq_ix3 (n0 := 32) (n1 := 2048) (n2 := 512) i]
      exact (Cert.Projection.result2 _ _ _ _ _ _ _ _ _ (i 0) (i 1) (i 2)).trans (Cert.Projection.array11 m c (i 0) (i 1) (i 2)).symm
  · refine (Cert.Reference2Ideal.Read.val_main_v136_eq (F := Ideal) _).trans ?_
    refine Eq.trans (?_ : _ = Cert.Reference2Ideal.Read.val_main_v136 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) ?_
    · rw [← e0, ← e1, ← e3, ← e4]
    · funext i
      rw [eq_ix3 (n0 := 32) (n1 := 2048) (n2 := 512) i]
      exact (Cert.Projection.result3 _ _ _ _ _ _ _ _ _ (i 0) (i 1) (i 2)).trans (Cert.Projection.array12 m c (i 0) (i 1) (i 2)).symm
  · refine (Cert.Reference2Ideal.Read.val_main_v141_eq (F := Ideal) _).trans ?_
    refine Eq.trans (?_ : _ = Cert.Reference2Ideal.Read.val_main_v141 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) ?_
    · rw [← e0, ← e1, ← e3, ← e4]
    · funext i
      rw [eq_ix3 (n0 := 32) (n1 := 2048) (n2 := 512) i]
      exact (Cert.Projection.result4 _ _ _ _ _ _ _ _ _ (i 0) (i 1) (i 2)).trans (Cert.Projection.array13 m c (i 0) (i 1) (i 2)).symm
  · refine (Cert.Reference2Ideal.Read.val_main_v143_eq (F := Ideal) _).trans ?_
    refine Eq.trans (?_ : _ = Cert.Reference2Ideal.Read.val_main_v143 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) ?_
    · rw [← e0, ← e1, ← e3, ← e4]
    · funext i
      rw [eq_ix3 (n0 := 32) (n1 := 2048) (n2 := 256) i]
      exact (Cert.Projection.result5 _ _ _ _ _ _ _ _ _ (i 0) (i 1) (i 2)).trans (Cert.Projection.array14 m c (i 0) (i 1) (i 2)).symm
  · refine (Cert.Reference2Ideal.Read.val_main_v144_eq (F := Ideal) _).trans ?_
    refine Eq.trans (?_ : _ = Cert.Reference2Ideal.Read.val_main_v144 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) ?_
    · rw [← e0, ← e1, ← e3, ← e4]
    · funext i
      rw [eq_ix4 (n0 := 32) (n1 := 16) (n2 := 128) (n3 := 128) i]
      exact (Cert.Projection.result6 _ _ _ _ _ _ _ _ _ (i 0) (i 1) (i 2) (i 3)).trans (Cert.Projection.array15 m c (i 0) (i 1) (i 2) (i 3)).symm
  · refine (Cert.Reference2Ideal.Read.val_main_v146_eq (F := Ideal) _).trans ?_
    refine Eq.trans (?_ : _ = Cert.Reference2Ideal.Read.val_main_v146 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))) ?_
    · rw [← e0, ← e1, ← e3, ← e4]
    · funext i
      rw [eq_ix3 (n0 := 32) (n1 := 2048) (n2 := 512) i]
      exact (Cert.Projection.result7 _ _ _ _ _ _ _ _ _ (i 0) (i 1) (i 2)).trans (Cert.Projection.array16 m c (i 0) (i 1) (i 2)).symm

theorem frame_r3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

set_option maxHeartbeats 2000000 in
theorem algebraic3 : Cert.algebraic_Kernel3Ideal_Reference3Ideal_pre_finite_window := by
  intro m ρ m' ρ' hpre hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨f0, f1, f2, hp⟩ := Cert.Window.window_of_pre _ _ _ _ _ _ _ _ _ _ _ (hpre c)
  choose a0 h0 using f0
  choose a1 h1 using f1
  choose a2 h2 using f2
  obtain ⟨e0, e1, e2, e3, e4, e5, e6, e7, e8, e9, e10⟩ := hagree c
  refine (Cert.Reference3Ideal.Read.val_main_v118_eq (F := Ideal) _ _).trans ?_
  refine Eq.trans (?_ : _ = Cert.Reference3Ideal.Read.val_main_v118 (F := Ideal)
        (m ((c.tc : Thread Cert.Kernel3Ideal.nD Cert.Kernel3Ideal.τ).loc Cert.Kernel3Ideal.main_arg0))
        (m ((c.tc : Thread Cert.Kernel3Ideal.nD Cert.Kernel3Ideal.τ).loc Cert.Kernel3Ideal.main_arg1))
        (m ((c.tc : Thread Cert.Kernel3Ideal.nD Cert.Kernel3Ideal.τ).loc Cert.Kernel3Ideal.main_arg2))
        (m ((c.tc : Thread Cert.Kernel3Ideal.nD Cert.Kernel3Ideal.τ).loc Cert.Kernel3Ideal.main_arg3))
        (m ((c.tc : Thread Cert.Kernel3Ideal.nD Cert.Kernel3Ideal.τ).loc Cert.Kernel3Ideal.main_arg4))
        (m ((c.tc : Thread Cert.Kernel3Ideal.nD Cert.Kernel3Ideal.τ).loc Cert.Kernel3Ideal.main_arg5))
        (m ((c.tc : Thread Cert.Kernel3Ideal.nD Cert.Kernel3Ideal.τ).loc Cert.Kernel3Ideal.main_arg6))
        (m ((c.tc : Thread Cert.Kernel3Ideal.nD Cert.Kernel3Ideal.τ).loc Cert.Kernel3Ideal.main_arg7))
        (m ((c.tc : Thread Cert.Kernel3Ideal.nD Cert.Kernel3Ideal.τ).loc Cert.Kernel3Ideal.main_arg8))
        (m ((c.tc : Thread Cert.Kernel3Ideal.nD Cert.Kernel3Ideal.τ).loc Cert.Kernel3Ideal.main_arg9))
        (m ((c.tc : Thread Cert.Kernel3Ideal.nD Cert.Kernel3Ideal.τ).loc Cert.Kernel3Ideal.main_arg10))) ?_
  · rw [← e0, ← e1, ← e2, ← e3, ← e4, ← e5, ← e6, ← e7, ← e8, ← e9, ← e10]
  · refine Eq.trans ?_ (Cert.Window.kernel_array m c (fun h => a0 (ix2 0 h)) (fun b t l => a1 (ix3 b t l)) (fun b t l => a2 (ix3 b t l))
      (fun h => h0 _) (fun b t l => h1 _) (fun b t l => h2 _)).symm
    funext i
    rw [eq_ix3 (n0 := 32) (n1 := 2048) (n2 := 1024) i]
    exact Cert.Window.reference_apply _ _ _ _ _ _ _ _ _ _ _ (fun h => a0 (ix2 0 h)) (fun b t l => a1 (ix3 b t l))
      (fun b t l => a2 (ix3 b t l)) (fun h => h0 _) (fun b t l => h1 _) (fun b t l => h2 _) (fun b t => hp _) (i 0) (i 1) (i 2)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, finiteFacts,
    Cert.Window.windowFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, fun m ρ _ => Cert.Kernel3Ideal.Gen.frame m ρ,
    frame_r3, fun m ρ _ => frame_r3 m ρ trivial,
    IdealRules.named_const.statement Cert.KernelIdeal.κ "mask" .f32 0xF149F2CA#32 ⊥ rfl, algebraic,
    ⟨IdealRules.named_const.statement Cert.Kernel2Ideal.κ "rope_step" .f32 0xBF135D8E#32 ((-((Real.log 10000) * 16⁻¹) : ℝ) : EReal) rfl,
      IdealRules.named_const.statement Cert.Kernel2Ideal.κ "q_scale" .f32 0x3E16C740#32 ((((Real.sqrt 96) * (Real.log 2))⁻¹ : ℝ) : EReal) rfl,
      IdealRules.named_const.statement Cert.Kernel2Ideal.κ "swa_scale" .f32 0x3E38AA3B#32 (((8 * (Real.log 2))⁻¹ : ℝ) : EReal) rfl⟩,
    algebraic2,
    ⟨IdealRules.named_const.statement Cert.Kernel3Ideal.κ "slope1" .f32 0x3F38AA3B#32 (((2 * (Real.log 2))⁻¹ : ℝ) : EReal) rfl,
      IdealRules.named_const.statement Cert.Kernel3Ideal.κ "slope2" .f32 0x3EB8AA3B#32 (((4 * (Real.log 2))⁻¹ : ℝ) : EReal) rfl,
      IdealRules.named_const.statement Cert.Kernel3Ideal.κ "slope3" .f32 0x3E38AA3B#32 (((8 * (Real.log 2))⁻¹ : ℝ) : EReal) rfl,
      IdealRules.named_const.statement Cert.Kernel3Ideal.κ "slope4" .f32 0x3DB8AA3B#32 (((16 * (Real.log 2))⁻¹ : ℝ) : EReal) rfl,
      IdealRules.named_const.statement Cert.Kernel3Ideal.κ "log2e" .f32 0x3FB8AA3B#32 (((Real.log 2)⁻¹ : ℝ) : EReal) rfl,
      IdealRules.named_const.statement Cert.Kernel3Ideal.κ "slope5" .f32 0x3D38AA3B#32 (((32 * (Real.log 2))⁻¹ : ℝ) : EReal) rfl,
      IdealRules.named_const.statement Cert.Kernel3Ideal.κ "slope6" .f32 0x3CB8AA3B#32 (((64 * (Real.log 2))⁻¹ : ℝ) : EReal) rfl,
      IdealRules.named_const.statement Cert.Kernel3Ideal.κ "slope7" .f32 0x3C38AA3B#32 (((128 * (Real.log 2))⁻¹ : ℝ) : EReal) rfl,
      IdealRules.named_const.statement Cert.Kernel3Ideal.κ "slope8" .f32 0x3BB8AA3B#32 (((256 * (Real.log 2))⁻¹ : ℝ) : EReal) rfl,
      IdealRules.named_const.statement Cert.Kernel3Ideal.κ "mask3" .f32 0xF149F2CA#32 ⊥ rfl⟩,
    algebraic3⟩

end Cert.Proof

end
